-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Prompt (m : (ℓ : Loc Cert.Prompt.nD Cert.Prompt.τ Cert.Prompt.sig) → Buf (Elt Bits) ℓ) : Prop :=
  True

def Pre_PromptIdeal (m : (ℓ : Loc Cert.PromptIdeal.nD Cert.PromptIdeal.τ Cert.PromptIdeal.sig) → Buf (Elt Ideal) ℓ) : Prop :=
  True

def Pre_PromptReferenceIdeal (m : (ℓ : Loc Cert.PromptReferenceIdeal.nD Cert.PromptReferenceIdeal.τ Cert.PromptReferenceIdeal.sig) → Buf (Elt Ideal) ℓ) : Prop :=
  True

def Pre_Sample (m : (ℓ : Loc Cert.Sample.nD Cert.Sample.τ Cert.Sample.sig) → Buf (Elt Bits) ℓ) : Prop :=
  True

def Pre_SampleIdeal (m : (ℓ : Loc Cert.SampleIdeal.nD Cert.SampleIdeal.τ Cert.SampleIdeal.sig) → Buf (Elt Ideal) ℓ) : Prop :=
  True

def Pre_SampleReferenceIdeal (m : (ℓ : Loc Cert.SampleReferenceIdeal.nD Cert.SampleReferenceIdeal.τ Cert.SampleReferenceIdeal.sig) → Buf (Elt Ideal) ℓ) : Prop :=
  True

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvIdeal_finite [hPre_finite : Cert.Pre_finite.Facts] (m : (ℓ : Loc Cert.ConvIdeal.nD Cert.ConvIdeal.τ Cert.ConvIdeal.sig) → Buf (Elt Ideal) ℓ) : Prop :=
  ∀ c : Dev Cert.ConvIdeal.nD,
    (Cert.Pre_finite.fn (F := Ideal) (m ((c.tc : Thread Cert.ConvIdeal.nD Cert.ConvIdeal.τ).loc Cert.ConvIdeal.main_arg0)) (m ((c.tc : Thread Cert.ConvIdeal.nD Cert.ConvIdeal.τ).loc Cert.ConvIdeal.main_arg1)) (m ((c.tc : Thread Cert.ConvIdeal.nD Cert.ConvIdeal.τ).loc Cert.ConvIdeal.main_arg2)) (m ((c.tc : Thread Cert.ConvIdeal.nD Cert.ConvIdeal.τ).loc Cert.ConvIdeal.main_arg3)) (m ((c.tc : Thread Cert.ConvIdeal.nD Cert.ConvIdeal.τ).loc Cert.ConvIdeal.main_arg4)) (m ((c.tc : Thread Cert.ConvIdeal.nD Cert.ConvIdeal.τ).loc Cert.ConvIdeal.main_arg5))) = (fun _ => 1#1)

def Pre_ConvReferenceIdeal (m : (ℓ : Loc Cert.ConvReferenceIdeal.nD Cert.ConvReferenceIdeal.τ Cert.ConvReferenceIdeal.sig) → Buf (Elt Ideal) ℓ) : Prop :=
  True

def Pre_ConvReferenceIdeal_finite [hPre_finite : Cert.Pre_finite.Facts] (m : (ℓ : Loc Cert.ConvReferenceIdeal.nD Cert.ConvReferenceIdeal.τ Cert.ConvReferenceIdeal.sig) → Buf (Elt Ideal) ℓ) : Prop :=
  ∀ c : Dev Cert.ConvReferenceIdeal.nD,
    (Cert.Pre_finite.fn (F := Ideal) (m ((c.tc : Thread Cert.ConvReferenceIdeal.nD Cert.ConvReferenceIdeal.τ).loc Cert.ConvReferenceIdeal.main_arg0)) (m ((c.tc : Thread Cert.ConvReferenceIdeal.nD Cert.ConvReferenceIdeal.τ).loc Cert.ConvReferenceIdeal.main_arg1)) (m ((c.tc : Thread Cert.ConvReferenceIdeal.nD Cert.ConvReferenceIdeal.τ).loc Cert.ConvReferenceIdeal.main_arg2)) (m ((c.tc : Thread Cert.ConvReferenceIdeal.nD Cert.ConvReferenceIdeal.τ).loc Cert.ConvReferenceIdeal.main_arg3)) (m ((c.tc : Thread Cert.ConvReferenceIdeal.nD Cert.ConvReferenceIdeal.τ).loc Cert.ConvReferenceIdeal.main_arg4)) (m ((c.tc : Thread Cert.ConvReferenceIdeal.nD Cert.ConvReferenceIdeal.τ).loc Cert.ConvReferenceIdeal.main_arg5))) = (fun _ => 1#1)

def Pre_Shift (m : (ℓ : Loc Cert.Shift.nD Cert.Shift.τ Cert.Shift.sig) → Buf (Elt Bits) ℓ) : Prop :=
  True

def Pre_ShiftIdeal (m : (ℓ : Loc Cert.ShiftIdeal.nD Cert.ShiftIdeal.τ Cert.ShiftIdeal.sig) → Buf (Elt Ideal) ℓ) : Prop :=
  True

def Pre_ShiftIdeal_finite_rows [hPre_finite_rows : Cert.Pre_finite_rows.Facts] (m : (ℓ : Loc Cert.ShiftIdeal.nD Cert.ShiftIdeal.τ Cert.ShiftIdeal.sig) → Buf (Elt Ideal) ℓ) : Prop :=
  ∀ c : Dev Cert.ShiftIdeal.nD,
    (Cert.Pre_finite_rows.fn (F := Ideal) (m ((c.tc : Thread Cert.ShiftIdeal.nD Cert.ShiftIdeal.τ).loc Cert.ShiftIdeal.main_arg0)) (m ((c.tc : Thread Cert.ShiftIdeal.nD Cert.ShiftIdeal.τ).loc Cert.ShiftIdeal.main_arg1)) (m ((c.tc : Thread Cert.ShiftIdeal.nD Cert.ShiftIdeal.τ).loc Cert.ShiftIdeal.main_arg2)) (m ((c.tc : Thread Cert.ShiftIdeal.nD Cert.ShiftIdeal.τ).loc Cert.ShiftIdeal.main_arg3)) (m ((c.tc : Thread Cert.ShiftIdeal.nD Cert.ShiftIdeal.τ).loc Cert.ShiftIdeal.main_arg4)) (m ((c.tc : Thread Cert.ShiftIdeal.nD Cert.ShiftIdeal.τ).loc Cert.ShiftIdeal.main_arg5)) (m ((c.tc : Thread Cert.ShiftIdeal.nD Cert.ShiftIdeal.τ).loc Cert.ShiftIdeal.main_arg6)) (m ((c.tc : Thread Cert.ShiftIdeal.nD Cert.ShiftIdeal.τ).loc Cert.ShiftIdeal.main_arg7)) (m ((c.tc : Thread Cert.ShiftIdeal.nD Cert.ShiftIdeal.τ).loc Cert.ShiftIdeal.main_arg8)) (m ((c.tc : Thread Cert.ShiftIdeal.nD Cert.ShiftIdeal.τ).loc Cert.ShiftIdeal.main_arg9))) = (fun _ => 1#1)

def Pre_ShiftReferenceIdeal (m : (ℓ : Loc Cert.ShiftReferenceIdeal.nD Cert.ShiftReferenceIdeal.τ Cert.ShiftReferenceIdeal.sig) → Buf (Elt Ideal) ℓ) : Prop :=
  True

def Pre_ShiftReferenceIdeal_finite_rows [hPre_finite_rows : Cert.Pre_finite_rows.Facts] (m : (ℓ : Loc Cert.ShiftReferenceIdeal.nD Cert.ShiftReferenceIdeal.τ Cert.ShiftReferenceIdeal.sig) → Buf (Elt Ideal) ℓ) : Prop :=
  ∀ c : Dev Cert.ShiftReferenceIdeal.nD,
    (Cert.Pre_finite_rows.fn (F := Ideal) (m ((c.tc : Thread Cert.ShiftReferenceIdeal.nD Cert.ShiftReferenceIdeal.τ).loc Cert.ShiftReferenceIdeal.main_arg0)) (m ((c.tc : Thread Cert.ShiftReferenceIdeal.nD Cert.ShiftReferenceIdeal.τ).loc Cert.ShiftReferenceIdeal.main_arg1)) (m ((c.tc : Thread Cert.ShiftReferenceIdeal.nD Cert.ShiftReferenceIdeal.τ).loc Cert.ShiftReferenceIdeal.main_arg2)) (m ((c.tc : Thread Cert.ShiftReferenceIdeal.nD Cert.ShiftReferenceIdeal.τ).loc Cert.ShiftReferenceIdeal.main_arg3)) (m ((c.tc : Thread Cert.ShiftReferenceIdeal.nD Cert.ShiftReferenceIdeal.τ).loc Cert.ShiftReferenceIdeal.main_arg4)) (m ((c.tc : Thread Cert.ShiftReferenceIdeal.nD Cert.ShiftReferenceIdeal.τ).loc Cert.ShiftReferenceIdeal.main_arg5)) (m ((c.tc : Thread Cert.ShiftReferenceIdeal.nD Cert.ShiftReferenceIdeal.τ).loc Cert.ShiftReferenceIdeal.main_arg6)) (m ((c.tc : Thread Cert.ShiftReferenceIdeal.nD Cert.ShiftReferenceIdeal.τ).loc Cert.ShiftReferenceIdeal.main_arg7)) (m ((c.tc : Thread Cert.ShiftReferenceIdeal.nD Cert.ShiftReferenceIdeal.τ).loc Cert.ShiftReferenceIdeal.main_arg8)) (m ((c.tc : Thread Cert.ShiftReferenceIdeal.nD Cert.ShiftReferenceIdeal.τ).loc Cert.ShiftReferenceIdeal.main_arg9))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Prompt [hPrompt : Cert.Prompt.Facts] : Prop :=
  ∀ (m : (ℓ : Loc Cert.Prompt.nD Cert.Prompt.τ Cert.Prompt.sig) → Buf (Elt Bits) ℓ) (g : Dev Cert.Prompt.nD → PrngReg), Pre_Prompt m →
    θ_run (Cert.Prompt.defs (F := Bits)) (onTc (τ := Cert.Prompt.τ) (Cert.Prompt.main (F := Bits))) ⟨m, fun _ => 0, g⟩ (fun r => (∀ c : Dev Cert.Prompt.nD,
      r.2.mem ((c.tc : Thread Cert.Prompt.nD Cert.Prompt.τ).loc Cert.Prompt.main_arg0) = m ((c.tc : Thread Cert.Prompt.nD Cert.Prompt.τ).loc Cert.Prompt.main_arg0)
      ∧ r.2.mem ((c.tc : Thread Cert.Prompt.nD Cert.Prompt.τ).loc Cert.Prompt.main_arg1) = m ((c.tc : Thread Cert.Prompt.nD Cert.Prompt.τ).loc Cert.Prompt.main_arg1)
      ∧ r.2.mem ((c.tc : Thread Cert.Prompt.nD Cert.Prompt.τ).loc Cert.Prompt.main_arg2) = m ((c.tc : Thread Cert.Prompt.nD Cert.Prompt.τ).loc Cert.Prompt.main_arg2))
      ∧ r.2.sem = fun _ => 0)

def quiescent_PromptIdeal [hPromptIdeal : Cert.PromptIdeal.Facts] : Prop :=
  ∀ (m : (ℓ : Loc Cert.PromptIdeal.nD Cert.PromptIdeal.τ Cert.PromptIdeal.sig) → Buf (Elt Ideal) ℓ) (g : Dev Cert.PromptIdeal.nD → PrngReg), Pre_PromptIdeal m →
    θ_run (Cert.PromptIdeal.defs (F := Ideal)) (onTc (τ := Cert.PromptIdeal.τ) (Cert.PromptIdeal.main (F := Ideal))) ⟨m, fun _ => 0, g⟩ (fun r => (∀ c : Dev Cert.PromptIdeal.nD,
      r.2.mem ((c.tc : Thread Cert.PromptIdeal.nD Cert.PromptIdeal.τ).loc Cert.PromptIdeal.main_arg0) = m ((c.tc : Thread Cert.PromptIdeal.nD Cert.PromptIdeal.τ).loc Cert.PromptIdeal.main_arg0)
      ∧ r.2.mem ((c.tc : Thread Cert.PromptIdeal.nD Cert.PromptIdeal.τ).loc Cert.PromptIdeal.main_arg1) = m ((c.tc : Thread Cert.PromptIdeal.nD Cert.PromptIdeal.τ).loc Cert.PromptIdeal.main_arg1)
      ∧ r.2.mem ((c.tc : Thread Cert.PromptIdeal.nD Cert.PromptIdeal.τ).loc Cert.PromptIdeal.main_arg2) = m ((c.tc : Thread Cert.PromptIdeal.nD Cert.PromptIdeal.τ).loc Cert.PromptIdeal.main_arg2))
      ∧ r.2.sem = fun _ => 0)

def quiescent_PromptReferenceIdeal [hPromptReferenceIdeal : Cert.PromptReferenceIdeal.Facts] : Prop :=
  ∀ (m : (ℓ : Loc Cert.PromptReferenceIdeal.nD Cert.PromptReferenceIdeal.τ Cert.PromptReferenceIdeal.sig) → Buf (Elt Ideal) ℓ) (g : Dev Cert.PromptReferenceIdeal.nD → PrngReg), Pre_PromptReferenceIdeal m →
    θ_run (Cert.PromptReferenceIdeal.defs (F := Ideal)) (onTc (τ := Cert.PromptReferenceIdeal.τ) (Cert.PromptReferenceIdeal.main (F := Ideal))) ⟨m, fun _ => 0, g⟩ (fun r => (∀ c : Dev Cert.PromptReferenceIdeal.nD,
      r.2.mem ((c.tc : Thread Cert.PromptReferenceIdeal.nD Cert.PromptReferenceIdeal.τ).loc Cert.PromptReferenceIdeal.main_arg0) = m ((c.tc : Thread Cert.PromptReferenceIdeal.nD Cert.PromptReferenceIdeal.τ).loc Cert.PromptReferenceIdeal.main_arg0)
      ∧ r.2.mem ((c.tc : Thread Cert.PromptReferenceIdeal.nD Cert.PromptReferenceIdeal.τ).loc Cert.PromptReferenceIdeal.main_arg1) = m ((c.tc : Thread Cert.PromptReferenceIdeal.nD Cert.PromptReferenceIdeal.τ).loc Cert.PromptReferenceIdeal.main_arg1)
      ∧ r.2.mem ((c.tc : Thread Cert.PromptReferenceIdeal.nD Cert.PromptReferenceIdeal.τ).loc Cert.PromptReferenceIdeal.main_arg2) = m ((c.tc : Thread Cert.PromptReferenceIdeal.nD Cert.PromptReferenceIdeal.τ).loc Cert.PromptReferenceIdeal.main_arg2))
      ∧ r.2.sem = fun _ => 0)

def quiescent_Sample [hSample : Cert.Sample.Facts] : Prop :=
  ∀ (m : (ℓ : Loc Cert.Sample.nD Cert.Sample.τ Cert.Sample.sig) → Buf (Elt Bits) ℓ) (g : Dev Cert.Sample.nD → PrngReg), Pre_Sample m →
    θ_run (Cert.Sample.defs (F := Bits)) (onTc (τ := Cert.Sample.τ) (Cert.Sample.main (F := Bits))) ⟨m, fun _ => 0, g⟩ (fun r => (∀ c : Dev Cert.Sample.nD,
      r.2.mem ((c.tc : Thread Cert.Sample.nD Cert.Sample.τ).loc Cert.Sample.main_arg0) = m ((c.tc : Thread Cert.Sample.nD Cert.Sample.τ).loc Cert.Sample.main_arg0)
      ∧ r.2.mem ((c.tc : Thread Cert.Sample.nD Cert.Sample.τ).loc Cert.Sample.main_arg1) = m ((c.tc : Thread Cert.Sample.nD Cert.Sample.τ).loc Cert.Sample.main_arg1)
      ∧ r.2.mem ((c.tc : Thread Cert.Sample.nD Cert.Sample.τ).loc Cert.Sample.main_arg2) = m ((c.tc : Thread Cert.Sample.nD Cert.Sample.τ).loc Cert.Sample.main_arg2))
      ∧ r.2.sem = fun _ => 0)

def quiescent_SampleIdeal [hSampleIdeal : Cert.SampleIdeal.Facts] : Prop :=
  ∀ (m : (ℓ : Loc Cert.SampleIdeal.nD Cert.SampleIdeal.τ Cert.SampleIdeal.sig) → Buf (Elt Ideal) ℓ) (g : Dev Cert.SampleIdeal.nD → PrngReg), Pre_SampleIdeal m →
    θ_run (Cert.SampleIdeal.defs (F := Ideal)) (onTc (τ := Cert.SampleIdeal.τ) (Cert.SampleIdeal.main (F := Ideal))) ⟨m, fun _ => 0, g⟩ (fun r => (∀ c : Dev Cert.SampleIdeal.nD,
      r.2.mem ((c.tc : Thread Cert.SampleIdeal.nD Cert.SampleIdeal.τ).loc Cert.SampleIdeal.main_arg0) = m ((c.tc : Thread Cert.SampleIdeal.nD Cert.SampleIdeal.τ).loc Cert.SampleIdeal.main_arg0)
      ∧ r.2.mem ((c.tc : Thread Cert.SampleIdeal.nD Cert.SampleIdeal.τ).loc Cert.SampleIdeal.main_arg1) = m ((c.tc : Thread Cert.SampleIdeal.nD Cert.SampleIdeal.τ).loc Cert.SampleIdeal.main_arg1)
      ∧ r.2.mem ((c.tc : Thread Cert.SampleIdeal.nD Cert.SampleIdeal.τ).loc Cert.SampleIdeal.main_arg2) = m ((c.tc : Thread Cert.SampleIdeal.nD Cert.SampleIdeal.τ).loc Cert.SampleIdeal.main_arg2))
      ∧ r.2.sem = fun _ => 0)

def quiescent_SampleReferenceIdeal [hSampleReferenceIdeal : Cert.SampleReferenceIdeal.Facts] : Prop :=
  ∀ (m : (ℓ : Loc Cert.SampleReferenceIdeal.nD Cert.SampleReferenceIdeal.τ Cert.SampleReferenceIdeal.sig) → Buf (Elt Ideal) ℓ) (g : Dev Cert.SampleReferenceIdeal.nD → PrngReg), Pre_SampleReferenceIdeal m →
    θ_run (Cert.SampleReferenceIdeal.defs (F := Ideal)) (onTc (τ := Cert.SampleReferenceIdeal.τ) (Cert.SampleReferenceIdeal.main (F := Ideal))) ⟨m, fun _ => 0, g⟩ (fun r => (∀ c : Dev Cert.SampleReferenceIdeal.nD,
      r.2.mem ((c.tc : Thread Cert.SampleReferenceIdeal.nD Cert.SampleReferenceIdeal.τ).loc Cert.SampleReferenceIdeal.main_arg0) = m ((c.tc : Thread Cert.SampleReferenceIdeal.nD Cert.SampleReferenceIdeal.τ).loc Cert.SampleReferenceIdeal.main_arg0)
      ∧ r.2.mem ((c.tc : Thread Cert.SampleReferenceIdeal.nD Cert.SampleReferenceIdeal.τ).loc Cert.SampleReferenceIdeal.main_arg1) = m ((c.tc : Thread Cert.SampleReferenceIdeal.nD Cert.SampleReferenceIdeal.τ).loc Cert.SampleReferenceIdeal.main_arg1)
      ∧ r.2.mem ((c.tc : Thread Cert.SampleReferenceIdeal.nD Cert.SampleReferenceIdeal.τ).loc Cert.SampleReferenceIdeal.main_arg2) = m ((c.tc : Thread Cert.SampleReferenceIdeal.nD Cert.SampleReferenceIdeal.τ).loc Cert.SampleReferenceIdeal.main_arg2))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2)
      ∧ r.2.mem ((c.tc : Thread Cert.Conv.nD Cert.Conv.τ).loc Cert.Conv.main_arg3) = m ((c.tc : Thread Cert.Conv.nD Cert.Conv.τ).loc Cert.Conv.main_arg3)
      ∧ r.2.mem ((c.tc : Thread Cert.Conv.nD Cert.Conv.τ).loc Cert.Conv.main_arg4) = m ((c.tc : Thread Cert.Conv.nD Cert.Conv.τ).loc Cert.Conv.main_arg4)
      ∧ r.2.mem ((c.tc : Thread Cert.Conv.nD Cert.Conv.τ).loc Cert.Conv.main_arg5) = m ((c.tc : Thread Cert.Conv.nD Cert.Conv.τ).loc Cert.Conv.main_arg5))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
      ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
      ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4)
      ∧ r.2.mem ((c.tc : Thread Cert.ConvIdeal.nD Cert.ConvIdeal.τ).loc Cert.ConvIdeal.main_arg5) = m ((c.tc : Thread Cert.ConvIdeal.nD Cert.ConvIdeal.τ).loc Cert.ConvIdeal.main_arg5))
      ∧ r.2.sem = fun _ => 0)

def quiescent_ConvIdeal_pre_finite [hConvIdeal : Cert.ConvIdeal.Facts] [hPre_finite : Cert.Pre_finite.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal_finite m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
      ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
      ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4)
      ∧ r.2.mem ((c.tc : Thread Cert.ConvIdeal.nD Cert.ConvIdeal.τ).loc Cert.ConvIdeal.main_arg5) = m ((c.tc : Thread Cert.ConvIdeal.nD Cert.ConvIdeal.τ).loc Cert.ConvIdeal.main_arg5))
      ∧ r.2.sem = fun _ => 0)

def quiescent_ConvReferenceIdeal [hConvReferenceIdeal : Cert.ConvReferenceIdeal.Facts] : Prop :=
  ∀ (m : (ℓ : Loc Cert.ConvReferenceIdeal.nD Cert.ConvReferenceIdeal.τ Cert.ConvReferenceIdeal.sig) → Buf (Elt Ideal) ℓ) (g : Dev Cert.ConvReferenceIdeal.nD → PrngReg), Pre_ConvReferenceIdeal m →
    θ_run (Cert.ConvReferenceIdeal.defs (F := Ideal)) (onTc (τ := Cert.ConvReferenceIdeal.τ) (Cert.ConvReferenceIdeal.main (F := Ideal))) ⟨m, fun _ => 0, g⟩ (fun r => (∀ c : Dev Cert.ConvReferenceIdeal.nD,
      r.2.mem ((c.tc : Thread Cert.ConvReferenceIdeal.nD Cert.ConvReferenceIdeal.τ).loc Cert.ConvReferenceIdeal.main_arg0) = m ((c.tc : Thread Cert.ConvReferenceIdeal.nD Cert.ConvReferenceIdeal.τ).loc Cert.ConvReferenceIdeal.main_arg0)
      ∧ r.2.mem ((c.tc : Thread Cert.ConvReferenceIdeal.nD Cert.ConvReferenceIdeal.τ).loc Cert.ConvReferenceIdeal.main_arg1) = m ((c.tc : Thread Cert.ConvReferenceIdeal.nD Cert.ConvReferenceIdeal.τ).loc Cert.ConvReferenceIdeal.main_arg1)
      ∧ r.2.mem ((c.tc : Thread Cert.ConvReferenceIdeal.nD Cert.ConvReferenceIdeal.τ).loc Cert.ConvReferenceIdeal.main_arg2) = m ((c.tc : Thread Cert.ConvReferenceIdeal.nD Cert.ConvReferenceIdeal.τ).loc Cert.ConvReferenceIdeal.main_arg2)
      ∧ r.2.mem ((c.tc : Thread Cert.ConvReferenceIdeal.nD Cert.ConvReferenceIdeal.τ).loc Cert.ConvReferenceIdeal.main_arg3) = m ((c.tc : Thread Cert.ConvReferenceIdeal.nD Cert.ConvReferenceIdeal.τ).loc Cert.ConvReferenceIdeal.main_arg3)
      ∧ r.2.mem ((c.tc : Thread Cert.ConvReferenceIdeal.nD Cert.ConvReferenceIdeal.τ).loc Cert.ConvReferenceIdeal.main_arg4) = m ((c.tc : Thread Cert.ConvReferenceIdeal.nD Cert.ConvReferenceIdeal.τ).loc Cert.ConvReferenceIdeal.main_arg4)
      ∧ r.2.mem ((c.tc : Thread Cert.ConvReferenceIdeal.nD Cert.ConvReferenceIdeal.τ).loc Cert.ConvReferenceIdeal.main_arg5) = m ((c.tc : Thread Cert.ConvReferenceIdeal.nD Cert.ConvReferenceIdeal.τ).loc Cert.ConvReferenceIdeal.main_arg5))
      ∧ r.2.sem = fun _ => 0)

def quiescent_ConvReferenceIdeal_pre_finite [hConvReferenceIdeal : Cert.ConvReferenceIdeal.Facts] [hPre_finite : Cert.Pre_finite.Facts] : Prop :=
  ∀ (m : (ℓ : Loc Cert.ConvReferenceIdeal.nD Cert.ConvReferenceIdeal.τ Cert.ConvReferenceIdeal.sig) → Buf (Elt Ideal) ℓ) (g : Dev Cert.ConvReferenceIdeal.nD → PrngReg), Pre_ConvReferenceIdeal_finite m →
    θ_run (Cert.ConvReferenceIdeal.defs (F := Ideal)) (onTc (τ := Cert.ConvReferenceIdeal.τ) (Cert.ConvReferenceIdeal.main (F := Ideal))) ⟨m, fun _ => 0, g⟩ (fun r => (∀ c : Dev Cert.ConvReferenceIdeal.nD,
      r.2.mem ((c.tc : Thread Cert.ConvReferenceIdeal.nD Cert.ConvReferenceIdeal.τ).loc Cert.ConvReferenceIdeal.main_arg0) = m ((c.tc : Thread Cert.ConvReferenceIdeal.nD Cert.ConvReferenceIdeal.τ).loc Cert.ConvReferenceIdeal.main_arg0)
      ∧ r.2.mem ((c.tc : Thread Cert.ConvReferenceIdeal.nD Cert.ConvReferenceIdeal.τ).loc Cert.ConvReferenceIdeal.main_arg1) = m ((c.tc : Thread Cert.ConvReferenceIdeal.nD Cert.ConvReferenceIdeal.τ).loc Cert.ConvReferenceIdeal.main_arg1)
      ∧ r.2.mem ((c.tc : Thread Cert.ConvReferenceIdeal.nD Cert.ConvReferenceIdeal.τ).loc Cert.ConvReferenceIdeal.main_arg2) = m ((c.tc : Thread Cert.ConvReferenceIdeal.nD Cert.ConvReferenceIdeal.τ).loc Cert.ConvReferenceIdeal.main_arg2)
      ∧ r.2.mem ((c.tc : Thread Cert.ConvReferenceIdeal.nD Cert.ConvReferenceIdeal.τ).loc Cert.ConvReferenceIdeal.main_arg3) = m ((c.tc : Thread Cert.ConvReferenceIdeal.nD Cert.ConvReferenceIdeal.τ).loc Cert.ConvReferenceIdeal.main_arg3)
      ∧ r.2.mem ((c.tc : Thread Cert.ConvReferenceIdeal.nD Cert.ConvReferenceIdeal.τ).loc Cert.ConvReferenceIdeal.main_arg4) = m ((c.tc : Thread Cert.ConvReferenceIdeal.nD Cert.ConvReferenceIdeal.τ).loc Cert.ConvReferenceIdeal.main_arg4)
      ∧ r.2.mem ((c.tc : Thread Cert.ConvReferenceIdeal.nD Cert.ConvReferenceIdeal.τ).loc Cert.ConvReferenceIdeal.main_arg5) = m ((c.tc : Thread Cert.ConvReferenceIdeal.nD Cert.ConvReferenceIdeal.τ).loc Cert.ConvReferenceIdeal.main_arg5))
      ∧ r.2.sem = fun _ => 0)

def quiescent_Shift [hShift : Cert.Shift.Facts] : Prop :=
  ∀ (m : (ℓ : Loc Cert.Shift.nD Cert.Shift.τ Cert.Shift.sig) → Buf (Elt Bits) ℓ) (g : Dev Cert.Shift.nD → PrngReg), Pre_Shift m →
    θ_run (Cert.Shift.defs (F := Bits)) (onTc (τ := Cert.Shift.τ) (Cert.Shift.main (F := Bits))) ⟨m, fun _ => 0, g⟩ (fun r => (∀ c : Dev Cert.Shift.nD,
      r.2.mem ((c.tc : Thread Cert.Shift.nD Cert.Shift.τ).loc Cert.Shift.main_arg0) = m ((c.tc : Thread Cert.Shift.nD Cert.Shift.τ).loc Cert.Shift.main_arg0)
      ∧ r.2.mem ((c.tc : Thread Cert.Shift.nD Cert.Shift.τ).loc Cert.Shift.main_arg1) = m ((c.tc : Thread Cert.Shift.nD Cert.Shift.τ).loc Cert.Shift.main_arg1)
      ∧ r.2.mem ((c.tc : Thread Cert.Shift.nD Cert.Shift.τ).loc Cert.Shift.main_arg2) = m ((c.tc : Thread Cert.Shift.nD Cert.Shift.τ).loc Cert.Shift.main_arg2)
      ∧ r.2.mem ((c.tc : Thread Cert.Shift.nD Cert.Shift.τ).loc Cert.Shift.main_arg3) = m ((c.tc : Thread Cert.Shift.nD Cert.Shift.τ).loc Cert.Shift.main_arg3)
      ∧ r.2.mem ((c.tc : Thread Cert.Shift.nD Cert.Shift.τ).loc Cert.Shift.main_arg4) = m ((c.tc : Thread Cert.Shift.nD Cert.Shift.τ).loc Cert.Shift.main_arg4)
      ∧ r.2.mem ((c.tc : Thread Cert.Shift.nD Cert.Shift.τ).loc Cert.Shift.main_arg5) = m ((c.tc : Thread Cert.Shift.nD Cert.Shift.τ).loc Cert.Shift.main_arg5)
      ∧ r.2.mem ((c.tc : Thread Cert.Shift.nD Cert.Shift.τ).loc Cert.Shift.main_arg6) = m ((c.tc : Thread Cert.Shift.nD Cert.Shift.τ).loc Cert.Shift.main_arg6)
      ∧ r.2.mem ((c.tc : Thread Cert.Shift.nD Cert.Shift.τ).loc Cert.Shift.main_arg7) = m ((c.tc : Thread Cert.Shift.nD Cert.Shift.τ).loc Cert.Shift.main_arg7)
      ∧ r.2.mem ((c.tc : Thread Cert.Shift.nD Cert.Shift.τ).loc Cert.Shift.main_arg8) = m ((c.tc : Thread Cert.Shift.nD Cert.Shift.τ).loc Cert.Shift.main_arg8)
      ∧ r.2.mem ((c.tc : Thread Cert.Shift.nD Cert.Shift.τ).loc Cert.Shift.main_arg9) = m ((c.tc : Thread Cert.Shift.nD Cert.Shift.τ).loc Cert.Shift.main_arg9))
      ∧ r.2.sem = fun _ => 0)

def quiescent_ShiftIdeal [hShiftIdeal : Cert.ShiftIdeal.Facts] : Prop :=
  ∀ (m : (ℓ : Loc Cert.ShiftIdeal.nD Cert.ShiftIdeal.τ Cert.ShiftIdeal.sig) → Buf (Elt Ideal) ℓ) (g : Dev Cert.ShiftIdeal.nD → PrngReg), Pre_ShiftIdeal m →
    θ_run (Cert.ShiftIdeal.defs (F := Ideal)) (onTc (τ := Cert.ShiftIdeal.τ) (Cert.ShiftIdeal.main (F := Ideal))) ⟨m, fun _ => 0, g⟩ (fun r => (∀ c : Dev Cert.ShiftIdeal.nD,
      r.2.mem ((c.tc : Thread Cert.ShiftIdeal.nD Cert.ShiftIdeal.τ).loc Cert.ShiftIdeal.main_arg0) = m ((c.tc : Thread Cert.ShiftIdeal.nD Cert.ShiftIdeal.τ).loc Cert.ShiftIdeal.main_arg0)
      ∧ r.2.mem ((c.tc : Thread Cert.ShiftIdeal.nD Cert.ShiftIdeal.τ).loc Cert.ShiftIdeal.main_arg1) = m ((c.tc : Thread Cert.ShiftIdeal.nD Cert.ShiftIdeal.τ).loc Cert.ShiftIdeal.main_arg1)
      ∧ r.2.mem ((c.tc : Thread Cert.ShiftIdeal.nD Cert.ShiftIdeal.τ).loc Cert.ShiftIdeal.main_arg2) = m ((c.tc : Thread Cert.ShiftIdeal.nD Cert.ShiftIdeal.τ).loc Cert.ShiftIdeal.main_arg2)
      ∧ r.2.mem ((c.tc : Thread Cert.ShiftIdeal.nD Cert.ShiftIdeal.τ).loc Cert.ShiftIdeal.main_arg3) = m ((c.tc : Thread Cert.ShiftIdeal.nD Cert.ShiftIdeal.τ).loc Cert.ShiftIdeal.main_arg3)
      ∧ r.2.mem ((c.tc : Thread Cert.ShiftIdeal.nD Cert.ShiftIdeal.τ).loc Cert.ShiftIdeal.main_arg4) = m ((c.tc : Thread Cert.ShiftIdeal.nD Cert.ShiftIdeal.τ).loc Cert.ShiftIdeal.main_arg4)
      ∧ r.2.mem ((c.tc : Thread Cert.ShiftIdeal.nD Cert.ShiftIdeal.τ).loc Cert.ShiftIdeal.main_arg5) = m ((c.tc : Thread Cert.ShiftIdeal.nD Cert.ShiftIdeal.τ).loc Cert.ShiftIdeal.main_arg5)
      ∧ r.2.mem ((c.tc : Thread Cert.ShiftIdeal.nD Cert.ShiftIdeal.τ).loc Cert.ShiftIdeal.main_arg6) = m ((c.tc : Thread Cert.ShiftIdeal.nD Cert.ShiftIdeal.τ).loc Cert.ShiftIdeal.main_arg6)
      ∧ r.2.mem ((c.tc : Thread Cert.ShiftIdeal.nD Cert.ShiftIdeal.τ).loc Cert.ShiftIdeal.main_arg7) = m ((c.tc : Thread Cert.ShiftIdeal.nD Cert.ShiftIdeal.τ).loc Cert.ShiftIdeal.main_arg7)
      ∧ r.2.mem ((c.tc : Thread Cert.ShiftIdeal.nD Cert.ShiftIdeal.τ).loc Cert.ShiftIdeal.main_arg8) = m ((c.tc : Thread Cert.ShiftIdeal.nD Cert.ShiftIdeal.τ).loc Cert.ShiftIdeal.main_arg8)
      ∧ r.2.mem ((c.tc : Thread Cert.ShiftIdeal.nD Cert.ShiftIdeal.τ).loc Cert.ShiftIdeal.main_arg9) = m ((c.tc : Thread Cert.ShiftIdeal.nD Cert.ShiftIdeal.τ).loc Cert.ShiftIdeal.main_arg9))
      ∧ r.2.sem = fun _ => 0)

def quiescent_ShiftIdeal_pre_finite_rows [hShiftIdeal : Cert.ShiftIdeal.Facts] [hPre_finite_rows : Cert.Pre_finite_rows.Facts] : Prop :=
  ∀ (m : (ℓ : Loc Cert.ShiftIdeal.nD Cert.ShiftIdeal.τ Cert.ShiftIdeal.sig) → Buf (Elt Ideal) ℓ) (g : Dev Cert.ShiftIdeal.nD → PrngReg), Pre_ShiftIdeal_finite_rows m →
    θ_run (Cert.ShiftIdeal.defs (F := Ideal)) (onTc (τ := Cert.ShiftIdeal.τ) (Cert.ShiftIdeal.main (F := Ideal))) ⟨m, fun _ => 0, g⟩ (fun r => (∀ c : Dev Cert.ShiftIdeal.nD,
      r.2.mem ((c.tc : Thread Cert.ShiftIdeal.nD Cert.ShiftIdeal.τ).loc Cert.ShiftIdeal.main_arg0) = m ((c.tc : Thread Cert.ShiftIdeal.nD Cert.ShiftIdeal.τ).loc Cert.ShiftIdeal.main_arg0)
      ∧ r.2.mem ((c.tc : Thread Cert.ShiftIdeal.nD Cert.ShiftIdeal.τ).loc Cert.ShiftIdeal.main_arg1) = m ((c.tc : Thread Cert.ShiftIdeal.nD Cert.ShiftIdeal.τ).loc Cert.ShiftIdeal.main_arg1)
      ∧ r.2.mem ((c.tc : Thread Cert.ShiftIdeal.nD Cert.ShiftIdeal.τ).loc Cert.ShiftIdeal.main_arg2) = m ((c.tc : Thread Cert.ShiftIdeal.nD Cert.ShiftIdeal.τ).loc Cert.ShiftIdeal.main_arg2)
      ∧ r.2.mem ((c.tc : Thread Cert.ShiftIdeal.nD Cert.ShiftIdeal.τ).loc Cert.ShiftIdeal.main_arg3) = m ((c.tc : Thread Cert.ShiftIdeal.nD Cert.ShiftIdeal.τ).loc Cert.ShiftIdeal.main_arg3)
      ∧ r.2.mem ((c.tc : Thread Cert.ShiftIdeal.nD Cert.ShiftIdeal.τ).loc Cert.ShiftIdeal.main_arg4) = m ((c.tc : Thread Cert.ShiftIdeal.nD Cert.ShiftIdeal.τ).loc Cert.ShiftIdeal.main_arg4)
      ∧ r.2.mem ((c.tc : Thread Cert.ShiftIdeal.nD Cert.ShiftIdeal.τ).loc Cert.ShiftIdeal.main_arg5) = m ((c.tc : Thread Cert.ShiftIdeal.nD Cert.ShiftIdeal.τ).loc Cert.ShiftIdeal.main_arg5)
      ∧ r.2.mem ((c.tc : Thread Cert.ShiftIdeal.nD Cert.ShiftIdeal.τ).loc Cert.ShiftIdeal.main_arg6) = m ((c.tc : Thread Cert.ShiftIdeal.nD Cert.ShiftIdeal.τ).loc Cert.ShiftIdeal.main_arg6)
      ∧ r.2.mem ((c.tc : Thread Cert.ShiftIdeal.nD Cert.ShiftIdeal.τ).loc Cert.ShiftIdeal.main_arg7) = m ((c.tc : Thread Cert.ShiftIdeal.nD Cert.ShiftIdeal.τ).loc Cert.ShiftIdeal.main_arg7)
      ∧ r.2.mem ((c.tc : Thread Cert.ShiftIdeal.nD Cert.ShiftIdeal.τ).loc Cert.ShiftIdeal.main_arg8) = m ((c.tc : Thread Cert.ShiftIdeal.nD Cert.ShiftIdeal.τ).loc Cert.ShiftIdeal.main_arg8)
      ∧ r.2.mem ((c.tc : Thread Cert.ShiftIdeal.nD Cert.ShiftIdeal.τ).loc Cert.ShiftIdeal.main_arg9) = m ((c.tc : Thread Cert.ShiftIdeal.nD Cert.ShiftIdeal.τ).loc Cert.ShiftIdeal.main_arg9))
      ∧ r.2.sem = fun _ => 0)

def quiescent_ShiftReferenceIdeal [hShiftReferenceIdeal : Cert.ShiftReferenceIdeal.Facts] : Prop :=
  ∀ (m : (ℓ : Loc Cert.ShiftReferenceIdeal.nD Cert.ShiftReferenceIdeal.τ Cert.ShiftReferenceIdeal.sig) → Buf (Elt Ideal) ℓ) (g : Dev Cert.ShiftReferenceIdeal.nD → PrngReg), Pre_ShiftReferenceIdeal m →
    θ_run (Cert.ShiftReferenceIdeal.defs (F := Ideal)) (onTc (τ := Cert.ShiftReferenceIdeal.τ) (Cert.ShiftReferenceIdeal.main (F := Ideal))) ⟨m, fun _ => 0, g⟩ (fun r => (∀ c : Dev Cert.ShiftReferenceIdeal.nD,
      r.2.mem ((c.tc : Thread Cert.ShiftReferenceIdeal.nD Cert.ShiftReferenceIdeal.τ).loc Cert.ShiftReferenceIdeal.main_arg0) = m ((c.tc : Thread Cert.ShiftReferenceIdeal.nD Cert.ShiftReferenceIdeal.τ).loc Cert.ShiftReferenceIdeal.main_arg0)
      ∧ r.2.mem ((c.tc : Thread Cert.ShiftReferenceIdeal.nD Cert.ShiftReferenceIdeal.τ).loc Cert.ShiftReferenceIdeal.main_arg1) = m ((c.tc : Thread Cert.ShiftReferenceIdeal.nD Cert.ShiftReferenceIdeal.τ).loc Cert.ShiftReferenceIdeal.main_arg1)
      ∧ r.2.mem ((c.tc : Thread Cert.ShiftReferenceIdeal.nD Cert.ShiftReferenceIdeal.τ).loc Cert.ShiftReferenceIdeal.main_arg2) = m ((c.tc : Thread Cert.ShiftReferenceIdeal.nD Cert.ShiftReferenceIdeal.τ).loc Cert.ShiftReferenceIdeal.main_arg2)
      ∧ r.2.mem ((c.tc : Thread Cert.ShiftReferenceIdeal.nD Cert.ShiftReferenceIdeal.τ).loc Cert.ShiftReferenceIdeal.main_arg3) = m ((c.tc : Thread Cert.ShiftReferenceIdeal.nD Cert.ShiftReferenceIdeal.τ).loc Cert.ShiftReferenceIdeal.main_arg3)
      ∧ r.2.mem ((c.tc : Thread Cert.ShiftReferenceIdeal.nD Cert.ShiftReferenceIdeal.τ).loc Cert.ShiftReferenceIdeal.main_arg4) = m ((c.tc : Thread Cert.ShiftReferenceIdeal.nD Cert.ShiftReferenceIdeal.τ).loc Cert.ShiftReferenceIdeal.main_arg4)
      ∧ r.2.mem ((c.tc : Thread Cert.ShiftReferenceIdeal.nD Cert.ShiftReferenceIdeal.τ).loc Cert.ShiftReferenceIdeal.main_arg5) = m ((c.tc : Thread Cert.ShiftReferenceIdeal.nD Cert.ShiftReferenceIdeal.τ).loc Cert.ShiftReferenceIdeal.main_arg5)
      ∧ r.2.mem ((c.tc : Thread Cert.ShiftReferenceIdeal.nD Cert.ShiftReferenceIdeal.τ).loc Cert.ShiftReferenceIdeal.main_arg6) = m ((c.tc : Thread Cert.ShiftReferenceIdeal.nD Cert.ShiftReferenceIdeal.τ).loc Cert.ShiftReferenceIdeal.main_arg6)
      ∧ r.2.mem ((c.tc : Thread Cert.ShiftReferenceIdeal.nD Cert.ShiftReferenceIdeal.τ).loc Cert.ShiftReferenceIdeal.main_arg7) = m ((c.tc : Thread Cert.ShiftReferenceIdeal.nD Cert.ShiftReferenceIdeal.τ).loc Cert.ShiftReferenceIdeal.main_arg7)
      ∧ r.2.mem ((c.tc : Thread Cert.ShiftReferenceIdeal.nD Cert.ShiftReferenceIdeal.τ).loc Cert.ShiftReferenceIdeal.main_arg8) = m ((c.tc : Thread Cert.ShiftReferenceIdeal.nD Cert.ShiftReferenceIdeal.τ).loc Cert.ShiftReferenceIdeal.main_arg8)
      ∧ r.2.mem ((c.tc : Thread Cert.ShiftReferenceIdeal.nD Cert.ShiftReferenceIdeal.τ).loc Cert.ShiftReferenceIdeal.main_arg9) = m ((c.tc : Thread Cert.ShiftReferenceIdeal.nD Cert.ShiftReferenceIdeal.τ).loc Cert.ShiftReferenceIdeal.main_arg9))
      ∧ r.2.sem = fun _ => 0)

def quiescent_ShiftReferenceIdeal_pre_finite_rows [hShiftReferenceIdeal : Cert.ShiftReferenceIdeal.Facts] [hPre_finite_rows : Cert.Pre_finite_rows.Facts] : Prop :=
  ∀ (m : (ℓ : Loc Cert.ShiftReferenceIdeal.nD Cert.ShiftReferenceIdeal.τ Cert.ShiftReferenceIdeal.sig) → Buf (Elt Ideal) ℓ) (g : Dev Cert.ShiftReferenceIdeal.nD → PrngReg), Pre_ShiftReferenceIdeal_finite_rows m →
    θ_run (Cert.ShiftReferenceIdeal.defs (F := Ideal)) (onTc (τ := Cert.ShiftReferenceIdeal.τ) (Cert.ShiftReferenceIdeal.main (F := Ideal))) ⟨m, fun _ => 0, g⟩ (fun r => (∀ c : Dev Cert.ShiftReferenceIdeal.nD,
      r.2.mem ((c.tc : Thread Cert.ShiftReferenceIdeal.nD Cert.ShiftReferenceIdeal.τ).loc Cert.ShiftReferenceIdeal.main_arg0) = m ((c.tc : Thread Cert.ShiftReferenceIdeal.nD Cert.ShiftReferenceIdeal.τ).loc Cert.ShiftReferenceIdeal.main_arg0)
      ∧ r.2.mem ((c.tc : Thread Cert.ShiftReferenceIdeal.nD Cert.ShiftReferenceIdeal.τ).loc Cert.ShiftReferenceIdeal.main_arg1) = m ((c.tc : Thread Cert.ShiftReferenceIdeal.nD Cert.ShiftReferenceIdeal.τ).loc Cert.ShiftReferenceIdeal.main_arg1)
      ∧ r.2.mem ((c.tc : Thread Cert.ShiftReferenceIdeal.nD Cert.ShiftReferenceIdeal.τ).loc Cert.ShiftReferenceIdeal.main_arg2) = m ((c.tc : Thread Cert.ShiftReferenceIdeal.nD Cert.ShiftReferenceIdeal.τ).loc Cert.ShiftReferenceIdeal.main_arg2)
      ∧ r.2.mem ((c.tc : Thread Cert.ShiftReferenceIdeal.nD Cert.ShiftReferenceIdeal.τ).loc Cert.ShiftReferenceIdeal.main_arg3) = m ((c.tc : Thread Cert.ShiftReferenceIdeal.nD Cert.ShiftReferenceIdeal.τ).loc Cert.ShiftReferenceIdeal.main_arg3)
      ∧ r.2.mem ((c.tc : Thread Cert.ShiftReferenceIdeal.nD Cert.ShiftReferenceIdeal.τ).loc Cert.ShiftReferenceIdeal.main_arg4) = m ((c.tc : Thread Cert.ShiftReferenceIdeal.nD Cert.ShiftReferenceIdeal.τ).loc Cert.ShiftReferenceIdeal.main_arg4)
      ∧ r.2.mem ((c.tc : Thread Cert.ShiftReferenceIdeal.nD Cert.ShiftReferenceIdeal.τ).loc Cert.ShiftReferenceIdeal.main_arg5) = m ((c.tc : Thread Cert.ShiftReferenceIdeal.nD Cert.ShiftReferenceIdeal.τ).loc Cert.ShiftReferenceIdeal.main_arg5)
      ∧ r.2.mem ((c.tc : Thread Cert.ShiftReferenceIdeal.nD Cert.ShiftReferenceIdeal.τ).loc Cert.ShiftReferenceIdeal.main_arg6) = m ((c.tc : Thread Cert.ShiftReferenceIdeal.nD Cert.ShiftReferenceIdeal.τ).loc Cert.ShiftReferenceIdeal.main_arg6)
      ∧ r.2.mem ((c.tc : Thread Cert.ShiftReferenceIdeal.nD Cert.ShiftReferenceIdeal.τ).loc Cert.ShiftReferenceIdeal.main_arg7) = m ((c.tc : Thread Cert.ShiftReferenceIdeal.nD Cert.ShiftReferenceIdeal.τ).loc Cert.ShiftReferenceIdeal.main_arg7)
      ∧ r.2.mem ((c.tc : Thread Cert.ShiftReferenceIdeal.nD Cert.ShiftReferenceIdeal.τ).loc Cert.ShiftReferenceIdeal.main_arg8) = m ((c.tc : Thread Cert.ShiftReferenceIdeal.nD Cert.ShiftReferenceIdeal.τ).loc Cert.ShiftReferenceIdeal.main_arg8)
      ∧ r.2.mem ((c.tc : Thread Cert.ShiftReferenceIdeal.nD Cert.ShiftReferenceIdeal.τ).loc Cert.ShiftReferenceIdeal.main_arg9) = m ((c.tc : Thread Cert.ShiftReferenceIdeal.nD Cert.ShiftReferenceIdeal.τ).loc Cert.ShiftReferenceIdeal.main_arg9))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Prompt_PromptIdeal : Prop :=
  True

def algebraic_PromptIdeal_PromptReferenceIdeal [hPromptIdeal : Cert.PromptIdeal.Facts] [hPromptReferenceIdeal : Cert.PromptReferenceIdeal.Facts] : Prop :=
  ∀ (m : (ℓ : Loc Cert.PromptIdeal.nD Cert.PromptIdeal.τ Cert.PromptIdeal.sig) → Buf (Elt Ideal) ℓ) (g : Dev Cert.PromptIdeal.nD → PrngReg)
    (m' : (ℓ : Loc Cert.PromptReferenceIdeal.nD Cert.PromptReferenceIdeal.τ Cert.PromptReferenceIdeal.sig) → Buf (Elt Ideal) ℓ) (g' : Dev Cert.PromptReferenceIdeal.nD → PrngReg), Pre_PromptIdeal m →
    (∀ c : Dev Cert.PromptIdeal.nD,
      m' ((c.tc : Thread Cert.PromptReferenceIdeal.nD Cert.PromptReferenceIdeal.τ).loc Cert.PromptReferenceIdeal.main_arg0) = m ((c.tc : Thread Cert.PromptIdeal.nD Cert.PromptIdeal.τ).loc Cert.PromptIdeal.main_arg0)
      ∧ m' ((c.tc : Thread Cert.PromptReferenceIdeal.nD Cert.PromptReferenceIdeal.τ).loc Cert.PromptReferenceIdeal.main_arg1) = m ((c.tc : Thread Cert.PromptIdeal.nD Cert.PromptIdeal.τ).loc Cert.PromptIdeal.main_arg1)
      ∧ m' ((c.tc : Thread Cert.PromptReferenceIdeal.nD Cert.PromptReferenceIdeal.τ).loc Cert.PromptReferenceIdeal.main_arg2) = m ((c.tc : Thread Cert.PromptIdeal.nD Cert.PromptIdeal.τ).loc Cert.PromptIdeal.main_arg2)) →
    ∃ (v0 : (c : Dev Cert.PromptIdeal.nD) → Buf (Elt Ideal) ((c.tc : Thread Cert.PromptIdeal.nD Cert.PromptIdeal.τ).loc Cert.PromptIdeal.main_v11_0)) (v1 : (c : Dev Cert.PromptIdeal.nD) → Buf (Elt Ideal) ((c.tc : Thread Cert.PromptIdeal.nD Cert.PromptIdeal.τ).loc Cert.PromptIdeal.main_v11_1)) (v2 : (c : Dev Cert.PromptIdeal.nD) → Buf (Elt Ideal) ((c.tc : Thread Cert.PromptIdeal.nD Cert.PromptIdeal.τ).loc Cert.PromptIdeal.main_v11_2)) (v3 : (c : Dev Cert.PromptIdeal.nD) → Buf (Elt Ideal) ((c.tc : Thread Cert.PromptIdeal.nD Cert.PromptIdeal.τ).loc Cert.PromptIdeal.main_v11_3)) (v4 : (c : Dev Cert.PromptIdeal.nD) → Buf (Elt Ideal) ((c.tc : Thread Cert.PromptIdeal.nD Cert.PromptIdeal.τ).loc Cert.PromptIdeal.main_v11_4)) (v5 : (c : Dev Cert.PromptIdeal.nD) → Buf (Elt Ideal) ((c.tc : Thread Cert.PromptIdeal.nD Cert.PromptIdeal.τ).loc Cert.PromptIdeal.main_v11_5)),
      θ_run (Cert.PromptIdeal.defs (F := Ideal)) (onTc (τ := Cert.PromptIdeal.τ) (Cert.PromptIdeal.main (F := Ideal))) ⟨m, fun _ => 0, g⟩ (fun r => ∀ c : Dev Cert.PromptIdeal.nD,
          r.2.mem ((c.tc : Thread Cert.PromptIdeal.nD Cert.PromptIdeal.τ).loc Cert.PromptIdeal.main_v11_0) = v0 c
          ∧ r.2.mem ((c.tc : Thread Cert.PromptIdeal.nD Cert.PromptIdeal.τ).loc Cert.PromptIdeal.main_v11_1) = v1 c
          ∧ r.2.mem ((c.tc : Thread Cert.PromptIdeal.nD Cert.PromptIdeal.τ).loc Cert.PromptIdeal.main_v11_2) = v2 c
          ∧ r.2.mem ((c.tc : Thread Cert.PromptIdeal.nD Cert.PromptIdeal.τ).loc Cert.PromptIdeal.main_v11_3) = v3 c
          ∧ r.2.mem ((c.tc : Thread Cert.PromptIdeal.nD Cert.PromptIdeal.τ).loc Cert.PromptIdeal.main_v11_4) = v4 c
          ∧ r.2.mem ((c.tc : Thread Cert.PromptIdeal.nD Cert.PromptIdeal.τ).loc Cert.PromptIdeal.main_v11_5) = v5 c
          ∧ r.2.mem ((c.tc : Thread Cert.PromptIdeal.nD Cert.PromptIdeal.τ).loc Cert.PromptIdeal.main_arg0) = m ((c.tc : Thread Cert.PromptIdeal.nD Cert.PromptIdeal.τ).loc Cert.PromptIdeal.main_arg0)
          ∧ r.2.mem ((c.tc : Thread Cert.PromptIdeal.nD Cert.PromptIdeal.τ).loc Cert.PromptIdeal.main_arg1) = m ((c.tc : Thread Cert.PromptIdeal.nD Cert.PromptIdeal.τ).loc Cert.PromptIdeal.main_arg1)
          ∧ r.2.mem ((c.tc : Thread Cert.PromptIdeal.nD Cert.PromptIdeal.τ).loc Cert.PromptIdeal.main_arg2) = m ((c.tc : Thread Cert.PromptIdeal.nD Cert.PromptIdeal.τ).loc Cert.PromptIdeal.main_arg2))
      ∧ θ_run (Cert.PromptReferenceIdeal.defs (F := Ideal)) (onTc (τ := Cert.PromptReferenceIdeal.τ) (Cert.PromptReferenceIdeal.main (F := Ideal))) ⟨m', fun _ => 0, g'⟩ (fun r => ∀ c : Dev Cert.PromptReferenceIdeal.nD,
          r.2.mem ((c.tc : Thread Cert.PromptReferenceIdeal.nD Cert.PromptReferenceIdeal.τ).loc Cert.PromptReferenceIdeal.main_v14) = v0 c
          ∧ r.2.mem ((c.tc : Thread Cert.PromptReferenceIdeal.nD Cert.PromptReferenceIdeal.τ).loc Cert.PromptReferenceIdeal.main_v19) = v1 c
          ∧ r.2.mem ((c.tc : Thread Cert.PromptReferenceIdeal.nD Cert.PromptReferenceIdeal.τ).loc Cert.PromptReferenceIdeal.main_v20) = v2 c
          ∧ r.2.mem ((c.tc : Thread Cert.PromptReferenceIdeal.nD Cert.PromptReferenceIdeal.τ).loc Cert.PromptReferenceIdeal.main_v21) = v3 c
          ∧ r.2.mem ((c.tc : Thread Cert.PromptReferenceIdeal.nD Cert.PromptReferenceIdeal.τ).loc Cert.PromptReferenceIdeal.main_v22) = v4 c
          ∧ r.2.mem ((c.tc : Thread Cert.PromptReferenceIdeal.nD Cert.PromptReferenceIdeal.τ).loc Cert.PromptReferenceIdeal.main_v18) = v5 c
          ∧ r.2.mem ((c.tc : Thread Cert.PromptReferenceIdeal.nD Cert.PromptReferenceIdeal.τ).loc Cert.PromptReferenceIdeal.main_arg0) = m' ((c.tc : Thread Cert.PromptReferenceIdeal.nD Cert.PromptReferenceIdeal.τ).loc Cert.PromptReferenceIdeal.main_arg0)
          ∧ r.2.mem ((c.tc : Thread Cert.PromptReferenceIdeal.nD Cert.PromptReferenceIdeal.τ).loc Cert.PromptReferenceIdeal.main_arg1) = m' ((c.tc : Thread Cert.PromptReferenceIdeal.nD Cert.PromptReferenceIdeal.τ).loc Cert.PromptReferenceIdeal.main_arg1)
          ∧ r.2.mem ((c.tc : Thread Cert.PromptReferenceIdeal.nD Cert.PromptReferenceIdeal.τ).loc Cert.PromptReferenceIdeal.main_arg2) = m' ((c.tc : Thread Cert.PromptReferenceIdeal.nD Cert.PromptReferenceIdeal.τ).loc Cert.PromptReferenceIdeal.main_arg2))

def preserves_Sample_SampleIdeal : Prop :=
  True

def algebraic_SampleIdeal_SampleReferenceIdeal [hSampleIdeal : Cert.SampleIdeal.Facts] [hSampleReferenceIdeal : Cert.SampleReferenceIdeal.Facts] : Prop :=
  ∀ (m : (ℓ : Loc Cert.SampleIdeal.nD Cert.SampleIdeal.τ Cert.SampleIdeal.sig) → Buf (Elt Ideal) ℓ) (g : Dev Cert.SampleIdeal.nD → PrngReg)
    (m' : (ℓ : Loc Cert.SampleReferenceIdeal.nD Cert.SampleReferenceIdeal.τ Cert.SampleReferenceIdeal.sig) → Buf (Elt Ideal) ℓ) (g' : Dev Cert.SampleReferenceIdeal.nD → PrngReg), Pre_SampleIdeal m →
    (∀ c : Dev Cert.SampleIdeal.nD,
      m' ((c.tc : Thread Cert.SampleReferenceIdeal.nD Cert.SampleReferenceIdeal.τ).loc Cert.SampleReferenceIdeal.main_arg0) = m ((c.tc : Thread Cert.SampleIdeal.nD Cert.SampleIdeal.τ).loc Cert.SampleIdeal.main_arg0)
      ∧ m' ((c.tc : Thread Cert.SampleReferenceIdeal.nD Cert.SampleReferenceIdeal.τ).loc Cert.SampleReferenceIdeal.main_arg1) = m ((c.tc : Thread Cert.SampleIdeal.nD Cert.SampleIdeal.τ).loc Cert.SampleIdeal.main_arg1)
      ∧ m' ((c.tc : Thread Cert.SampleReferenceIdeal.nD Cert.SampleReferenceIdeal.τ).loc Cert.SampleReferenceIdeal.main_arg2) = m ((c.tc : Thread Cert.SampleIdeal.nD Cert.SampleIdeal.τ).loc Cert.SampleIdeal.main_arg2)) →
    ∃ (v0 : (c : Dev Cert.SampleIdeal.nD) → Buf (Elt Ideal) ((c.tc : Thread Cert.SampleIdeal.nD Cert.SampleIdeal.τ).loc Cert.SampleIdeal.main_v12_0)) (v1 : (c : Dev Cert.SampleIdeal.nD) → Buf (Elt Ideal) ((c.tc : Thread Cert.SampleIdeal.nD Cert.SampleIdeal.τ).loc Cert.SampleIdeal.main_v12_1)) (v2 : (c : Dev Cert.SampleIdeal.nD) → Buf (Elt Ideal) ((c.tc : Thread Cert.SampleIdeal.nD Cert.SampleIdeal.τ).loc Cert.SampleIdeal.main_v12_2)) (v3 : (c : Dev Cert.SampleIdeal.nD) → Buf (Elt Ideal) ((c.tc : Thread Cert.SampleIdeal.nD Cert.SampleIdeal.τ).loc Cert.SampleIdeal.main_v12_3)) (v4 : (c : Dev Cert.SampleIdeal.nD) → Buf (Elt Ideal) ((c.tc : Thread Cert.SampleIdeal.nD Cert.SampleIdeal.τ).loc Cert.SampleIdeal.main_v12_4)) (v5 : (c : Dev Cert.SampleIdeal.nD) → Buf (Elt Ideal) ((c.tc : Thread Cert.SampleIdeal.nD Cert.SampleIdeal.τ).loc Cert.SampleIdeal.main_v12_5)),
      θ_run (Cert.SampleIdeal.defs (F := Ideal)) (onTc (τ := Cert.SampleIdeal.τ) (Cert.SampleIdeal.main (F := Ideal))) ⟨m, fun _ => 0, g⟩ (fun r => ∀ c : Dev Cert.SampleIdeal.nD,
          r.2.mem ((c.tc : Thread Cert.SampleIdeal.nD Cert.SampleIdeal.τ).loc Cert.SampleIdeal.main_v12_0) = v0 c
          ∧ r.2.mem ((c.tc : Thread Cert.SampleIdeal.nD Cert.SampleIdeal.τ).loc Cert.SampleIdeal.main_v12_1) = v1 c
          ∧ r.2.mem ((c.tc : Thread Cert.SampleIdeal.nD Cert.SampleIdeal.τ).loc Cert.SampleIdeal.main_v12_2) = v2 c
          ∧ r.2.mem ((c.tc : Thread Cert.SampleIdeal.nD Cert.SampleIdeal.τ).loc Cert.SampleIdeal.main_v12_3) = v3 c
          ∧ r.2.mem ((c.tc : Thread Cert.SampleIdeal.nD Cert.SampleIdeal.τ).loc Cert.SampleIdeal.main_v12_4) = v4 c
          ∧ r.2.mem ((c.tc : Thread Cert.SampleIdeal.nD Cert.SampleIdeal.τ).loc Cert.SampleIdeal.main_v12_5) = v5 c
          ∧ r.2.mem ((c.tc : Thread Cert.SampleIdeal.nD Cert.SampleIdeal.τ).loc Cert.SampleIdeal.main_arg0) = m ((c.tc : Thread Cert.SampleIdeal.nD Cert.SampleIdeal.τ).loc Cert.SampleIdeal.main_arg0)
          ∧ r.2.mem ((c.tc : Thread Cert.SampleIdeal.nD Cert.SampleIdeal.τ).loc Cert.SampleIdeal.main_arg1) = m ((c.tc : Thread Cert.SampleIdeal.nD Cert.SampleIdeal.τ).loc Cert.SampleIdeal.main_arg1)
          ∧ r.2.mem ((c.tc : Thread Cert.SampleIdeal.nD Cert.SampleIdeal.τ).loc Cert.SampleIdeal.main_arg2) = m ((c.tc : Thread Cert.SampleIdeal.nD Cert.SampleIdeal.τ).loc Cert.SampleIdeal.main_arg2))
      ∧ θ_run (Cert.SampleReferenceIdeal.defs (F := Ideal)) (onTc (τ := Cert.SampleReferenceIdeal.τ) (Cert.SampleReferenceIdeal.main (F := Ideal))) ⟨m', fun _ => 0, g'⟩ (fun r => ∀ c : Dev Cert.SampleReferenceIdeal.nD,
          r.2.mem ((c.tc : Thread Cert.SampleReferenceIdeal.nD Cert.SampleReferenceIdeal.τ).loc Cert.SampleReferenceIdeal.main_v15) = v0 c
          ∧ r.2.mem ((c.tc : Thread Cert.SampleReferenceIdeal.nD Cert.SampleReferenceIdeal.τ).loc Cert.SampleReferenceIdeal.main_v20) = v1 c
          ∧ r.2.mem ((c.tc : Thread Cert.SampleReferenceIdeal.nD Cert.SampleReferenceIdeal.τ).loc Cert.SampleReferenceIdeal.main_v21) = v2 c
          ∧ r.2.mem ((c.tc : Thread Cert.SampleReferenceIdeal.nD Cert.SampleReferenceIdeal.τ).loc Cert.SampleReferenceIdeal.main_v22) = v3 c
          ∧ r.2.mem ((c.tc : Thread Cert.SampleReferenceIdeal.nD Cert.SampleReferenceIdeal.τ).loc Cert.SampleReferenceIdeal.main_v23) = v4 c
          ∧ r.2.mem ((c.tc : Thread Cert.SampleReferenceIdeal.nD Cert.SampleReferenceIdeal.τ).loc Cert.SampleReferenceIdeal.main_v19) = v5 c
          ∧ r.2.mem ((c.tc : Thread Cert.SampleReferenceIdeal.nD Cert.SampleReferenceIdeal.τ).loc Cert.SampleReferenceIdeal.main_arg0) = m' ((c.tc : Thread Cert.SampleReferenceIdeal.nD Cert.SampleReferenceIdeal.τ).loc Cert.SampleReferenceIdeal.main_arg0)
          ∧ r.2.mem ((c.tc : Thread Cert.SampleReferenceIdeal.nD Cert.SampleReferenceIdeal.τ).loc Cert.SampleReferenceIdeal.main_arg1) = m' ((c.tc : Thread Cert.SampleReferenceIdeal.nD Cert.SampleReferenceIdeal.τ).loc Cert.SampleReferenceIdeal.main_arg1)
          ∧ r.2.mem ((c.tc : Thread Cert.SampleReferenceIdeal.nD Cert.SampleReferenceIdeal.τ).loc Cert.SampleReferenceIdeal.main_arg2) = m' ((c.tc : Thread Cert.SampleReferenceIdeal.nD Cert.SampleReferenceIdeal.τ).loc Cert.SampleReferenceIdeal.main_arg2))

def preserves_Conv_ConvIdeal : Prop :=
  True

def algebraic_ConvIdeal_ConvReferenceIdeal_pre_finite [hConvIdeal : Cert.ConvIdeal.Facts] [hConvReferenceIdeal : Cert.ConvReferenceIdeal.Facts] [hPre_finite : Cert.Pre_finite.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvReferenceIdeal.nD Cert.ConvReferenceIdeal.τ Cert.ConvReferenceIdeal.sig) → Buf (Elt Ideal) ℓ) (g' : Dev Cert.ConvReferenceIdeal.nD → PrngReg), Pre_ConvIdeal_finite m →
    (∀ c : Dev Cert.ConvIdeal.nD,
      m' ((c.tc : Thread Cert.ConvReferenceIdeal.nD Cert.ConvReferenceIdeal.τ).loc Cert.ConvReferenceIdeal.main_arg0) = m ((c.tc : Thread Cert.ConvIdeal.nD Cert.ConvIdeal.τ).loc Cert.ConvIdeal.main_arg0)
      ∧ m' ((c.tc : Thread Cert.ConvReferenceIdeal.nD Cert.ConvReferenceIdeal.τ).loc Cert.ConvReferenceIdeal.main_arg1) = m ((c.tc : Thread Cert.ConvIdeal.nD Cert.ConvIdeal.τ).loc Cert.ConvIdeal.main_arg1)
      ∧ m' ((c.tc : Thread Cert.ConvReferenceIdeal.nD Cert.ConvReferenceIdeal.τ).loc Cert.ConvReferenceIdeal.main_arg2) = m ((c.tc : Thread Cert.ConvIdeal.nD Cert.ConvIdeal.τ).loc Cert.ConvIdeal.main_arg2)
      ∧ m' ((c.tc : Thread Cert.ConvReferenceIdeal.nD Cert.ConvReferenceIdeal.τ).loc Cert.ConvReferenceIdeal.main_arg3) = m ((c.tc : Thread Cert.ConvIdeal.nD Cert.ConvIdeal.τ).loc Cert.ConvIdeal.main_arg3)
      ∧ m' ((c.tc : Thread Cert.ConvReferenceIdeal.nD Cert.ConvReferenceIdeal.τ).loc Cert.ConvReferenceIdeal.main_arg4) = m ((c.tc : Thread Cert.ConvIdeal.nD Cert.ConvIdeal.τ).loc Cert.ConvIdeal.main_arg4)
      ∧ m' ((c.tc : Thread Cert.ConvReferenceIdeal.nD Cert.ConvReferenceIdeal.τ).loc Cert.ConvReferenceIdeal.main_arg5) = m ((c.tc : Thread Cert.ConvIdeal.nD Cert.ConvIdeal.τ).loc Cert.ConvIdeal.main_arg5)) →
    ∃ (v0 : (c : Dev Cert.ConvIdeal.nD) → Buf (Elt Ideal) ((c.tc : Thread Cert.ConvIdeal.nD Cert.ConvIdeal.τ).loc Cert.ConvIdeal.main_v18_0)) (v1 : (c : Dev Cert.ConvIdeal.nD) → Buf (Elt Ideal) ((c.tc : Thread Cert.ConvIdeal.nD Cert.ConvIdeal.τ).loc Cert.ConvIdeal.main_v18_1)) (v2 : (c : Dev Cert.ConvIdeal.nD) → Buf (Elt Ideal) ((c.tc : Thread Cert.ConvIdeal.nD Cert.ConvIdeal.τ).loc Cert.ConvIdeal.main_v18_2)) (v3 : (c : Dev Cert.ConvIdeal.nD) → Buf (Elt Ideal) ((c.tc : Thread Cert.ConvIdeal.nD Cert.ConvIdeal.τ).loc Cert.ConvIdeal.main_v18_3)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v18_0) = v0 c
          ∧ r.2.mem ((c.tc : Thread Cert.ConvIdeal.nD Cert.ConvIdeal.τ).loc Cert.ConvIdeal.main_v18_1) = v1 c
          ∧ r.2.mem ((c.tc : Thread Cert.ConvIdeal.nD Cert.ConvIdeal.τ).loc Cert.ConvIdeal.main_v18_2) = v2 c
          ∧ r.2.mem ((c.tc : Thread Cert.ConvIdeal.nD Cert.ConvIdeal.τ).loc Cert.ConvIdeal.main_v18_3) = v3 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
          ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
          ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4)
          ∧ r.2.mem ((c.tc : Thread Cert.ConvIdeal.nD Cert.ConvIdeal.τ).loc Cert.ConvIdeal.main_arg5) = m ((c.tc : Thread Cert.ConvIdeal.nD Cert.ConvIdeal.τ).loc Cert.ConvIdeal.main_arg5))
      ∧ θ_run (Cert.ConvReferenceIdeal.defs (F := Ideal)) (onTc (τ := Cert.ConvReferenceIdeal.τ) (Cert.ConvReferenceIdeal.main (F := Ideal))) ⟨m', fun _ => 0, g'⟩ (fun r => ∀ c : Dev Cert.ConvReferenceIdeal.nD,
          r.2.mem ((c.tc : Thread Cert.ConvReferenceIdeal.nD Cert.ConvReferenceIdeal.τ).loc Cert.ConvReferenceIdeal.main_v77) = v0 c
          ∧ r.2.mem ((c.tc : Thread Cert.ConvReferenceIdeal.nD Cert.ConvReferenceIdeal.τ).loc Cert.ConvReferenceIdeal.main_v78) = v1 c
          ∧ r.2.mem ((c.tc : Thread Cert.ConvReferenceIdeal.nD Cert.ConvReferenceIdeal.τ).loc Cert.ConvReferenceIdeal.main_v79) = v2 c
          ∧ r.2.mem ((c.tc : Thread Cert.ConvReferenceIdeal.nD Cert.ConvReferenceIdeal.τ).loc Cert.ConvReferenceIdeal.main_v76) = v3 c
          ∧ r.2.mem ((c.tc : Thread Cert.ConvReferenceIdeal.nD Cert.ConvReferenceIdeal.τ).loc Cert.ConvReferenceIdeal.main_arg0) = m' ((c.tc : Thread Cert.ConvReferenceIdeal.nD Cert.ConvReferenceIdeal.τ).loc Cert.ConvReferenceIdeal.main_arg0)
          ∧ r.2.mem ((c.tc : Thread Cert.ConvReferenceIdeal.nD Cert.ConvReferenceIdeal.τ).loc Cert.ConvReferenceIdeal.main_arg1) = m' ((c.tc : Thread Cert.ConvReferenceIdeal.nD Cert.ConvReferenceIdeal.τ).loc Cert.ConvReferenceIdeal.main_arg1)
          ∧ r.2.mem ((c.tc : Thread Cert.ConvReferenceIdeal.nD Cert.ConvReferenceIdeal.τ).loc Cert.ConvReferenceIdeal.main_arg2) = m' ((c.tc : Thread Cert.ConvReferenceIdeal.nD Cert.ConvReferenceIdeal.τ).loc Cert.ConvReferenceIdeal.main_arg2)
          ∧ r.2.mem ((c.tc : Thread Cert.ConvReferenceIdeal.nD Cert.ConvReferenceIdeal.τ).loc Cert.ConvReferenceIdeal.main_arg3) = m' ((c.tc : Thread Cert.ConvReferenceIdeal.nD Cert.ConvReferenceIdeal.τ).loc Cert.ConvReferenceIdeal.main_arg3)
          ∧ r.2.mem ((c.tc : Thread Cert.ConvReferenceIdeal.nD Cert.ConvReferenceIdeal.τ).loc Cert.ConvReferenceIdeal.main_arg4) = m' ((c.tc : Thread Cert.ConvReferenceIdeal.nD Cert.ConvReferenceIdeal.τ).loc Cert.ConvReferenceIdeal.main_arg4)
          ∧ r.2.mem ((c.tc : Thread Cert.ConvReferenceIdeal.nD Cert.ConvReferenceIdeal.τ).loc Cert.ConvReferenceIdeal.main_arg5) = m' ((c.tc : Thread Cert.ConvReferenceIdeal.nD Cert.ConvReferenceIdeal.τ).loc Cert.ConvReferenceIdeal.main_arg5))

def preserves_Shift_ShiftIdeal : Prop :=
  True

def algebraic_ShiftIdeal_ShiftReferenceIdeal_pre_finite_rows [hShiftIdeal : Cert.ShiftIdeal.Facts] [hShiftReferenceIdeal : Cert.ShiftReferenceIdeal.Facts] [hPre_finite_rows : Cert.Pre_finite_rows.Facts] : Prop :=
  ∀ (m : (ℓ : Loc Cert.ShiftIdeal.nD Cert.ShiftIdeal.τ Cert.ShiftIdeal.sig) → Buf (Elt Ideal) ℓ) (g : Dev Cert.ShiftIdeal.nD → PrngReg)
    (m' : (ℓ : Loc Cert.ShiftReferenceIdeal.nD Cert.ShiftReferenceIdeal.τ Cert.ShiftReferenceIdeal.sig) → Buf (Elt Ideal) ℓ) (g' : Dev Cert.ShiftReferenceIdeal.nD → PrngReg), Pre_ShiftIdeal_finite_rows m →
    (∀ c : Dev Cert.ShiftIdeal.nD,
      m' ((c.tc : Thread Cert.ShiftReferenceIdeal.nD Cert.ShiftReferenceIdeal.τ).loc Cert.ShiftReferenceIdeal.main_arg0) = m ((c.tc : Thread Cert.ShiftIdeal.nD Cert.ShiftIdeal.τ).loc Cert.ShiftIdeal.main_arg0)
      ∧ m' ((c.tc : Thread Cert.ShiftReferenceIdeal.nD Cert.ShiftReferenceIdeal.τ).loc Cert.ShiftReferenceIdeal.main_arg1) = m ((c.tc : Thread Cert.ShiftIdeal.nD Cert.ShiftIdeal.τ).loc Cert.ShiftIdeal.main_arg1)
      ∧ m' ((c.tc : Thread Cert.ShiftReferenceIdeal.nD Cert.ShiftReferenceIdeal.τ).loc Cert.ShiftReferenceIdeal.main_arg2) = m ((c.tc : Thread Cert.ShiftIdeal.nD Cert.ShiftIdeal.τ).loc Cert.ShiftIdeal.main_arg2)
      ∧ m' ((c.tc : Thread Cert.ShiftReferenceIdeal.nD Cert.ShiftReferenceIdeal.τ).loc Cert.ShiftReferenceIdeal.main_arg3) = m ((c.tc : Thread Cert.ShiftIdeal.nD Cert.ShiftIdeal.τ).loc Cert.ShiftIdeal.main_arg3)
      ∧ m' ((c.tc : Thread Cert.ShiftReferenceIdeal.nD Cert.ShiftReferenceIdeal.τ).loc Cert.ShiftReferenceIdeal.main_arg4) = m ((c.tc : Thread Cert.ShiftIdeal.nD Cert.ShiftIdeal.τ).loc Cert.ShiftIdeal.main_arg4)
      ∧ m' ((c.tc : Thread Cert.ShiftReferenceIdeal.nD Cert.ShiftReferenceIdeal.τ).loc Cert.ShiftReferenceIdeal.main_arg5) = m ((c.tc : Thread Cert.ShiftIdeal.nD Cert.ShiftIdeal.τ).loc Cert.ShiftIdeal.main_arg5)
      ∧ m' ((c.tc : Thread Cert.ShiftReferenceIdeal.nD Cert.ShiftReferenceIdeal.τ).loc Cert.ShiftReferenceIdeal.main_arg6) = m ((c.tc : Thread Cert.ShiftIdeal.nD Cert.ShiftIdeal.τ).loc Cert.ShiftIdeal.main_arg6)
      ∧ m' ((c.tc : Thread Cert.ShiftReferenceIdeal.nD Cert.ShiftReferenceIdeal.τ).loc Cert.ShiftReferenceIdeal.main_arg7) = m ((c.tc : Thread Cert.ShiftIdeal.nD Cert.ShiftIdeal.τ).loc Cert.ShiftIdeal.main_arg7)
      ∧ m' ((c.tc : Thread Cert.ShiftReferenceIdeal.nD Cert.ShiftReferenceIdeal.τ).loc Cert.ShiftReferenceIdeal.main_arg8) = m ((c.tc : Thread Cert.ShiftIdeal.nD Cert.ShiftIdeal.τ).loc Cert.ShiftIdeal.main_arg8)
      ∧ m' ((c.tc : Thread Cert.ShiftReferenceIdeal.nD Cert.ShiftReferenceIdeal.τ).loc Cert.ShiftReferenceIdeal.main_arg9) = m ((c.tc : Thread Cert.ShiftIdeal.nD Cert.ShiftIdeal.τ).loc Cert.ShiftIdeal.main_arg9)) →
    ∃ (v0 : (c : Dev Cert.ShiftIdeal.nD) → Buf (Elt Ideal) ((c.tc : Thread Cert.ShiftIdeal.nD Cert.ShiftIdeal.τ).loc Cert.ShiftIdeal.main_v22_0)) (v1 : (c : Dev Cert.ShiftIdeal.nD) → Buf (Elt Ideal) ((c.tc : Thread Cert.ShiftIdeal.nD Cert.ShiftIdeal.τ).loc Cert.ShiftIdeal.main_v22_1)) (v2 : (c : Dev Cert.ShiftIdeal.nD) → Buf (Elt Ideal) ((c.tc : Thread Cert.ShiftIdeal.nD Cert.ShiftIdeal.τ).loc Cert.ShiftIdeal.main_v22_2)) (v3 : (c : Dev Cert.ShiftIdeal.nD) → Buf (Elt Ideal) ((c.tc : Thread Cert.ShiftIdeal.nD Cert.ShiftIdeal.τ).loc Cert.ShiftIdeal.main_v22_3)) (v4 : (c : Dev Cert.ShiftIdeal.nD) → Buf (Elt Ideal) ((c.tc : Thread Cert.ShiftIdeal.nD Cert.ShiftIdeal.τ).loc Cert.ShiftIdeal.main_v22_4)),
      θ_run (Cert.ShiftIdeal.defs (F := Ideal)) (onTc (τ := Cert.ShiftIdeal.τ) (Cert.ShiftIdeal.main (F := Ideal))) ⟨m, fun _ => 0, g⟩ (fun r => ∀ c : Dev Cert.ShiftIdeal.nD,
          r.2.mem ((c.tc : Thread Cert.ShiftIdeal.nD Cert.ShiftIdeal.τ).loc Cert.ShiftIdeal.main_v22_0) = v0 c
          ∧ r.2.mem ((c.tc : Thread Cert.ShiftIdeal.nD Cert.ShiftIdeal.τ).loc Cert.ShiftIdeal.main_v22_1) = v1 c
          ∧ r.2.mem ((c.tc : Thread Cert.ShiftIdeal.nD Cert.ShiftIdeal.τ).loc Cert.ShiftIdeal.main_v22_2) = v2 c
          ∧ r.2.mem ((c.tc : Thread Cert.ShiftIdeal.nD Cert.ShiftIdeal.τ).loc Cert.ShiftIdeal.main_v22_3) = v3 c
          ∧ r.2.mem ((c.tc : Thread Cert.ShiftIdeal.nD Cert.ShiftIdeal.τ).loc Cert.ShiftIdeal.main_v22_4) = v4 c
          ∧ r.2.mem ((c.tc : Thread Cert.ShiftIdeal.nD Cert.ShiftIdeal.τ).loc Cert.ShiftIdeal.main_arg0) = m ((c.tc : Thread Cert.ShiftIdeal.nD Cert.ShiftIdeal.τ).loc Cert.ShiftIdeal.main_arg0)
          ∧ r.2.mem ((c.tc : Thread Cert.ShiftIdeal.nD Cert.ShiftIdeal.τ).loc Cert.ShiftIdeal.main_arg1) = m ((c.tc : Thread Cert.ShiftIdeal.nD Cert.ShiftIdeal.τ).loc Cert.ShiftIdeal.main_arg1)
          ∧ r.2.mem ((c.tc : Thread Cert.ShiftIdeal.nD Cert.ShiftIdeal.τ).loc Cert.ShiftIdeal.main_arg2) = m ((c.tc : Thread Cert.ShiftIdeal.nD Cert.ShiftIdeal.τ).loc Cert.ShiftIdeal.main_arg2)
          ∧ r.2.mem ((c.tc : Thread Cert.ShiftIdeal.nD Cert.ShiftIdeal.τ).loc Cert.ShiftIdeal.main_arg3) = m ((c.tc : Thread Cert.ShiftIdeal.nD Cert.ShiftIdeal.τ).loc Cert.ShiftIdeal.main_arg3)
          ∧ r.2.mem ((c.tc : Thread Cert.ShiftIdeal.nD Cert.ShiftIdeal.τ).loc Cert.ShiftIdeal.main_arg4) = m ((c.tc : Thread Cert.ShiftIdeal.nD Cert.ShiftIdeal.τ).loc Cert.ShiftIdeal.main_arg4)
          ∧ r.2.mem ((c.tc : Thread Cert.ShiftIdeal.nD Cert.ShiftIdeal.τ).loc Cert.ShiftIdeal.main_arg5) = m ((c.tc : Thread Cert.ShiftIdeal.nD Cert.ShiftIdeal.τ).loc Cert.ShiftIdeal.main_arg5)
          ∧ r.2.mem ((c.tc : Thread Cert.ShiftIdeal.nD Cert.ShiftIdeal.τ).loc Cert.ShiftIdeal.main_arg6) = m ((c.tc : Thread Cert.ShiftIdeal.nD Cert.ShiftIdeal.τ).loc Cert.ShiftIdeal.main_arg6)
          ∧ r.2.mem ((c.tc : Thread Cert.ShiftIdeal.nD Cert.ShiftIdeal.τ).loc Cert.ShiftIdeal.main_arg7) = m ((c.tc : Thread Cert.ShiftIdeal.nD Cert.ShiftIdeal.τ).loc Cert.ShiftIdeal.main_arg7)
          ∧ r.2.mem ((c.tc : Thread Cert.ShiftIdeal.nD Cert.ShiftIdeal.τ).loc Cert.ShiftIdeal.main_arg8) = m ((c.tc : Thread Cert.ShiftIdeal.nD Cert.ShiftIdeal.τ).loc Cert.ShiftIdeal.main_arg8)
          ∧ r.2.mem ((c.tc : Thread Cert.ShiftIdeal.nD Cert.ShiftIdeal.τ).loc Cert.ShiftIdeal.main_arg9) = m ((c.tc : Thread Cert.ShiftIdeal.nD Cert.ShiftIdeal.τ).loc Cert.ShiftIdeal.main_arg9))
      ∧ θ_run (Cert.ShiftReferenceIdeal.defs (F := Ideal)) (onTc (τ := Cert.ShiftReferenceIdeal.τ) (Cert.ShiftReferenceIdeal.main (F := Ideal))) ⟨m', fun _ => 0, g'⟩ (fun r => ∀ c : Dev Cert.ShiftReferenceIdeal.nD,
          r.2.mem ((c.tc : Thread Cert.ShiftReferenceIdeal.nD Cert.ShiftReferenceIdeal.τ).loc Cert.ShiftReferenceIdeal.main_v64) = v0 c
          ∧ r.2.mem ((c.tc : Thread Cert.ShiftReferenceIdeal.nD Cert.ShiftReferenceIdeal.τ).loc Cert.ShiftReferenceIdeal.main_v75) = v1 c
          ∧ r.2.mem ((c.tc : Thread Cert.ShiftReferenceIdeal.nD Cert.ShiftReferenceIdeal.τ).loc Cert.ShiftReferenceIdeal.main_v76) = v2 c
          ∧ r.2.mem ((c.tc : Thread Cert.ShiftReferenceIdeal.nD Cert.ShiftReferenceIdeal.τ).loc Cert.ShiftReferenceIdeal.main_v10) = v3 c
          ∧ r.2.mem ((c.tc : Thread Cert.ShiftReferenceIdeal.nD Cert.ShiftReferenceIdeal.τ).loc Cert.ShiftReferenceIdeal.main_v48) = v4 c
          ∧ r.2.mem ((c.tc : Thread Cert.ShiftReferenceIdeal.nD Cert.ShiftReferenceIdeal.τ).loc Cert.ShiftReferenceIdeal.main_arg0) = m' ((c.tc : Thread Cert.ShiftReferenceIdeal.nD Cert.ShiftReferenceIdeal.τ).loc Cert.ShiftReferenceIdeal.main_arg0)
          ∧ r.2.mem ((c.tc : Thread Cert.ShiftReferenceIdeal.nD Cert.ShiftReferenceIdeal.τ).loc Cert.ShiftReferenceIdeal.main_arg1) = m' ((c.tc : Thread Cert.ShiftReferenceIdeal.nD Cert.ShiftReferenceIdeal.τ).loc Cert.ShiftReferenceIdeal.main_arg1)
          ∧ r.2.mem ((c.tc : Thread Cert.ShiftReferenceIdeal.nD Cert.ShiftReferenceIdeal.τ).loc Cert.ShiftReferenceIdeal.main_arg2) = m' ((c.tc : Thread Cert.ShiftReferenceIdeal.nD Cert.ShiftReferenceIdeal.τ).loc Cert.ShiftReferenceIdeal.main_arg2)
          ∧ r.2.mem ((c.tc : Thread Cert.ShiftReferenceIdeal.nD Cert.ShiftReferenceIdeal.τ).loc Cert.ShiftReferenceIdeal.main_arg3) = m' ((c.tc : Thread Cert.ShiftReferenceIdeal.nD Cert.ShiftReferenceIdeal.τ).loc Cert.ShiftReferenceIdeal.main_arg3)
          ∧ r.2.mem ((c.tc : Thread Cert.ShiftReferenceIdeal.nD Cert.ShiftReferenceIdeal.τ).loc Cert.ShiftReferenceIdeal.main_arg4) = m' ((c.tc : Thread Cert.ShiftReferenceIdeal.nD Cert.ShiftReferenceIdeal.τ).loc Cert.ShiftReferenceIdeal.main_arg4)
          ∧ r.2.mem ((c.tc : Thread Cert.ShiftReferenceIdeal.nD Cert.ShiftReferenceIdeal.τ).loc Cert.ShiftReferenceIdeal.main_arg5) = m' ((c.tc : Thread Cert.ShiftReferenceIdeal.nD Cert.ShiftReferenceIdeal.τ).loc Cert.ShiftReferenceIdeal.main_arg5)
          ∧ r.2.mem ((c.tc : Thread Cert.ShiftReferenceIdeal.nD Cert.ShiftReferenceIdeal.τ).loc Cert.ShiftReferenceIdeal.main_arg6) = m' ((c.tc : Thread Cert.ShiftReferenceIdeal.nD Cert.ShiftReferenceIdeal.τ).loc Cert.ShiftReferenceIdeal.main_arg6)
          ∧ r.2.mem ((c.tc : Thread Cert.ShiftReferenceIdeal.nD Cert.ShiftReferenceIdeal.τ).loc Cert.ShiftReferenceIdeal.main_arg7) = m' ((c.tc : Thread Cert.ShiftReferenceIdeal.nD Cert.ShiftReferenceIdeal.τ).loc Cert.ShiftReferenceIdeal.main_arg7)
          ∧ r.2.mem ((c.tc : Thread Cert.ShiftReferenceIdeal.nD Cert.ShiftReferenceIdeal.τ).loc Cert.ShiftReferenceIdeal.main_arg8) = m' ((c.tc : Thread Cert.ShiftReferenceIdeal.nD Cert.ShiftReferenceIdeal.τ).loc Cert.ShiftReferenceIdeal.main_arg8)
          ∧ r.2.mem ((c.tc : Thread Cert.ShiftReferenceIdeal.nD Cert.ShiftReferenceIdeal.τ).loc Cert.ShiftReferenceIdeal.main_arg9) = m' ((c.tc : Thread Cert.ShiftReferenceIdeal.nD Cert.ShiftReferenceIdeal.τ).loc Cert.ShiftReferenceIdeal.main_arg9))

def Claim : Prop :=
  ∃ (hKernel : Cert.Kernel.Facts) (hKernelIdeal : Cert.KernelIdeal.Facts) (hReferenceIdeal : Cert.ReferenceIdeal.Facts) (hPrompt : Cert.Prompt.Facts) (hPromptIdeal : Cert.PromptIdeal.Facts) (hPromptReferenceIdeal : Cert.PromptReferenceIdeal.Facts) (hSample : Cert.Sample.Facts) (hSampleIdeal : Cert.SampleIdeal.Facts) (hSampleReferenceIdeal : Cert.SampleReferenceIdeal.Facts) (hConv : Cert.Conv.Facts) (hConvIdeal : Cert.ConvIdeal.Facts) (hConvReferenceIdeal : Cert.ConvReferenceIdeal.Facts) (hShift : Cert.Shift.Facts) (hShiftIdeal : Cert.ShiftIdeal.Facts) (hShiftReferenceIdeal : Cert.ShiftReferenceIdeal.Facts) (hPre_finite : Cert.Pre_finite.Facts) (hPre_finite_rows : Cert.Pre_finite_rows.Facts),
    quiescent_Kernel (hKernel := hKernel)
    ∧ quiescent_KernelIdeal (hKernelIdeal := hKernelIdeal)
    ∧ quiescent_ReferenceIdeal (hReferenceIdeal := hReferenceIdeal)
    ∧ quiescent_Prompt (hPrompt := hPrompt)
    ∧ quiescent_PromptIdeal (hPromptIdeal := hPromptIdeal)
    ∧ quiescent_PromptReferenceIdeal (hPromptReferenceIdeal := hPromptReferenceIdeal)
    ∧ quiescent_Sample (hSample := hSample)
    ∧ quiescent_SampleIdeal (hSampleIdeal := hSampleIdeal)
    ∧ quiescent_SampleReferenceIdeal (hSampleReferenceIdeal := hSampleReferenceIdeal)
    ∧ quiescent_Conv (hConv := hConv)
    ∧ quiescent_ConvIdeal (hConvIdeal := hConvIdeal)
    ∧ quiescent_ConvIdeal_pre_finite (hConvIdeal := hConvIdeal) (hPre_finite := hPre_finite)
    ∧ quiescent_ConvReferenceIdeal (hConvReferenceIdeal := hConvReferenceIdeal)
    ∧ quiescent_ConvReferenceIdeal_pre_finite (hConvReferenceIdeal := hConvReferenceIdeal) (hPre_finite := hPre_finite)
    ∧ quiescent_Shift (hShift := hShift)
    ∧ quiescent_ShiftIdeal (hShiftIdeal := hShiftIdeal)
    ∧ quiescent_ShiftIdeal_pre_finite_rows (hShiftIdeal := hShiftIdeal) (hPre_finite_rows := hPre_finite_rows)
    ∧ quiescent_ShiftReferenceIdeal (hShiftReferenceIdeal := hShiftReferenceIdeal)
    ∧ quiescent_ShiftReferenceIdeal_pre_finite_rows (hShiftReferenceIdeal := hShiftReferenceIdeal) (hPre_finite_rows := hPre_finite_rows)
    ∧ preserves_Kernel_KernelIdeal
    ∧ algebraic_KernelIdeal_ReferenceIdeal (hKernelIdeal := hKernelIdeal) (hReferenceIdeal := hReferenceIdeal)
    ∧ preserves_Prompt_PromptIdeal
    ∧ algebraic_PromptIdeal_PromptReferenceIdeal (hPromptIdeal := hPromptIdeal) (hPromptReferenceIdeal := hPromptReferenceIdeal)
    ∧ preserves_Sample_SampleIdeal
    ∧ algebraic_SampleIdeal_SampleReferenceIdeal (hSampleIdeal := hSampleIdeal) (hSampleReferenceIdeal := hSampleReferenceIdeal)
    ∧ preserves_Conv_ConvIdeal
    ∧ algebraic_ConvIdeal_ConvReferenceIdeal_pre_finite (hConvIdeal := hConvIdeal) (hConvReferenceIdeal := hConvReferenceIdeal) (hPre_finite := hPre_finite)
    ∧ preserves_Shift_ShiftIdeal
    ∧ algebraic_ShiftIdeal_ShiftReferenceIdeal_pre_finite_rows (hShiftIdeal := hShiftIdeal) (hShiftReferenceIdeal := hShiftReferenceIdeal) (hPre_finite_rows := hPre_finite_rows)
-- ==== Pre_finite.lean ====
abbrev S512x1536 : Shape := ⟨2, ![512, 1536]⟩
abbrev S512x128 : Shape := ⟨2, ![512, 128]⟩
abbrev S1x128x3x1536 : Shape := ⟨4, ![1, 128, 3, 1536]⟩
abbrev S1x4x1536 : Shape := ⟨3, ![1, 4, 1536]⟩
abbrev S1x4 : Shape := ⟨2, ![1, 4]⟩
abbrev S_ : Shape := ⟨0, ![]⟩

class Facts : Prop where
  bcast_S_S512x1536 : S_.BroadcastsInDim S512x1536 (![] : Fin 0 → Fin S512x1536.rank)
  reducesTo_S512x1536_S_d0_1 : S512x1536.ReducesTo [0, 1] S_
  h_S_ : 0 < S_.numel
  bcast_S_S1x128x3x1536 : S_.BroadcastsInDim S1x128x3x1536 (![] : Fin 0 → Fin S1x128x3x1536.rank)
  reducesTo_S1x128x3x1536_S_d0_1_2_3 : S1x128x3x1536.ReducesTo [0, 1, 2, 3] S_
  bcast_S_S1x4x1536 : S_.BroadcastsInDim S1x4x1536 (![] : Fin 0 → Fin S1x4x1536.rank)
  reducesTo_S1x4x1536_S_d0_1_2 : S1x4x1536.ReducesTo [0, 1, 2] S_

variable [Facts]

def fn {F : FTy → Type} [FloatOps F] (main_arg0 : FVec F S512x1536 .f32) (main_arg1 : FVec F S512x128 .f32) (main_arg2 : FVec F S1x128x3x1536 .f32) (main_arg3 : FVec F S1x4x1536 .f32) (main_arg4 : FVec F S1x4 .f32) (main_arg5 : FVec F S1x4 .f32) : IVec S_ 1 :=
  let main_v0 : FVec F S512x1536 .f32 := Host.absf main_arg0
  let main_cst : FVec F S_ .f32 := constant S_ .f32 0x7F800000#32
  let main_v1 : FVec F S512x1536 .f32 := broadcastInDim S512x1536 ![] bcast_S_S512x1536 main_cst
  let main_v2 : IVec S512x1536 1 := cmpf .olt main_v0 main_v1
  let main_c : IVec S_ 1 := constantI S_ 1 1#1
  let main_v3 : IVec S_ 1 := (fun x v => Host.reduce IntOp.andi x v reducesTo_S512x1536_S_d0_1 h_S_) main_v2 main_c
  let main_v4 : FVec F S1x128x3x1536 .f32 := Host.absf main_arg2
  let main_cst_0 : FVec F S_ .f32 := constant S_ .f32 0x7F800000#32
  let main_v5 : FVec F S1x128x3x1536 .f32 := broadcastInDim S1x128x3x1536 ![] bcast_S_S1x128x3x1536 main_cst_0
  let main_v6 : IVec S1x128x3x1536 1 := cmpf .olt main_v4 main_v5
  let main_c_1 : IVec S_ 1 := constantI S_ 1 1#1
  let main_v7 : IVec S_ 1 := (fun x v => Host.reduce IntOp.andi x v reducesTo_S1x128x3x1536_S_d0_1_2_3 h_S_) main_v6 main_c_1
  let main_v8 : IVec S_ 1 := andi main_v3 main_v7
  let main_v9 : FVec F S1x4x1536 .f32 := Host.absf main_arg3
  let main_cst_2 : FVec F S_ .f32 := constant S_ .f32 0x7F800000#32
  let main_v10 : FVec F S1x4x1536 .f32 := broadcastInDim S1x4x1536 ![] bcast_S_S1x4x1536 main_cst_2
  let main_v11 : IVec S1x4x1536 1 := cmpf .olt main_v9 main_v10
  let main_c_3 : IVec S_ 1 := constantI S_ 1 1#1
  let main_v12 : IVec S_ 1 := (fun x v => Host.reduce IntOp.andi x v reducesTo_S1x4x1536_S_d0_1_2 h_S_) main_v11 main_c_3
  let main_v13 : IVec S_ 1 := andi main_v8 main_v12
  main_v13
-- ==== Pre_finite_rows.lean ====
abbrev S512x1792 : Shape := ⟨2, ![512, 1792]⟩
abbrev S128x1792 : Shape := ⟨2, ![128, 1792]⟩
abbrev S1x1792 : Shape := ⟨2, ![1, 1792]⟩
abbrev S1x512 : Shape := ⟨2, ![1, 512]⟩
abbrev S1x64x512 : Shape := ⟨3, ![1, 64, 512]⟩
abbrev S1x128x512 : Shape := ⟨3, ![1, 128, 512]⟩
abbrev S_ : Shape := ⟨0, ![]⟩

class Facts : Prop where
  bcast_S_S512x1792 : S_.BroadcastsInDim S512x1792 (![] : Fin 0 → Fin S512x1792.rank)
  reducesTo_S512x1792_S_d0_1 : S512x1792.ReducesTo [0, 1] S_
  h_S_ : 0 < S_.numel
  bcast_S_S128x1792 : S_.BroadcastsInDim S128x1792 (![] : Fin 0 → Fin S128x1792.rank)
  reducesTo_S128x1792_S_d0_1 : S128x1792.ReducesTo [0, 1] S_
  bcast_S_S1x1792 : S_.BroadcastsInDim S1x1792 (![] : Fin 0 → Fin S1x1792.rank)
  reducesTo_S1x1792_S_d0_1 : S1x1792.ReducesTo [0, 1] S_
  bcast_S_S1x64x512 : S_.BroadcastsInDim S1x64x512 (![] : Fin 0 → Fin S1x64x512.rank)
  reducesTo_S1x64x512_S_d0_1_2 : S1x64x512.ReducesTo [0, 1, 2] S_
  bcast_S_S1x128x512 : S_.BroadcastsInDim S1x128x512 (![] : Fin 0 → Fin S1x128x512.rank)
  reducesTo_S1x128x512_S_d0_1_2 : S1x128x512.ReducesTo [0, 1, 2] S_
  bcast_S_S1x512 : S_.BroadcastsInDim S1x512 (![] : Fin 0 → Fin S1x512.rank)
  reducesTo_S1x512_S_d0_1 : S1x512.ReducesTo [0, 1] S_

variable [Facts]

def fn_part1 {F : FTy → Type} [FloatOps F] (main_arg6 : FVec F S1x64x512 .f32) (main_arg7 : FVec F S1x128x512 .f32) (main_arg8 : FVec F S1x512 .f32) (main_v13 : IVec S_ 1) (main_v16 : IVec S1x64x512 1) : IVec S_ 1 :=
  let main_c_5 : IVec S_ 1 := constantI S_ 1 1#1
  let main_v17 : IVec S_ 1 := (fun x v => Host.reduce IntOp.andi x v reducesTo_S1x64x512_S_d0_1_2 h_S_) main_v16 main_c_5
  let main_v18 : IVec S_ 1 := andi main_v13 main_v17
  let main_v19 : FVec F S1x64x512 .f32 := Host.absf main_arg6
  let main_cst_6 : FVec F S_ .f32 := constant S_ .f32 0x7F800000#32
  let main_v20 : FVec F S1x64x512 .f32 := broadcastInDim S1x64x512 ![] bcast_S_S1x64x512 main_cst_6
  let main_v21 : IVec S1x64x512 1 := cmpf .olt main_v19 main_v20
  let main_c_7 : IVec S_ 1 := constantI S_ 1 1#1
  let main_v22 : IVec S_ 1 := (fun x v => Host.reduce IntOp.andi x v reducesTo_S1x64x512_S_d0_1_2 h_S_) main_v21 main_c_7
  let main_v23 : IVec S_ 1 := andi main_v18 main_v22
  let main_v24 : FVec F S1x128x512 .f32 := Host.absf main_arg7
  let main_cst_8 : FVec F S_ .f32 := constant S_ .f32 0x7F800000#32
  let main_v25 : FVec F S1x128x512 .f32 := broadcastInDim S1x128x512 ![] bcast_S_S1x128x512 main_cst_8
  let main_v26 : IVec S1x128x512 1 := cmpf .olt main_v24 main_v25
  let main_c_9 : IVec S_ 1 := constantI S_ 1 1#1
  let main_v27 : IVec S_ 1 := (fun x v => Host.reduce IntOp.andi x v reducesTo_S1x128x512_S_d0_1_2 h_S_) main_v26 main_c_9
  let main_v28 : IVec S_ 1 := andi main_v23 main_v27
  let main_v29 : FVec F S1x512 .f32 := Host.absf main_arg8
  let main_cst_10 : FVec F S_ .f32 := constant S_ .f32 0x7F800000#32
  let main_v30 : FVec F S1x512 .f32 := broadcastInDim S1x512 ![] bcast_S_S1x512 main_cst_10
  let main_v31 : IVec S1x512 1 := cmpf .olt main_v29 main_v30
  let main_c_11 : IVec S_ 1 := constantI S_ 1 1#1
  let main_v32 : IVec S_ 1 := (fun x v => Host.reduce IntOp.andi x v reducesTo_S1x512_S_d0_1 h_S_) main_v31 main_c_11
  let main_v33 : IVec S_ 1 := andi main_v28 main_v32
  main_v33

def fn {F : FTy → Type} [FloatOps F] (main_arg0 : FVec F S512x1792 .f32) (main_arg1 : FVec F S128x1792 .f32) (main_arg2 : FVec F S1x1792 .f32) (main_arg3 : FVec F S1x512 .f32) (main_arg4 : FVec F S1x64x512 .f32) (main_arg5 : FVec F S1x512 .f32) (main_arg6 : FVec F S1x64x512 .f32) (main_arg7 : FVec F S1x128x512 .f32) (main_arg8 : FVec F S1x512 .f32) (main_arg9 : FVec F S1x512 .f32) : IVec S_ 1 :=
  let main_v0 : FVec F S512x1792 .f32 := Host.absf main_arg0
  let main_cst : FVec F S_ .f32 := constant S_ .f32 0x7F800000#32
  let main_v1 : FVec F S512x1792 .f32 := broadcastInDim S512x1792 ![] bcast_S_S512x1792 main_cst
  let main_v2 : IVec S512x1792 1 := cmpf .olt main_v0 main_v1
  let main_c : IVec S_ 1 := constantI S_ 1 1#1
  let main_v3 : IVec S_ 1 := (fun x v => Host.reduce IntOp.andi x v reducesTo_S512x1792_S_d0_1 h_S_) main_v2 main_c
  let main_v4 : FVec F S128x1792 .f32 := Host.absf main_arg1
  let main_cst_0 : FVec F S_ .f32 := constant S_ .f32 0x7F800000#32
  let main_v5 : FVec F S128x1792 .f32 := broadcastInDim S128x1792 ![] bcast_S_S128x1792 main_cst_0
  let main_v6 : IVec S128x1792 1 := cmpf .olt main_v4 main_v5
  let main_c_1 : IVec S_ 1 := constantI S_ 1 1#1
  let main_v7 : IVec S_ 1 := (fun x v => Host.reduce IntOp.andi x v reducesTo_S128x1792_S_d0_1 h_S_) main_v6 main_c_1
  let main_v8 : IVec S_ 1 := andi main_v3 main_v7
  let main_v9 : FVec F S1x1792 .f32 := Host.absf main_arg2
  let main_cst_2 : FVec F S_ .f32 := constant S_ .f32 0x7F800000#32
  let main_v10 : FVec F S1x1792 .f32 := broadcastInDim S1x1792 ![] bcast_S_S1x1792 main_cst_2
  let main_v11 : IVec S1x1792 1 := cmpf .olt main_v9 main_v10
  let main_c_3 : IVec S_ 1 := constantI S_ 1 1#1
  let main_v12 : IVec S_ 1 := (fun x v => Host.reduce IntOp.andi x v reducesTo_S1x1792_S_d0_1 h_S_) main_v11 main_c_3
  let main_v13 : IVec S_ 1 := andi main_v8 main_v12
  let main_v14 : FVec F S1x64x512 .f32 := Host.absf main_arg4
  let main_cst_4 : FVec F S_ .f32 := constant S_ .f32 0x7F800000#32
  let main_v15 : FVec F S1x64x512 .f32 := broadcastInDim S1x64x512 ![] bcast_S_S1x64x512 main_cst_4
  let main_v16 : IVec S1x64x512 1 := cmpf .olt main_v14 main_v15
  fn_part1 (F := F) main_arg6 main_arg7 main_arg8 main_v13 main_v16
-- ==== Kernel.lean ====
abbrev S41984x1024 : Shape := ⟨2, ![41984, 1024]⟩
abbrev S32 : Shape := ⟨1, ![32]⟩
abbrev S32x1024x512 : Shape := ⟨3, ![32, 1024, 512]⟩
abbrev S32x512x1024 : Shape := ⟨3, ![32, 512, 1024]⟩
abbrev S_ : Shape := ⟨0, ![]⟩
abbrev S32x1 : Shape := ⟨2, ![32, 1]⟩
abbrev S1x32 : Shape := ⟨2, ![1, 32]⟩
abbrev S32x32 : Shape := ⟨2, ![32, 32]⟩
abbrev S164 : Shape := ⟨1, ![164]⟩
abbrev S164x1 : Shape := ⟨2, ![164, 1]⟩
abbrev S164x32 : Shape := ⟨2, ![164, 32]⟩
abbrev S256x1024 : Shape := ⟨2, ![256, 1024]⟩
abbrev S1x1024x512 : Shape := ⟨3, ![1, 1024, 512]⟩
abbrev S1 : Shape := ⟨1, ![1]⟩
abbrev S1x512x1024 : Shape := ⟨3, ![1, 512, 1024]⟩
abbrev S1024x512 : Shape := ⟨2, ![1024, 512]⟩
abbrev S256x512 : Shape := ⟨2, ![256, 512]⟩
abbrev S512x1024 : Shape := ⟨2, ![512, 1024]⟩

abbrev nBuf : Space → Nat
  | .hbm => 76
  | .vmem => 10
  | .smem => 2
  | _ => 0

abbrev bufTy : (tb : Table) → Fin (tcTables nBuf tb) → BufTy
  | .hbm, ⟨0, _⟩ => ⟨S41984x1024, .f32⟩
  | .hbm, ⟨1, _⟩ => ⟨S32, .i32⟩
  | .hbm, ⟨2, _⟩ => ⟨S32x1024x512, .f32⟩
  | .hbm, ⟨3, _⟩ => ⟨S32x1024x512, .f32⟩
  | .hbm, ⟨4, _⟩ => ⟨S32x512x1024, .f32⟩
  | .hbm, ⟨5, _⟩ => ⟨S32, .i32⟩
  | .hbm, ⟨6, _⟩ => ⟨S_, .i32⟩
  | .hbm, ⟨7, _⟩ => ⟨S32, .i32⟩
  | .hbm, ⟨8, _⟩ => ⟨S32, .i32⟩
  | .hbm, ⟨9, _⟩ => ⟨S_, .i32⟩
  | .hbm, ⟨10, _⟩ => ⟨S32, .i32⟩
  | .hbm, ⟨11, _⟩ => ⟨S32, .i32⟩
  | .hbm, ⟨12, _⟩ => ⟨S_, .i32⟩
  | .hbm, ⟨13, _⟩ => ⟨S_, .i32⟩
  | .hbm, ⟨14, _⟩ => ⟨S32, .i32⟩
  | .hbm, ⟨15, _⟩ => ⟨S32, .i32⟩
  | .hbm, ⟨16, _⟩ => ⟨S32, .i32⟩
  | .hbm, ⟨17, _⟩ => ⟨S_, .i32⟩
  | .hbm, ⟨18, _⟩ => ⟨S32, .i32⟩
  | .hbm, ⟨19, _⟩ => ⟨S32, .i1⟩
  | .hbm, ⟨20, _⟩ => ⟨S32, .i32⟩
  | .hbm, ⟨21, _⟩ => ⟨S32, .i32⟩
  | .hbm, ⟨22, _⟩ => ⟨S_, .i32⟩
  | .hbm, ⟨23, _⟩ => ⟨S32, .i32⟩
  | .hbm, ⟨24, _⟩ => ⟨S32, .i1⟩
  | .hbm, ⟨25, _⟩ => ⟨S32, .i1⟩
  | .hbm, ⟨26, _⟩ => ⟨S_, .i32⟩
  | .hbm, ⟨27, _⟩ => ⟨S32, .i32⟩
  | .hbm, ⟨28, _⟩ => ⟨S32, .i32⟩
  | .hbm, ⟨29, _⟩ => ⟨S32, .i32⟩
  | .hbm, ⟨30, _⟩ => ⟨S_, .i32⟩
  | .hbm, ⟨31, _⟩ => ⟨S32, .i32⟩
  | .hbm, ⟨32, _⟩ => ⟨S32, .i32⟩
  | .hbm, ⟨33, _⟩ => ⟨S32x1, .i32⟩
  | .hbm, ⟨34, _⟩ => ⟨S1x32, .i32⟩
  | .hbm, ⟨35, _⟩ => ⟨S32x32, .i32⟩
  | .hbm, ⟨36, _⟩ => ⟨S32x32, .i32⟩
  | .hbm, ⟨37, _⟩ => ⟨S32x32, .i1⟩
  | .hbm, ⟨38, _⟩ => ⟨S1x32, .i32⟩
  | .hbm, ⟨39, _⟩ => ⟨S_, .i32⟩
  | .hbm, ⟨40, _⟩ => ⟨S_, .i32⟩
  | .hbm, ⟨41, _⟩ => ⟨S32x32, .i32⟩
  | .hbm, ⟨42, _⟩ => ⟨S32x32, .i32⟩
  | .hbm, ⟨43, _⟩ => ⟨S32x32, .i32⟩
  | .hbm, ⟨44, _⟩ => ⟨S_, .i32⟩
  | .hbm, ⟨45, _⟩ => ⟨S32, .i32⟩
  | .hbm, ⟨46, _⟩ => ⟨S164, .i32⟩
  | .hbm, ⟨47, _⟩ => ⟨S_, .i32⟩
  | .hbm, ⟨48, _⟩ => ⟨S164, .i32⟩
  | .hbm, ⟨49, _⟩ => ⟨S164, .i32⟩
  | .hbm, ⟨50, _⟩ => ⟨S_, .i32⟩
  | .hbm, ⟨51, _⟩ => ⟨S_, .i32⟩
  | .hbm, ⟨52, _⟩ => ⟨S164, .i32⟩
  | .hbm, ⟨53, _⟩ => ⟨S164, .i1⟩
  | .hbm, ⟨54, _⟩ => ⟨S164x1, .i32⟩
  | .hbm, ⟨55, _⟩ => ⟨S1x32, .i32⟩
  | .hbm, ⟨56, _⟩ => ⟨S164x32, .i32⟩
  | .hbm, ⟨57, _⟩ => ⟨S164x32, .i32⟩
  | .hbm, ⟨58, _⟩ => ⟨S164x32, .i1⟩
  | .hbm, ⟨59, _⟩ => ⟨S164x32, .i32⟩
  | .hbm, ⟨60, _⟩ => ⟨S_, .i32⟩
  | .hbm, ⟨61, _⟩ => ⟨S164, .i32⟩
  | .hbm, ⟨62, _⟩ => ⟨S_, .i32⟩
  | .hbm, ⟨63, _⟩ => ⟨S32, .i32⟩
  | .hbm, ⟨64, _⟩ => ⟨S32, .i1⟩
  | .hbm, ⟨65, _⟩ => ⟨S_, .i32⟩
  | .hbm, ⟨66, _⟩ => ⟨S_, .i32⟩
  | .hbm, ⟨67, _⟩ => ⟨S32, .i32⟩
  | .hbm, ⟨68, _⟩ => ⟨S32, .i32⟩
  | .hbm, ⟨69, _⟩ => ⟨S_, .i32⟩
  | .hbm, ⟨70, _⟩ => ⟨S_, .i32⟩
  | .hbm, ⟨71, _⟩ => ⟨S_, .i32⟩
  | .hbm, ⟨72, _⟩ => ⟨S164, .i32⟩
  | .hbm, ⟨73, _⟩ => ⟨S164, .i1⟩
  | .hbm, ⟨74, _⟩ => ⟨S164, .i32⟩
  | .hbm, ⟨75, _⟩ => ⟨S41984x1024, .f32⟩
  | .local _ .vmem, ⟨0, _⟩ => ⟨S256x1024, .f32⟩
  | .local _ .vmem, ⟨1, _⟩ => ⟨S256x1024, .f32⟩
  | .local _ .vmem, ⟨2, _⟩ => ⟨S1x1024x512, .f32⟩
  | .local _ .vmem, ⟨3, _⟩ => ⟨S1x1024x512, .f32⟩
  | .local _ .vmem, ⟨4, _⟩ => ⟨S1x1024x512, .f32⟩
  | .local _ .vmem, ⟨5, _⟩ => ⟨S1x1024x512, .f32⟩
  | .local _ .vmem, ⟨6, _⟩ => ⟨S1x512x1024, .f32⟩
  | .local _ .vmem, ⟨7, _⟩ => ⟨S1x512x1024, .f32⟩
  | .local _ .vmem, ⟨8, _⟩ => ⟨S256x1024, .f32⟩
  | .local _ .vmem, ⟨9, _⟩ => ⟨S256x1024, .f32⟩
  | .local _ .smem, ⟨0, _⟩ => ⟨S164, .i32⟩
  | .local _ .smem, ⟨1, _⟩ => ⟨S164, .i32⟩
  | _, _ => ⟨S41984x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_c_1 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_c : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_0 : Ref sig .tc := ⟨.hbm, 26, rfl⟩
abbrev main_call0_v12 : Ref sig .tc := ⟨.hbm, 27, rfl⟩
abbrev main_call0_v13 : Ref sig .tc := ⟨.hbm, 28, rfl⟩
abbrev main_v5 : Ref sig .tc := ⟨.hbm, 29, rfl⟩
abbrev main_c_2 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_c_3 : Ref sig .tc := ⟨.hbm, 39, rfl⟩
abbrev main_call1_v0 : Ref sig .tc := ⟨.hbm, 40, rfl⟩
abbrev main_call1_v1 : Ref sig .tc := ⟨.hbm, 41, rfl⟩
abbrev main_call1_v2 : Ref sig .tc := ⟨.hbm, 42, rfl⟩
abbrev main_v14 : Ref sig .tc := ⟨.hbm, 43, rfl⟩
abbrev main_c_4 : Ref sig .tc := ⟨.hbm, 44, rfl⟩
abbrev main_v15 : Ref sig .tc := ⟨.hbm, 45, rfl⟩
abbrev main_v16 : Ref sig .tc := ⟨.hbm, 46, rfl⟩
abbrev main_c_5 : Ref sig .tc := ⟨.hbm, 47, rfl⟩
abbrev main_v17 : Ref sig .tc := ⟨.hbm, 48, rfl⟩
abbrev main_v18 : Ref sig .tc := ⟨.hbm, 49, rfl⟩
abbrev main_c_6 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_c_7 : Ref sig .tc := ⟨.hbm, 60, rfl⟩
abbrev main_v29 : Ref sig .tc := ⟨.hbm, 61, rfl⟩
abbrev main_c_8 : Ref sig .tc := ⟨.hbm, 62, rfl⟩
abbrev main_v30 : Ref sig .tc := ⟨.hbm, 63, rfl⟩
abbrev main_v31 : Ref sig .tc := ⟨.hbm, 64, rfl⟩
abbrev main_c_9 : Ref sig .tc := ⟨.hbm, 65, rfl⟩
abbrev main_call2_v0 : Ref sig .tc := ⟨.hbm, 66, rfl⟩
abbrev main_call2_v1 : Ref sig .tc := ⟨.hbm, 67, rfl⟩
abbrev main_v32 : Ref sig .tc := ⟨.hbm, 68, rfl⟩
abbrev main_c_10 : Ref sig .tc := ⟨.hbm, 69, rfl⟩
abbrev main_v33 : Ref sig .tc := ⟨.hbm, 70, rfl⟩
abbrev main_c_11 : Ref sig .tc := ⟨.hbm, 71, rfl⟩
abbrev main_v34 : Ref sig .tc := ⟨.hbm, 72, rfl⟩
abbrev main_v35 : Ref sig .tc := ⟨.hbm, 73, rfl⟩
abbrev main_call3_v0 : Ref sig .tc := ⟨.hbm, 74, rfl⟩
abbrev main_v37 : Ref sig .tc := ⟨.hbm, 75, rfl⟩
abbrev main_v36 : Ref sig .tc := ⟨.smem, 0, rfl⟩
abbrev main_v22 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![164], ![false]⟩

abbrev pre0 : Pipeline.Prefetch sig := ⟨2, ![main_v36.idx, main_v22.idx], fun | 0 => main_v36.names | 1 => main_v22.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let v5 : Index := Scalar.indexCast arg0
  ![v5.toNat]
def k0_cond1 (v1 : BitVec 32) : BitVec 1 :=
  let c1_i32 : BitVec 32 := 1#32
  let v2 : BitVec 1 := Scalar.cmpi .eq v1 c1_i32
  let v3 : BitVec 32 := Scalar.extui v2
  let c0_i32 : BitVec 32 := 0#32
  let v4 : BitVec 1 := Scalar.cmpi .ne v3 c0_i32
  v4

def k0_cond2 (v6 : BitVec 32) : BitVec 1 :=
  let c0_i32_0 : BitVec 32 := 0#32
  let v7 : BitVec 1 := Scalar.cmpi .eq v6 c0_i32_0
  let v8 : BitVec 32 := Scalar.extui v7
  let c0_i32_1 : BitVec 32 := 0#32
  let v9 : BitVec 1 := Scalar.cmpi .ne v8 c0_i32_1
  v9

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S164.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S164) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S164.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S164) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S164.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S164) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S41984x1024 : Shape := ⟨2, ![41984, 1024]⟩
abbrev S32 : Shape := ⟨1, ![32]⟩
abbrev S32x1024x512 : Shape := ⟨3, ![32, 1024, 512]⟩
abbrev S32x512x1024 : Shape := ⟨3, ![32, 512, 1024]⟩
abbrev S_ : Shape := ⟨0, ![]⟩
abbrev S41984 : Shape := ⟨1, ![41984]⟩
abbrev S41984x1 : Shape := ⟨2, ![41984, 1]⟩
abbrev S1x32 : Shape := ⟨2, ![1, 32]⟩
abbrev S41984x32 : Shape := ⟨2, ![41984, 32]⟩
abbrev S1 : Shape := ⟨1, ![1]⟩
abbrev S32x512x41984 : Shape := ⟨3, ![32, 512, 41984]⟩
abbrev S32x41984x512 : Shape := ⟨3, ![32, 41984, 512]⟩
abbrev S32x41984 : Shape := ⟨2, ![32, 41984]⟩
abbrev S32x41984x1 : Shape := ⟨3, ![32, 41984, 1]⟩
abbrev S32x41984x1024 : Shape := ⟨3, ![32, 41984, 1024]⟩

abbrev nBuf : Space → Nat
  | .hbm => 80
  | .vmem => 0
  | .smem => 0
  | _ => 0

abbrev bufTy : (tb : Table) → Fin (tcTables nBuf tb) → BufTy
  | .hbm, ⟨0, _⟩ => ⟨S41984x1024, .f32⟩
  | .hbm, ⟨1, _⟩ => ⟨S32, .i32⟩
  | .hbm, ⟨2, _⟩ => ⟨S32x1024x512, .f32⟩
  | .hbm, ⟨3, _⟩ => ⟨S32x1024x512, .f32⟩
  | .hbm, ⟨4, _⟩ => ⟨S32x512x1024, .f32⟩
  | .hbm, ⟨5, _⟩ => ⟨S_, .i32⟩
  | .hbm, ⟨6, _⟩ => ⟨S32, .i32⟩
  | .hbm, ⟨7, _⟩ => ⟨S32, .i32⟩
  | .hbm, ⟨8, _⟩ => ⟨S_, .i32⟩
  | .hbm, ⟨9, _⟩ => ⟨S32, .i32⟩
  | .hbm, ⟨10, _⟩ => ⟨S32, .i32⟩
  | .hbm, ⟨11, _⟩ => ⟨S_, .i32⟩
  | .hbm, ⟨12, _⟩ => ⟨S_, .i32⟩
  | .hbm, ⟨13, _⟩ => ⟨S32, .i32⟩
  | .hbm, ⟨14, _⟩ => ⟨S32, .i32⟩
  | .hbm, ⟨15, _⟩ => ⟨S32, .i32⟩
  | .hbm, ⟨16, _⟩ => ⟨S_, .i32⟩
  | .hbm, ⟨17, _⟩ => ⟨S32, .i32⟩
  | .hbm, ⟨18, _⟩ => ⟨S32, .i1⟩
  | .hbm, ⟨19, _⟩ => ⟨S32, .i32⟩
  | .hbm, ⟨20, _⟩ => ⟨S32, .i32⟩
  | .hbm, ⟨21, _⟩ => ⟨S_, .i32⟩
  | .hbm, ⟨22, _⟩ => ⟨S32, .i32⟩
  | .hbm, ⟨23, _⟩ => ⟨S32, .i1⟩
  | .hbm, ⟨24, _⟩ => ⟨S32, .i1⟩
  | .hbm, ⟨25, _⟩ => ⟨S_, .i32⟩
  | .hbm, ⟨26, _⟩ => ⟨S32, .i32⟩
  | .hbm, ⟨27, _⟩ => ⟨S32, .i32⟩
  | .hbm, ⟨28, _⟩ => ⟨S32, .i32⟩
  | .hbm, ⟨29, _⟩ => ⟨S_, .i32⟩
  | .hbm, ⟨30, _⟩ => ⟨S32, .i32⟩
  | .hbm, ⟨31, _⟩ => ⟨S32, .i32⟩
  | .hbm, ⟨32, _⟩ => ⟨S_, .i32⟩
  | .hbm, ⟨33, _⟩ => ⟨S_, .i32⟩
  | .hbm, ⟨34, _⟩ => ⟨S32, .i32⟩
  | .hbm, ⟨35, _⟩ => ⟨S41984, .i32⟩
  | .hbm, ⟨36, _⟩ => ⟨S41984x1, .i32⟩
  | .hbm, ⟨37, _⟩ => ⟨S1x32, .i32⟩
  | .hbm, ⟨38, _⟩ => ⟨S41984x32, .i32⟩
  | .hbm, ⟨39, _⟩ => ⟨S41984x32, .i32⟩
  | .hbm, ⟨40, _⟩ => ⟨S41984x32, .i1⟩
  | .hbm, ⟨41, _⟩ => ⟨S41984x32, .i32⟩
  | .hbm, ⟨42, _⟩ => ⟨S_, .i32⟩
  | .hbm, ⟨43, _⟩ => ⟨S41984, .i32⟩
  | .hbm, ⟨44, _⟩ => ⟨S1, .i32⟩
  | .hbm, ⟨45, _⟩ => ⟨S_, .i32⟩
  | .hbm, ⟨46, _⟩ => ⟨S41984x1, .i32⟩
  | .hbm, ⟨47, _⟩ => ⟨S41984x1, .i1⟩
  | .hbm, ⟨48, _⟩ => ⟨S41984x1, .i32⟩
  | .hbm, ⟨49, _⟩ => ⟨S1x32, .i32⟩
  | .hbm, ⟨50, _⟩ => ⟨S41984x32, .i32⟩
  | .hbm, ⟨51, _⟩ => ⟨S41984x32, .i32⟩
  | .hbm, ⟨52, _⟩ => ⟨S41984x32, .i1⟩
  | .hbm, ⟨53, _⟩ => ⟨S41984x32, .f32⟩
  | .hbm, ⟨54, _⟩ => ⟨S_, .f32⟩
  | .hbm, ⟨55, _⟩ => ⟨S_, .f32⟩
  | .hbm, ⟨56, _⟩ => ⟨S41984x32, .i1⟩
  | .hbm, ⟨57, _⟩ => ⟨S41984x32, .f32⟩
  | .hbm, ⟨58, _⟩ => ⟨S41984x32, .f32⟩
  | .hbm, ⟨59, _⟩ => ⟨S32x512x41984, .f32⟩
  | .hbm, ⟨60, _⟩ => ⟨S32x41984x512, .f32⟩
  | .hbm, ⟨61, _⟩ => ⟨S32x41984x512, .f32⟩
  | .hbm, ⟨62, _⟩ => ⟨S32x41984x512, .f32⟩
  | .hbm, ⟨63, _⟩ => ⟨S_, .f32⟩
  | .hbm, ⟨64, _⟩ => ⟨S32x41984x512, .f32⟩
  | .hbm, ⟨65, _⟩ => ⟨S32x41984x512, .f32⟩
  | .hbm, ⟨66, _⟩ => ⟨S_, .f32⟩
  | .hbm, ⟨67, _⟩ => ⟨S32x41984x512, .f32⟩
  | .hbm, ⟨68, _⟩ => ⟨S32x41984x512, .f32⟩
  | .hbm, ⟨69, _⟩ => ⟨S32x41984x512, .f32⟩
  | .hbm, ⟨70, _⟩ => ⟨S32x512x41984, .f32⟩
  | .hbm, ⟨71, _⟩ => ⟨S32x41984x512, .f32⟩
  | .hbm, ⟨72, _⟩ => ⟨S32x41984x512, .f32⟩
  | .hbm, ⟨73, _⟩ => ⟨S32x41984, .f32⟩
  | .hbm, ⟨74, _⟩ => ⟨S32x41984x1, .f32⟩
  | .hbm, ⟨75, _⟩ => ⟨S32x41984x1024, .f32⟩
  | .hbm, ⟨76, _⟩ => ⟨S32x41984x1024, .f32⟩
  | .hbm, ⟨77, _⟩ => ⟨S32x41984x1024, .f32⟩
  | .hbm, ⟨78, _⟩ => ⟨S_, .f32⟩
  | .hbm, ⟨79, _⟩ => ⟨S41984x1024, .f32⟩
  | _, _ => ⟨S41984x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_c_1 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_c : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_0 : Ref sig .tc := ⟨.hbm, 25, rfl⟩
abbrev main_call0_v12 : Ref sig .tc := ⟨.hbm, 26, rfl⟩
abbrev main_call0_v13 : Ref sig .tc := ⟨.hbm, 27, rfl⟩
abbrev main_v4 : Ref sig .tc := ⟨.hbm, 28, rfl⟩
abbrev main_c_2 : Ref sig .tc := ⟨.hbm, 29, rfl⟩
abbrev main_v5 : Ref sig .tc := ⟨.hbm, 30, rfl⟩
abbrev main_v6 : Ref sig .tc := ⟨.hbm, 31, rfl⟩
abbrev main_call1_call0_c : Ref sig .tc := ⟨.hbm, 32, rfl⟩
abbrev main_call1_call0_v0 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_c_3 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_call2_v0 : Ref sig .tc := ⟨.hbm, 48, rfl⟩
abbrev main_call2_v1 : Ref sig .tc := ⟨.hbm, 49, rfl⟩
abbrev main_call2_v2 : Ref sig .tc := ⟨.hbm, 50, rfl⟩
abbrev main_call2_v3 : Ref sig .tc := ⟨.hbm, 51, rfl⟩
abbrev main_call2_v4 : Ref sig .tc := ⟨.hbm, 52, rfl⟩
abbrev main_v20 : Ref sig .tc := ⟨.hbm, 53, rfl⟩
abbrev main_cst : Ref sig .tc := ⟨.hbm, 54, rfl⟩
abbrev main_call3_v0 : Ref sig .tc := ⟨.hbm, 55, rfl⟩
abbrev main_call3_v1 : Ref sig .tc := ⟨.hbm, 56, rfl⟩
abbrev main_call3_v2 : Ref sig .tc := ⟨.hbm, 57, rfl⟩
abbrev main_v21 : Ref sig .tc := ⟨.hbm, 58, rfl⟩
abbrev main_v22 : Ref sig .tc := ⟨.hbm, 59, rfl⟩
abbrev main_v23 : Ref sig .tc := ⟨.hbm, 60, rfl⟩
abbrev main_call4_v0 : Ref sig .tc := ⟨.hbm, 61, rfl⟩
abbrev main_call4_v1 : Ref sig .tc := ⟨.hbm, 62, rfl⟩
abbrev main_call4_cst : Ref sig .tc := ⟨.hbm, 63, rfl⟩
abbrev main_call4_v2 : Ref sig .tc := ⟨.hbm, 64, rfl⟩
abbrev main_call4_v3 : Ref sig .tc := ⟨.hbm, 65, rfl⟩
abbrev main_call4_cst_0 : Ref sig .tc := ⟨.hbm, 66, rfl⟩
abbrev main_call4_v4 : Ref sig .tc := ⟨.hbm, 67, rfl⟩
abbrev main_call4_v5 : Ref sig .tc := ⟨.hbm, 68, rfl⟩
abbrev main_v24 : Ref sig .tc := ⟨.hbm, 69, rfl⟩
abbrev main_v25 : Ref sig .tc := ⟨.hbm, 70, rfl⟩
abbrev main_v26 : Ref sig .tc := ⟨.hbm, 71, rfl⟩
abbrev main_v27 : Ref sig .tc := ⟨.hbm, 72, rfl⟩
abbrev main_v28 : Ref sig .tc := ⟨.hbm, 73, rfl⟩
abbrev main_v29 : Ref sig .tc := ⟨.hbm, 74, rfl⟩
abbrev main_v30 : Ref sig .tc := ⟨.hbm, 75, rfl⟩
abbrev main_v31 : Ref sig .tc := ⟨.hbm, 76, rfl⟩
abbrev main_v32 : Ref sig .tc := ⟨.hbm, 77, rfl⟩
abbrev main_cst_4 : Ref sig .tc := ⟨.hbm, 78, rfl⟩
abbrev main_v33 : Ref sig .tc := ⟨.hbm, 79, rfl⟩

abbrev nD : Nat := 1
abbrev τ : Topo := Topo.v7x

variable {F : FTy → Type} [FloatOps F]
-- ==== Prompt.lean ====
abbrev S8x2048x1024 : Shape := ⟨3, ![8, 2048, 1024]⟩
abbrev S1x1024 : Shape := ⟨2, ![1, 1024]⟩
abbrev S1x1024x5896 : Shape := ⟨3, ![1, 1024, 5896]⟩
abbrev S16384x1024 : Shape := ⟨2, ![16384, 1024]⟩
abbrev S1024 : Shape := ⟨1, ![1024]⟩
abbrev S1024x5896 : Shape := ⟨2, ![1024, 5896]⟩
abbrev S1024x3840 : Shape := ⟨2, ![1024, 3840]⟩
abbrev S1024x2048 : Shape := ⟨2, ![1024, 2048]⟩
abbrev S1024x8 : Shape := ⟨2, ![1024, 8]⟩
abbrev S_ : Shape := ⟨0, ![]⟩
abbrev S1024x128 : Shape := ⟨2, ![1024, 128]⟩
abbrev S16384x1792 : Shape := ⟨2, ![16384, 1792]⟩
abbrev S16384x1536 : Shape := ⟨2, ![16384, 1536]⟩
abbrev S16384x512 : Shape := ⟨2, ![16384, 512]⟩
abbrev S16384x2048 : Shape := ⟨2, ![16384, 2048]⟩
abbrev S16384x128 : Shape := ⟨2, ![16384, 128]⟩
abbrev S256x1024 : Shape := ⟨2, ![256, 1024]⟩
abbrev S256x1792 : Shape := ⟨2, ![256, 1792]⟩
abbrev S256x1536 : Shape := ⟨2, ![256, 1536]⟩
abbrev S256x512 : Shape := ⟨2, ![256, 512]⟩
abbrev S256x2048 : Shape := ⟨2, ![256, 2048]⟩
abbrev S256x128 : Shape := ⟨2, ![256, 128]⟩
abbrev S256 : Shape := ⟨1, ![256]⟩
abbrev S256x1 : Shape := ⟨2, ![256, 1]⟩
abbrev S1024x1792 : Shape := ⟨2, ![1024, 1792]⟩
abbrev S1024x1536 : Shape := ⟨2, ![1024, 1536]⟩
abbrev S1024x512 : Shape := ⟨2, ![1024, 512]⟩

abbrev nBuf : Space → Nat
  | .hbm => 22
  | .vmem => 18
  | .smem => 0
  | _ => 0

abbrev bufTy : (tb : Table) → Fin (tcTables nBuf tb) → BufTy
  | .hbm, ⟨0, _⟩ => ⟨S8x2048x1024, .f32⟩
  | .hbm, ⟨1, _⟩ => ⟨S1x1024, .f32⟩
  | .hbm, ⟨2, _⟩ => ⟨S1x1024x5896, .f32⟩
  | .hbm, ⟨3, _⟩ => ⟨S16384x1024, .f32⟩
  | .hbm, ⟨4, _⟩ => ⟨S1024, .f32⟩
  | .hbm, ⟨5, _⟩ => ⟨S1x1024, .f32⟩
  | .hbm, ⟨6, _⟩ => ⟨S1024x5896, .f32⟩
  | .hbm, ⟨7, _⟩ => ⟨S1024x3840, .f32⟩
  | .hbm, ⟨8, _⟩ => ⟨S1024x3840, .bf16⟩
  | .hbm, ⟨9, _⟩ => ⟨S1024x2048, .f32⟩
  | .hbm, ⟨10, _⟩ => ⟨S1024x2048, .bf16⟩
  | .hbm, ⟨11, _⟩ => ⟨S1024x8, .f32⟩
  | .hbm, ⟨12, _⟩ => ⟨S_, .i32⟩
  | .hbm, ⟨13, _⟩ => ⟨S_, .f32⟩
  | .hbm, ⟨14, _⟩ => ⟨S1024x128, .f32⟩
  | .hbm, ⟨15, _⟩ => ⟨S1024x128, .bf16⟩
  | .hbm, ⟨16, _⟩ => ⟨S16384x1024, .f32⟩
  | .hbm, ⟨17, _⟩ => ⟨S16384x1792, .f32⟩
  | .hbm, ⟨18, _⟩ => ⟨S16384x1536, .f32⟩
  | .hbm, ⟨19, _⟩ => ⟨S16384x512, .f32⟩
  | .hbm, ⟨20, _⟩ => ⟨S16384x2048, .f32⟩
  | .hbm, ⟨21, _⟩ => ⟨S16384x128, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x3840, .bf16⟩
  | .local _ .vmem, ⟨4, _⟩ => ⟨S1024x2048, .bf16⟩
  | .local _ .vmem, ⟨5, _⟩ => ⟨S1024x128, .bf16⟩
  | .local _ .vmem, ⟨6, _⟩ => ⟨S256x1024, .f32⟩
  | .local _ .vmem, ⟨7, _⟩ => ⟨S256x1024, .f32⟩
  | .local _ .vmem, ⟨8, _⟩ => ⟨S256x1792, .f32⟩
  | .local _ .vmem, ⟨9, _⟩ => ⟨S256x1792, .f32⟩
  | .local _ .vmem, ⟨10, _⟩ => ⟨S256x1536, .f32⟩
  | .local _ .vmem, ⟨11, _⟩ => ⟨S256x1536, .f32⟩
  | .local _ .vmem, ⟨12, _⟩ => ⟨S256x512, .f32⟩
  | .local _ .vmem, ⟨13, _⟩ => ⟨S256x512, .f32⟩
  | .local _ .vmem, ⟨14, _⟩ => ⟨S256x2048, .f32⟩
  | .local _ .vmem, ⟨15, _⟩ => ⟨S256x2048, .f32⟩
  | .local _ .vmem, ⟨16, _⟩ => ⟨S256x128, .f32⟩
  | .local _ .vmem, ⟨17, _⟩ => ⟨S256x128, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_c : Ref sig .tc := ⟨.hbm, 12, rfl⟩
abbrev main_call0_v0 : Ref sig .tc := ⟨.hbm, 13, rfl⟩
abbrev main_v9 : Ref sig .tc := ⟨.hbm, 14, rfl⟩
abbrev main_v10 : Ref sig .tc := ⟨.hbm, 15, rfl⟩
abbrev main_v11_0 : Ref sig .tc := ⟨.hbm, 16, rfl⟩
abbrev main_v11_1 : Ref sig .tc := ⟨.hbm, 17, rfl⟩
abbrev main_v11_2 : Ref sig .tc := ⟨.hbm, 18, rfl⟩
abbrev main_v11_3 : Ref sig .tc := ⟨.hbm, 19, rfl⟩
abbrev main_v11_4 : Ref sig .tc := ⟨.hbm, 20, rfl⟩
abbrev main_v11_5 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3840 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1792 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1536 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== PromptReferenceIdeal.lean ====
abbrev S8x2048x1024 : Shape := ⟨3, ![8, 2048, 1024]⟩
abbrev S1x1024 : Shape := ⟨2, ![1, 1024]⟩
abbrev S1x1024x5896 : Shape := ⟨3, ![1, 1024, 5896]⟩
abbrev S16384x1024 : Shape := ⟨2, ![16384, 1024]⟩
abbrev S_ : Shape := ⟨0, ![]⟩
abbrev S16384 : Shape := ⟨1, ![16384]⟩
abbrev S16384x1 : Shape := ⟨2, ![16384, 1]⟩
abbrev S1024 : Shape := ⟨1, ![1024]⟩
abbrev S1024x5896 : Shape := ⟨2, ![1024, 5896]⟩
abbrev S16384x5896 : Shape := ⟨2, ![16384, 5896]⟩
abbrev S16384x8 : Shape := ⟨2, ![16384, 8]⟩
abbrev S16384x128 : Shape := ⟨2, ![16384, 128]⟩
abbrev S16384x1792 : Shape := ⟨2, ![16384, 1792]⟩
abbrev S16384x1536 : Shape := ⟨2, ![16384, 1536]⟩
abbrev S16384x512 : Shape := ⟨2, ![16384, 512]⟩
abbrev S16384x2048 : Shape := ⟨2, ![16384, 2048]⟩

abbrev nBuf : Space → Nat
  | .hbm => 31
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1x1024, .f32⟩
  | .hbm, ⟨2, _⟩ => ⟨S1x1024x5896, .f32⟩
  | .hbm, ⟨3, _⟩ => ⟨S16384x1024, .f32⟩
  | .hbm, ⟨4, _⟩ => ⟨S16384x1024, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x1024, .f32⟩
  | .hbm, ⟨16, _⟩ => ⟨S16384x1024, .f32⟩
  | .hbm, ⟨17, _⟩ => ⟨S1024, .f32⟩
  | .hbm, ⟨18, _⟩ => ⟨S1x1024, .f32⟩
  | .hbm, ⟨19, _⟩ => ⟨S16384x1024, .f32⟩
  | .hbm, ⟨20, _⟩ => ⟨S16384x1024, .f32⟩
  | .hbm, ⟨21, _⟩ => ⟨S1024x5896, .f32⟩
  | .hbm, ⟨22, _⟩ => ⟨S16384x5896, .f32⟩
  | .hbm, ⟨23, _⟩ => ⟨S16384x8, .f32⟩
  | .hbm, ⟨24, _⟩ => ⟨S_, .i32⟩
  | .hbm, ⟨25, _⟩ => ⟨S_, .f32⟩
  | .hbm, ⟨26, _⟩ => ⟨S16384x128, .f32⟩
  | .hbm, ⟨27, _⟩ => ⟨S16384x1792, .f32⟩
  | .hbm, ⟨28, _⟩ => ⟨S16384x1536, .f32⟩
  | .hbm, ⟨29, _⟩ => ⟨S16384x512, .f32⟩
  | .hbm, ⟨30, _⟩ => ⟨S16384x2048, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_c : Ref sig .tc := ⟨.hbm, 24, rfl⟩
abbrev main_call0_v0 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩

abbrev nD : Nat := 1
abbrev τ : Topo := Topo.v7x

variable {F : FTy → Type} [FloatOps F]
-- ==== Sample.lean ====
abbrev S128x4x1024 : Shape := ⟨3, ![128, 4, 1024]⟩
abbrev S1x1024 : Shape := ⟨2, ![1, 1024]⟩
abbrev S1x1024x5896 : Shape := ⟨3, ![1, 1024, 5896]⟩
abbrev S4x128x1024 : Shape := ⟨3, ![4, 128, 1024]⟩
abbrev S512x1024 : Shape := ⟨2, ![512, 1024]⟩
abbrev S1024 : Shape := ⟨1, ![1024]⟩
abbrev S1024x5896 : Shape := ⟨2, ![1024, 5896]⟩
abbrev S1024x3840 : Shape := ⟨2, ![1024, 3840]⟩
abbrev S1024x2048 : Shape := ⟨2, ![1024, 2048]⟩
abbrev S1024x8 : Shape := ⟨2, ![1024, 8]⟩
abbrev S_ : Shape := ⟨0, ![]⟩
abbrev S1024x128 : Shape := ⟨2, ![1024, 128]⟩
abbrev S512x1792 : Shape := ⟨2, ![512, 1792]⟩
abbrev S512x1536 : Shape := ⟨2, ![512, 1536]⟩
abbrev S512x512 : Shape := ⟨2, ![512, 512]⟩
abbrev S512x2048 : Shape := ⟨2, ![512, 2048]⟩
abbrev S512x128 : Shape := ⟨2, ![512, 128]⟩
abbrev S256x1024 : Shape := ⟨2, ![256, 1024]⟩
abbrev S256x1792 : Shape := ⟨2, ![256, 1792]⟩
abbrev S256x1536 : Shape := ⟨2, ![256, 1536]⟩
abbrev S256x512 : Shape := ⟨2, ![256, 512]⟩
abbrev S256x2048 : Shape := ⟨2, ![256, 2048]⟩
abbrev S256x128 : Shape := ⟨2, ![256, 128]⟩
abbrev S256 : Shape := ⟨1, ![256]⟩
abbrev S256x1 : Shape := ⟨2, ![256, 1]⟩
abbrev S1024x1792 : Shape := ⟨2, ![1024, 1792]⟩
abbrev S1024x1536 : Shape := ⟨2, ![1024, 1536]⟩
abbrev S1024x512 : Shape := ⟨2, ![1024, 512]⟩

abbrev nBuf : Space → Nat
  | .hbm => 23
  | .vmem => 18
  | .smem => 0
  | _ => 0

abbrev bufTy : (tb : Table) → Fin (tcTables nBuf tb) → BufTy
  | .hbm, ⟨0, _⟩ => ⟨S128x4x1024, .f32⟩
  | .hbm, ⟨1, _⟩ => ⟨S1x1024, .f32⟩
  | .hbm, ⟨2, _⟩ => ⟨S1x1024x5896, .f32⟩
  | .hbm, ⟨3, _⟩ => ⟨S4x128x1024, .f32⟩
  | .hbm, ⟨4, _⟩ => ⟨S512x1024, .f32⟩
  | .hbm, ⟨5, _⟩ => ⟨S1024, .f32⟩
  | .hbm, ⟨6, _⟩ => ⟨S1x1024, .f32⟩
  | .hbm, ⟨7, _⟩ => ⟨S1024x5896, .f32⟩
  | .hbm, ⟨8, _⟩ => ⟨S1024x3840, .f32⟩
  | .hbm, ⟨9, _⟩ => ⟨S1024x3840, .bf16⟩
  | .hbm, ⟨10, _⟩ => ⟨S1024x2048, .f32⟩
  | .hbm, ⟨11, _⟩ => ⟨S1024x2048, .bf16⟩
  | .hbm, ⟨12, _⟩ => ⟨S1024x8, .f32⟩
  | .hbm, ⟨13, _⟩ => ⟨S_, .i32⟩
  | .hbm, ⟨14, _⟩ => ⟨S_, .f32⟩
  | .hbm, ⟨15, _⟩ => ⟨S1024x128, .f32⟩
  | .hbm, ⟨16, _⟩ => ⟨S1024x128, .bf16⟩
  | .hbm, ⟨17, _⟩ => ⟨S512x1024, .f32⟩
  | .hbm, ⟨18, _⟩ => ⟨S512x1792, .f32⟩
  | .hbm, ⟨19, _⟩ => ⟨S512x1536, .f32⟩
  | .hbm, ⟨20, _⟩ => ⟨S512x512, .f32⟩
  | .hbm, ⟨21, _⟩ => ⟨S512x2048, .f32⟩
  | .hbm, ⟨22, _⟩ => ⟨S512x128, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x3840, .bf16⟩
  | .local _ .vmem, ⟨4, _⟩ => ⟨S1024x2048, .bf16⟩
  | .local _ .vmem, ⟨5, _⟩ => ⟨S1024x128, .bf16⟩
  | .local _ .vmem, ⟨6, _⟩ => ⟨S256x1024, .f32⟩
  | .local _ .vmem, ⟨7, _⟩ => ⟨S256x1024, .f32⟩
  | .local _ .vmem, ⟨8, _⟩ => ⟨S256x1792, .f32⟩
  | .local _ .vmem, ⟨9, _⟩ => ⟨S256x1792, .f32⟩
  | .local _ .vmem, ⟨10, _⟩ => ⟨S256x1536, .f32⟩
  | .local _ .vmem, ⟨11, _⟩ => ⟨S256x1536, .f32⟩
  | .local _ .vmem, ⟨12, _⟩ => ⟨S256x512, .f32⟩
  | .local _ .vmem, ⟨13, _⟩ => ⟨S256x512, .f32⟩
  | .local _ .vmem, ⟨14, _⟩ => ⟨S256x2048, .f32⟩
  | .local _ .vmem, ⟨15, _⟩ => ⟨S256x2048, .f32⟩
  | .local _ .vmem, ⟨16, _⟩ => ⟨S256x128, .f32⟩
  | .local _ .vmem, ⟨17, _⟩ => ⟨S256x128, .f32⟩
  | _, _ => ⟨S128x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_c : Ref sig .tc := ⟨.hbm, 13, rfl⟩
abbrev main_call0_v0 : Ref sig .tc := ⟨.hbm, 14, rfl⟩
abbrev main_v10 : Ref sig .tc := ⟨.hbm, 15, rfl⟩
abbrev main_v11 : Ref sig .tc := ⟨.hbm, 16, rfl⟩
abbrev main_v12_0 : Ref sig .tc := ⟨.hbm, 17, rfl⟩
abbrev main_v12_1 : Ref sig .tc := ⟨.hbm, 18, rfl⟩
abbrev main_v12_2 : Ref sig .tc := ⟨.hbm, 19, rfl⟩
abbrev main_v12_3 : Ref sig .tc := ⟨.hbm, 20, rfl⟩
abbrev main_v12_4 : Ref sig .tc := ⟨.hbm, 21, rfl⟩
abbrev main_v12_5 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3840 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1792 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1536 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== SampleReferenceIdeal.lean ====
abbrev S128x4x1024 : Shape := ⟨3, ![128, 4, 1024]⟩
abbrev S1x1024 : Shape := ⟨2, ![1, 1024]⟩
abbrev S1x1024x5896 : Shape := ⟨3, ![1, 1024, 5896]⟩
abbrev S4x128x1024 : Shape := ⟨3, ![4, 128, 1024]⟩
abbrev S512x1024 : Shape := ⟨2, ![512, 1024]⟩
abbrev S_ : Shape := ⟨0, ![]⟩
abbrev S512 : Shape := ⟨1, ![512]⟩
abbrev S512x1 : Shape := ⟨2, ![512, 1]⟩
abbrev S1024 : Shape := ⟨1, ![1024]⟩
abbrev S1024x5896 : Shape := ⟨2, ![1024, 5896]⟩
abbrev S512x5896 : Shape := ⟨2, ![512, 5896]⟩
abbrev S512x8 : Shape := ⟨2, ![512, 8]⟩
abbrev S512x128 : Shape := ⟨2, ![512, 128]⟩
abbrev S512x1792 : Shape := ⟨2, ![512, 1792]⟩
abbrev S512x1536 : Shape := ⟨2, ![512, 1536]⟩
abbrev S512x512 : Shape := ⟨2, ![512, 512]⟩
abbrev S512x2048 : Shape := ⟨2, ![512, 2048]⟩

abbrev nBuf : Space → Nat
  | .hbm => 32
  | .vmem => 0
  | .smem => 0
  | _ => 0

abbrev bufTy : (tb : Table) → Fin (tcTables nBuf tb) → BufTy
  | .hbm, ⟨0, _⟩ => ⟨S128x4x1024, .f32⟩
  | .hbm, ⟨1, _⟩ => ⟨S1x1024, .f32⟩
  | .hbm, ⟨2, _⟩ => ⟨S1x1024x5896, .f32⟩
  | .hbm, ⟨3, _⟩ => ⟨S4x128x1024, .f32⟩
  | .hbm, ⟨4, _⟩ => ⟨S512x1024, .f32⟩
  | .hbm, ⟨5, _⟩ => ⟨S512x1024, .f32⟩
  | .hbm, ⟨6, _⟩ => ⟨S_, .f32⟩
  | .hbm, ⟨7, _⟩ => ⟨S512, .f32⟩
  | .hbm, ⟨8, _⟩ => ⟨S512x1, .f32⟩
  | .hbm, ⟨9, _⟩ => ⟨S_, .f32⟩
  | .hbm, ⟨10, _⟩ => ⟨S512x1, .f32⟩
  | .hbm, ⟨11, _⟩ => ⟨S512x1, .f32⟩
  | .hbm, ⟨12, _⟩ => ⟨S_, .f32⟩
  | .hbm, ⟨13, _⟩ => ⟨S512x1, .f32⟩
  | .hbm, ⟨14, _⟩ => ⟨S512x1, .f32⟩
  | .hbm, ⟨15, _⟩ => ⟨S512x1, .f32⟩
  | .hbm, ⟨16, _⟩ => ⟨S512x1024, .f32⟩
  | .hbm, ⟨17, _⟩ => ⟨S512x1024, .f32⟩
  | .hbm, ⟨18, _⟩ => ⟨S1024, .f32⟩
  | .hbm, ⟨19, _⟩ => ⟨S1x1024, .f32⟩
  | .hbm, ⟨20, _⟩ => ⟨S512x1024, .f32⟩
  | .hbm, ⟨21, _⟩ => ⟨S512x1024, .f32⟩
  | .hbm, ⟨22, _⟩ => ⟨S1024x5896, .f32⟩
  | .hbm, ⟨23, _⟩ => ⟨S512x5896, .f32⟩
  | .hbm, ⟨24, _⟩ => ⟨S512x8, .f32⟩
  | .hbm, ⟨25, _⟩ => ⟨S_, .i32⟩
  | .hbm, ⟨26, _⟩ => ⟨S_, .f32⟩
  | .hbm, ⟨27, _⟩ => ⟨S512x128, .f32⟩
  | .hbm, ⟨28, _⟩ => ⟨S512x1792, .f32⟩
  | .hbm, ⟨29, _⟩ => ⟨S512x1536, .f32⟩
  | .hbm, ⟨30, _⟩ => ⟨S512x512, .f32⟩
  | .hbm, ⟨31, _⟩ => ⟨S512x2048, .f32⟩
  | _, _ => ⟨S128x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_c : Ref sig .tc := ⟨.hbm, 25, rfl⟩
abbrev main_call0_v0 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩

abbrev nD : Nat := 1
abbrev τ : Topo := Topo.v7x

variable {F : FTy → Type} [FloatOps F]
-- ==== Conv.lean ====
abbrev S512x1536 : Shape := ⟨2, ![512, 1536]⟩
abbrev S512x128 : Shape := ⟨2, ![512, 128]⟩
abbrev S1x128x3x1536 : Shape := ⟨4, ![1, 128, 3, 1536]⟩
abbrev S1x4x1536 : Shape := ⟨3, ![1, 4, 1536]⟩
abbrev S1x4 : Shape := ⟨2, ![1, 4]⟩
abbrev S512 : Shape := ⟨1, ![512]⟩
abbrev S_ : Shape := ⟨0, ![]⟩
abbrev S512x1 : Shape := ⟨2, ![512, 1]⟩
abbrev S1x512 : Shape := ⟨2, ![1, 512]⟩
abbrev S512x512 : Shape := ⟨2, ![512, 512]⟩
abbrev S4x1536 : Shape := ⟨2, ![4, 1536]⟩
abbrev S4 : Shape := ⟨1, ![4]⟩
abbrev S1x128 : Shape := ⟨2, ![1, 128]⟩
abbrev S128x3x1536 : Shape := ⟨3, ![128, 3, 1536]⟩
abbrev S3x128x1536 : Shape := ⟨3, ![3, 128, 1536]⟩
abbrev S1x384x1536 : Shape := ⟨3, ![1, 384, 1536]⟩
abbrev S896x1536 : Shape := ⟨2, ![896, 1536]⟩
abbrev S384x1536 : Shape := ⟨2, ![384, 1536]⟩
abbrev S1x1536 : Shape := ⟨2, ![1, 1536]⟩

abbrev nBuf : Space → Nat
  | .hbm => 49
  | .vmem => 12
  | .smem => 0
  | _ => 0

abbrev bufTy : (tb : Table) → Fin (tcTables nBuf tb) → BufTy
  | .hbm, ⟨0, _⟩ => ⟨S512x1536, .f32⟩
  | .hbm, ⟨1, _⟩ => ⟨S512x128, .f32⟩
  | .hbm, ⟨2, _⟩ => ⟨S1x128x3x1536, .f32⟩
  | .hbm, ⟨3, _⟩ => ⟨S1x4x1536, .f32⟩
  | .hbm, ⟨4, _⟩ => ⟨S1x4, .f32⟩
  | .hbm, ⟨5, _⟩ => ⟨S1x4, .f32⟩
  | .hbm, ⟨6, _⟩ => ⟨S512, .i32⟩
  | .hbm, ⟨7, _⟩ => ⟨S_, .i32⟩
  | .hbm, ⟨8, _⟩ => ⟨S_, .i32⟩
  | .hbm, ⟨9, _⟩ => ⟨S512, .i32⟩
  | .hbm, ⟨10, _⟩ => ⟨S512, .i32⟩
  | .hbm, ⟨11, _⟩ => ⟨S512, .i32⟩
  | .hbm, ⟨12, _⟩ => ⟨S_, .i32⟩
  | .hbm, ⟨13, _⟩ => ⟨S512, .i32⟩
  | .hbm, ⟨14, _⟩ => ⟨S512, .i1⟩
  | .hbm, ⟨15, _⟩ => ⟨S512, .i32⟩
  | .hbm, ⟨16, _⟩ => ⟨S512, .i32⟩
  | .hbm, ⟨17, _⟩ => ⟨S_, .i32⟩
  | .hbm, ⟨18, _⟩ => ⟨S512, .i32⟩
  | .hbm, ⟨19, _⟩ => ⟨S512, .i1⟩
  | .hbm, ⟨20, _⟩ => ⟨S512, .i1⟩
  | .hbm, ⟨21, _⟩ => ⟨S_, .i32⟩
  | .hbm, ⟨22, _⟩ => ⟨S512, .i32⟩
  | .hbm, ⟨23, _⟩ => ⟨S512, .i32⟩
  | .hbm, ⟨24, _⟩ => ⟨S512, .i32⟩
  | .hbm, ⟨25, _⟩ => ⟨S512x1, .i32⟩
  | .hbm, ⟨26, _⟩ => ⟨S1x512, .i32⟩
  | .hbm, ⟨27, _⟩ => ⟨S512x512, .i32⟩
  | .hbm, ⟨28, _⟩ => ⟨S512x512, .i32⟩
  | .hbm, ⟨29, _⟩ => ⟨S512x512, .i1⟩
  | .hbm, ⟨30, _⟩ => ⟨S512x512, .bf16⟩
  | .hbm, ⟨31, _⟩ => ⟨S4x1536, .f32⟩
  | .hbm, ⟨32, _⟩ => ⟨S4, .f32⟩
  | .hbm, ⟨33, _⟩ => ⟨S1x4, .f32⟩
  | .hbm, ⟨34, _⟩ => ⟨S_, .i32⟩
  | .hbm, ⟨35, _⟩ => ⟨S_, .f32⟩
  | .hbm, ⟨36, _⟩ => ⟨S1x128, .f32⟩
  | .hbm, ⟨37, _⟩ => ⟨S4, .f32⟩
  | .hbm, ⟨38, _⟩ => ⟨S1x4, .f32⟩
  | .hbm, ⟨39, _⟩ => ⟨S_, .i32⟩
  | .hbm, ⟨40, _⟩ => ⟨S_, .f32⟩
  | .hbm, ⟨41, _⟩ => ⟨S1x128, .f32⟩
  | .hbm, ⟨42, _⟩ => ⟨S128x3x1536, .f32⟩
  | .hbm, ⟨43, _⟩ => ⟨S3x128x1536, .f32⟩
  | .hbm, ⟨44, _⟩ => ⟨S1x384x1536, .f32⟩
  | .hbm, ⟨45, _⟩ => ⟨S512x512, .f32⟩
  | .hbm, ⟨46, _⟩ => ⟨S512x512, .f32⟩
  | .hbm, ⟨47, _⟩ => ⟨S512x512, .f32⟩
  | .hbm, ⟨48, _⟩ => ⟨S512x128, .f32⟩
  | .local _ .vmem, ⟨0, _⟩ => ⟨S512x1536, .f32⟩
  | .local _ .vmem, ⟨1, _⟩ => ⟨S1x384x1536, .f32⟩
  | .local _ .vmem, ⟨2, _⟩ => ⟨S512x128, .f32⟩
  | .local _ .vmem, ⟨3, _⟩ => ⟨S4x1536, .f32⟩
  | .local _ .vmem, ⟨4, _⟩ => ⟨S1x128, .f32⟩
  | .local _ .vmem, ⟨5, _⟩ => ⟨S1x128, .f32⟩
  | .local _ .vmem, ⟨6, _⟩ => ⟨S512x512, .bf16⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x128, .f32⟩
  | .local _ .vmem, ⟨11, _⟩ => ⟨S896x1536, .f32⟩
  | _, _ => ⟨S512x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_c : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_0 : Ref sig .tc := ⟨.hbm, 21, rfl⟩
abbrev main_call0_v12 : Ref sig .tc := ⟨.hbm, 22, rfl⟩
abbrev main_call0_v13 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_c_0 : Ref sig .tc := ⟨.hbm, 34, rfl⟩
abbrev main_call1_v0 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_c_1 : Ref sig .tc := ⟨.hbm, 39, rfl⟩
abbrev main_call2_v0 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18_0 : Ref sig .tc := ⟨.hbm, 45, rfl⟩
abbrev main_v18_1 : Ref sig .tc := ⟨.hbm, 46, rfl⟩
abbrev main_v18_2 : Ref sig .tc := ⟨.hbm, 47, rfl⟩
abbrev main_v18_3 : Ref sig .tc := ⟨.hbm, 48, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_scratch0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .vmem S512x1536 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x384x1536 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S512x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S4x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S512x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S512x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]

abbrev stage0_8 : Fin 1 → Memref sig .tc .vmem S512x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, true]

abbrev stage0_9 : Fin 1 → Memref sig .tc .vmem S512x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true, true]

abbrev stage0_10 : Fin 1 → Memref sig .tc .vmem S512x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true, true]
-- ==== ConvReferenceIdeal.lean ====
abbrev S512x1536 : Shape := ⟨2, ![512, 1536]⟩
abbrev S512x128 : Shape := ⟨2, ![512, 128]⟩
abbrev S1x128x3x1536 : Shape := ⟨4, ![1, 128, 3, 1536]⟩
abbrev S1x4x1536 : Shape := ⟨3, ![1, 4, 1536]⟩
abbrev S1x4 : Shape := ⟨2, ![1, 4]⟩
abbrev S128x3x1536 : Shape := ⟨3, ![128, 3, 1536]⟩
abbrev S3x128x1536 : Shape := ⟨3, ![3, 128, 1536]⟩
abbrev S384x1536 : Shape := ⟨2, ![384, 1536]⟩
abbrev S896x1536 : Shape := ⟨2, ![896, 1536]⟩
abbrev S4x1536 : Shape := ⟨2, ![4, 1536]⟩
abbrev S1x1536 : Shape := ⟨2, ![1, 1536]⟩
abbrev S1536 : Shape := ⟨1, ![1536]⟩
abbrev S_ : Shape := ⟨0, ![]⟩
abbrev S512x512 : Shape := ⟨2, ![512, 512]⟩
abbrev S512x4x128 : Shape := ⟨3, ![512, 4, 128]⟩
abbrev S512x4 : Shape := ⟨2, ![512, 4]⟩
abbrev S512x4x1 : Shape := ⟨3, ![512, 4, 1]⟩
abbrev S4 : Shape := ⟨1, ![4]⟩
abbrev S512x124 : Shape := ⟨2, ![512, 124]⟩

abbrev nBuf : Space → Nat
  | .hbm => 115
  | .vmem => 0
  | .smem => 0
  | _ => 0

abbrev bufTy : (tb : Table) → Fin (tcTables nBuf tb) → BufTy
  | .hbm, ⟨0, _⟩ => ⟨S512x1536, .f32⟩
  | .hbm, ⟨1, _⟩ => ⟨S512x128, .f32⟩
  | .hbm, ⟨2, _⟩ => ⟨S1x128x3x1536, .f32⟩
  | .hbm, ⟨3, _⟩ => ⟨S1x4x1536, .f32⟩
  | .hbm, ⟨4, _⟩ => ⟨S1x4, .f32⟩
  | .hbm, ⟨5, _⟩ => ⟨S1x4, .f32⟩
  | .hbm, ⟨6, _⟩ => ⟨S128x3x1536, .f32⟩
  | .hbm, ⟨7, _⟩ => ⟨S3x128x1536, .f32⟩
  | .hbm, ⟨8, _⟩ => ⟨S384x1536, .f32⟩
  | .hbm, ⟨9, _⟩ => ⟨S896x1536, .f32⟩
  | .hbm, ⟨10, _⟩ => ⟨S4x1536, .f32⟩
  | .hbm, ⟨11, _⟩ => ⟨S512x1536, .f32⟩
  | .hbm, ⟨12, _⟩ => ⟨S1x1536, .f32⟩
  | .hbm, ⟨13, _⟩ => ⟨S1536, .f32⟩
  | .hbm, ⟨14, _⟩ => ⟨S1x1536, .f32⟩
  | .hbm, ⟨15, _⟩ => ⟨S512x1536, .f32⟩
  | .hbm, ⟨16, _⟩ => ⟨S512x1536, .f32⟩
  | .hbm, ⟨17, _⟩ => ⟨S_, .f32⟩
  | .hbm, ⟨18, _⟩ => ⟨S512x1536, .f32⟩
  | .hbm, ⟨19, _⟩ => ⟨S512x1536, .f32⟩
  | .hbm, ⟨20, _⟩ => ⟨S512x1536, .f32⟩
  | .hbm, ⟨21, _⟩ => ⟨S1x1536, .f32⟩
  | .hbm, ⟨22, _⟩ => ⟨S1536, .f32⟩
  | .hbm, ⟨23, _⟩ => ⟨S1x1536, .f32⟩
  | .hbm, ⟨24, _⟩ => ⟨S512x1536, .f32⟩
  | .hbm, ⟨25, _⟩ => ⟨S512x1536, .f32⟩
  | .hbm, ⟨26, _⟩ => ⟨S512x1536, .f32⟩
  | .hbm, ⟨27, _⟩ => ⟨S512x1536, .f32⟩
  | .hbm, ⟨28, _⟩ => ⟨S1x1536, .f32⟩
  | .hbm, ⟨29, _⟩ => ⟨S1536, .f32⟩
  | .hbm, ⟨30, _⟩ => ⟨S1x1536, .f32⟩
  | .hbm, ⟨31, _⟩ => ⟨S512x1536, .f32⟩
  | .hbm, ⟨32, _⟩ => ⟨S512x1536, .f32⟩
  | .hbm, ⟨33, _⟩ => ⟨S512x1536, .f32⟩
  | .hbm, ⟨34, _⟩ => ⟨S512x1536, .f32⟩
  | .hbm, ⟨35, _⟩ => ⟨S1x1536, .f32⟩
  | .hbm, ⟨36, _⟩ => ⟨S1536, .f32⟩
  | .hbm, ⟨37, _⟩ => ⟨S1x1536, .f32⟩
  | .hbm, ⟨38, _⟩ => ⟨S512x1536, .f32⟩
  | .hbm, ⟨39, _⟩ => ⟨S512x1536, .f32⟩
  | .hbm, ⟨40, _⟩ => ⟨S512x1536, .f32⟩
  | .hbm, ⟨41, _⟩ => ⟨S512x1536, .f32⟩
  | .hbm, ⟨42, _⟩ => ⟨S512x1536, .f32⟩
  | .hbm, ⟨43, _⟩ => ⟨S_, .f32⟩
  | .hbm, ⟨44, _⟩ => ⟨S512x1536, .f32⟩
  | .hbm, ⟨45, _⟩ => ⟨S512x1536, .f32⟩
  | .hbm, ⟨46, _⟩ => ⟨S_, .f32⟩
  | .hbm, ⟨47, _⟩ => ⟨S512x1536, .f32⟩
  | .hbm, ⟨48, _⟩ => ⟨S512x1536, .f32⟩
  | .hbm, ⟨49, _⟩ => ⟨S512x1536, .f32⟩
  | .hbm, ⟨50, _⟩ => ⟨S512x512, .f32⟩
  | .hbm, ⟨51, _⟩ => ⟨S512x4x128, .f32⟩
  | .hbm, ⟨52, _⟩ => ⟨S512x4x128, .f32⟩
  | .hbm, ⟨53, _⟩ => ⟨S_, .f32⟩
  | .hbm, ⟨54, _⟩ => ⟨S512x4, .f32⟩
  | .hbm, ⟨55, _⟩ => ⟨S512x4x1, .f32⟩
  | .hbm, ⟨56, _⟩ => ⟨S_, .f32⟩
  | .hbm, ⟨57, _⟩ => ⟨S512x4x1, .f32⟩
  | .hbm, ⟨58, _⟩ => ⟨S512x4x1, .f32⟩
  | .hbm, ⟨59, _⟩ => ⟨S512x4x1, .f32⟩
  | .hbm, ⟨60, _⟩ => ⟨S512x4x128, .f32⟩
  | .hbm, ⟨61, _⟩ => ⟨S512x4x128, .f32⟩
  | .hbm, ⟨62, _⟩ => ⟨S_, .f32⟩
  | .hbm, ⟨63, _⟩ => ⟨S512x4x128, .f32⟩
  | .hbm, ⟨64, _⟩ => ⟨S512x4x128, .f32⟩
  | .hbm, ⟨65, _⟩ => ⟨S512x512, .f32⟩
  | .hbm, ⟨66, _⟩ => ⟨S512x4x128, .f32⟩
  | .hbm, ⟨67, _⟩ => ⟨S512x4x128, .f32⟩
  | .hbm, ⟨68, _⟩ => ⟨S_, .f32⟩
  | .hbm, ⟨69, _⟩ => ⟨S512x4, .f32⟩
  | .hbm, ⟨70, _⟩ => ⟨S512x4x1, .f32⟩
  | .hbm, ⟨71, _⟩ => ⟨S_, .f32⟩
  | .hbm, ⟨72, _⟩ => ⟨S512x4x1, .f32⟩
  | .hbm, ⟨73, _⟩ => ⟨S512x4x1, .f32⟩
  | .hbm, ⟨74, _⟩ => ⟨S512x4x1, .f32⟩
  | .hbm, ⟨75, _⟩ => ⟨S512x4x128, .f32⟩
  | .hbm, ⟨76, _⟩ => ⟨S512x4x128, .f32⟩
  | .hbm, ⟨77, _⟩ => ⟨S4, .f32⟩
  | .hbm, ⟨78, _⟩ => ⟨S4, .f32⟩
  | .hbm, ⟨79, _⟩ => ⟨S4, .f32⟩
  | .hbm, ⟨80, _⟩ => ⟨S512x4, .f32⟩
  | .hbm, ⟨81, _⟩ => ⟨S4, .f32⟩
  | .hbm, ⟨82, _⟩ => ⟨S1x4, .f32⟩
  | .hbm, ⟨83, _⟩ => ⟨S512x4, .f32⟩
  | .hbm, ⟨84, _⟩ => ⟨S512x4, .f32⟩
  | .hbm, ⟨85, _⟩ => ⟨S_, .f32⟩
  | .hbm, ⟨86, _⟩ => ⟨S512x4, .f32⟩
  | .hbm, ⟨87, _⟩ => ⟨S512x4, .f32⟩
  | .hbm, ⟨88, _⟩ => ⟨S512x4, .f32⟩
  | .hbm, ⟨89, _⟩ => ⟨S512x4, .f32⟩
  | .hbm, ⟨90, _⟩ => ⟨S512x4, .i1⟩
  | .hbm, ⟨91, _⟩ => ⟨S512x4, .f32⟩
  | .hbm, ⟨92, _⟩ => ⟨S512x4, .f32⟩
  | .hbm, ⟨93, _⟩ => ⟨S512x4, .f32⟩
  | .hbm, ⟨94, _⟩ => ⟨S512x4, .f32⟩
  | .hbm, ⟨95, _⟩ => ⟨S512x4, .f32⟩
  | .hbm, ⟨96, _⟩ => ⟨S512x4, .f32⟩
  | .hbm, ⟨97, _⟩ => ⟨S512x4, .f32⟩
  | .hbm, ⟨98, _⟩ => ⟨S512x4, .f32⟩
  | .hbm, ⟨99, _⟩ => ⟨S1x4, .f32⟩
  | .hbm, ⟨100, _⟩ => ⟨S512x4, .f32⟩
  | .hbm, ⟨101, _⟩ => ⟨S512x4, .f32⟩
  | .hbm, ⟨102, _⟩ => ⟨S512x124, .f32⟩
  | .hbm, ⟨103, _⟩ => ⟨S512x124, .f32⟩
  | .hbm, ⟨104, _⟩ => ⟨S512x124, .f32⟩
  | .hbm, ⟨105, _⟩ => ⟨S_, .f32⟩
  | .hbm, ⟨106, _⟩ => ⟨S512x124, .f32⟩
  | .hbm, ⟨107, _⟩ => ⟨S512x124, .f32⟩
  | .hbm, ⟨108, _⟩ => ⟨S_, .f32⟩
  | .hbm, ⟨109, _⟩ => ⟨S512x124, .f32⟩
  | .hbm, ⟨110, _⟩ => ⟨S512x124, .f32⟩
  | .hbm, ⟨111, _⟩ => ⟨S512x128, .f32⟩
  | .hbm, ⟨112, _⟩ => ⟨S512x512, .f32⟩
  | .hbm, ⟨113, _⟩ => ⟨S512x512, .f32⟩
  | .hbm, ⟨114, _⟩ => ⟨S512x512, .f32⟩
  | _, _ => ⟨S512x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_call0_v0 : Ref sig .tc := ⟨.hbm, 41, rfl⟩
abbrev main_call0_v1 : Ref sig .tc := ⟨.hbm, 42, rfl⟩
abbrev main_call0_cst : Ref sig .tc := ⟨.hbm, 43, rfl⟩
abbrev main_call0_v2 : Ref sig .tc := ⟨.hbm, 44, rfl⟩
abbrev main_call0_v3 : Ref sig .tc := ⟨.hbm, 45, rfl⟩
abbrev main_call0_cst_0 : Ref sig .tc := ⟨.hbm, 46, rfl⟩
abbrev main_call0_v4 : Ref sig .tc := ⟨.hbm, 47, rfl⟩
abbrev main_call0_v5 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_0 : Ref sig .tc := ⟨.hbm, 53, rfl⟩
abbrev main_v38 : Ref sig .tc := ⟨.hbm, 54, rfl⟩
abbrev main_v39 : Ref sig .tc := ⟨.hbm, 55, rfl⟩
abbrev main_cst_1 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_2 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_cst_3 : Ref sig .tc := ⟨.hbm, 68, rfl⟩
abbrev main_v50 : Ref sig .tc := ⟨.hbm, 69, rfl⟩
abbrev main_v51 : Ref sig .tc := ⟨.hbm, 70, rfl⟩
abbrev main_cst_4 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_call1_cst : Ref sig .tc := ⟨.hbm, 85, rfl⟩
abbrev main_call1_v0 : Ref sig .tc := ⟨.hbm, 86, rfl⟩
abbrev main_call1_v1 : Ref sig .tc := ⟨.hbm, 87, rfl⟩
abbrev main_call1_v2 : Ref sig .tc := ⟨.hbm, 88, rfl⟩
abbrev main_call1_v3 : Ref sig .tc := ⟨.hbm, 89, rfl⟩
abbrev main_call1_v4 : Ref sig .tc := ⟨.hbm, 90, rfl⟩
abbrev main_call1_v5 : Ref sig .tc := ⟨.hbm, 91, rfl⟩
abbrev main_call1_v6 : Ref sig .tc := ⟨.hbm, 92, rfl⟩
abbrev main_call1_v7 : Ref sig .tc := ⟨.hbm, 93, rfl⟩
abbrev main_call1_v8 : Ref sig .tc := ⟨.hbm, 94, rfl⟩
abbrev main_call1_v9 : Ref sig .tc := ⟨.hbm, 95, rfl⟩
abbrev main_call1_v10 : Ref sig .tc := ⟨.hbm, 96, rfl⟩
abbrev main_call1_v11 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_cst_5 : Ref sig .tc := ⟨.hbm, 105, rfl⟩
abbrev main_v72 : Ref sig .tc := ⟨.hbm, 106, rfl⟩
abbrev main_v73 : Ref sig .tc := ⟨.hbm, 107, rfl⟩
abbrev main_cst_6 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩

abbrev nD : Nat := 1
abbrev τ : Topo := Topo.v7x

variable {F : FTy → Type} [FloatOps F]
-- ==== Shift.lean ====
abbrev S512x1792 : Shape := ⟨2, ![512, 1792]⟩
abbrev S128x1792 : Shape := ⟨2, ![128, 1792]⟩
abbrev S1x1792 : Shape := ⟨2, ![1, 1792]⟩
abbrev S1x512 : Shape := ⟨2, ![1, 512]⟩
abbrev S1x64x512 : Shape := ⟨3, ![1, 64, 512]⟩
abbrev S1x128x512 : Shape := ⟨3, ![1, 128, 512]⟩
abbrev S1792 : Shape := ⟨1, ![1792]⟩
abbrev S512 : Shape := ⟨1, ![512]⟩
abbrev S64x512 : Shape := ⟨2, ![64, 512]⟩
abbrev S128x512 : Shape := ⟨2, ![128, 512]⟩
abbrev S_ : Shape := ⟨0, ![]⟩
abbrev S512x1 : Shape := ⟨2, ![512, 1]⟩
abbrev S512x512 : Shape := ⟨2, ![512, 512]⟩
abbrev S1x128x1792 : Shape := ⟨3, ![1, 128, 1792]⟩
abbrev S512x1024 : Shape := ⟨2, ![512, 1024]⟩
abbrev S640x1792 : Shape := ⟨2, ![640, 1792]⟩
abbrev S512x64 : Shape := ⟨2, ![512, 64]⟩
abbrev S512x128 : Shape := ⟨2, ![512, 128]⟩

abbrev nBuf : Space → Nat
  | .hbm => 54
  | .vmem => 17
  | .smem => 0
  | _ => 0

abbrev bufTy : (tb : Table) → Fin (tcTables nBuf tb) → BufTy
  | .hbm, ⟨0, _⟩ => ⟨S512x1792, .f32⟩
  | .hbm, ⟨1, _⟩ => ⟨S128x1792, .f32⟩
  | .hbm, ⟨2, _⟩ => ⟨S1x1792, .f32⟩
  | .hbm, ⟨3, _⟩ => ⟨S1x512, .f32⟩
  | .hbm, ⟨4, _⟩ => ⟨S1x64x512, .f32⟩
  | .hbm, ⟨5, _⟩ => ⟨S1x512, .f32⟩
  | .hbm, ⟨6, _⟩ => ⟨S1x64x512, .f32⟩
  | .hbm, ⟨7, _⟩ => ⟨S1x128x512, .f32⟩
  | .hbm, ⟨8, _⟩ => ⟨S1x512, .f32⟩
  | .hbm, ⟨9, _⟩ => ⟨S1x512, .f32⟩
  | .hbm, ⟨10, _⟩ => ⟨S1792, .f32⟩
  | .hbm, ⟨11, _⟩ => ⟨S1x1792, .f32⟩
  | .hbm, ⟨12, _⟩ => ⟨S512, .f32⟩
  | .hbm, ⟨13, _⟩ => ⟨S1x512, .f32⟩
  | .hbm, ⟨14, _⟩ => ⟨S64x512, .f32⟩
  | .hbm, ⟨15, _⟩ => ⟨S512, .f32⟩
  | .hbm, ⟨16, _⟩ => ⟨S1x512, .f32⟩
  | .hbm, ⟨17, _⟩ => ⟨S64x512, .f32⟩
  | .hbm, ⟨18, _⟩ => ⟨S128x512, .f32⟩
  | .hbm, ⟨19, _⟩ => ⟨S512, .f32⟩
  | .hbm, ⟨20, _⟩ => ⟨S1x512, .f32⟩
  | .hbm, ⟨21, _⟩ => ⟨S512, .f32⟩
  | .hbm, ⟨22, _⟩ => ⟨S1x512, .f32⟩
  | .hbm, ⟨23, _⟩ => ⟨S512, .i32⟩
  | .hbm, ⟨24, _⟩ => ⟨S_, .i32⟩
  | .hbm, ⟨25, _⟩ => ⟨S_, .i32⟩
  | .hbm, ⟨26, _⟩ => ⟨S512, .i32⟩
  | .hbm, ⟨27, _⟩ => ⟨S512, .i32⟩
  | .hbm, ⟨28, _⟩ => ⟨S512, .i32⟩
  | .hbm, ⟨29, _⟩ => ⟨S_, .i32⟩
  | .hbm, ⟨30, _⟩ => ⟨S512, .i32⟩
  | .hbm, ⟨31, _⟩ => ⟨S512, .i1⟩
  | .hbm, ⟨32, _⟩ => ⟨S512, .i32⟩
  | .hbm, ⟨33, _⟩ => ⟨S512, .i32⟩
  | .hbm, ⟨34, _⟩ => ⟨S_, .i32⟩
  | .hbm, ⟨35, _⟩ => ⟨S512, .i32⟩
  | .hbm, ⟨36, _⟩ => ⟨S512, .i1⟩
  | .hbm, ⟨37, _⟩ => ⟨S512, .i1⟩
  | .hbm, ⟨38, _⟩ => ⟨S_, .i32⟩
  | .hbm, ⟨39, _⟩ => ⟨S512, .i32⟩
  | .hbm, ⟨40, _⟩ => ⟨S512, .i32⟩
  | .hbm, ⟨41, _⟩ => ⟨S512, .i32⟩
  | .hbm, ⟨42, _⟩ => ⟨S512x1, .i32⟩
  | .hbm, ⟨43, _⟩ => ⟨S1x512, .i32⟩
  | .hbm, ⟨44, _⟩ => ⟨S512x512, .i32⟩
  | .hbm, ⟨45, _⟩ => ⟨S512x512, .i32⟩
  | .hbm, ⟨46, _⟩ => ⟨S512x512, .i1⟩
  | .hbm, ⟨47, _⟩ => ⟨S512x512, .bf16⟩
  | .hbm, ⟨48, _⟩ => ⟨S1x128x1792, .f32⟩
  | .hbm, ⟨49, _⟩ => ⟨S512x1024, .f32⟩
  | .hbm, ⟨50, _⟩ => ⟨S512x1024, .f32⟩
  | .hbm, ⟨51, _⟩ => ⟨S512x1024, .f32⟩
  | .hbm, ⟨52, _⟩ => ⟨S512x512, .f32⟩
  | .hbm, ⟨53, _⟩ => ⟨S512x512, .f32⟩
  | .local _ .vmem, ⟨0, _⟩ => ⟨S512x1792, .f32⟩
  | .local _ .vmem, ⟨1, _⟩ => ⟨S1x128x1792, .f32⟩
  | .local _ .vmem, ⟨2, _⟩ => ⟨S1x1792, .f32⟩
  | .local _ .vmem, ⟨3, _⟩ => ⟨S1x512, .f32⟩
  | .local _ .vmem, ⟨4, _⟩ => ⟨S64x512, .f32⟩
  | .local _ .vmem, ⟨5, _⟩ => ⟨S1x512, .f32⟩
  | .local _ .vmem, ⟨6, _⟩ => ⟨S64x512, .f32⟩
  | .local _ .vmem, ⟨7, _⟩ => ⟨S128x512, .f32⟩
  | .local _ .vmem, ⟨8, _⟩ => ⟨S1x512, .f32⟩
  | .local _ .vmem, ⟨9, _⟩ => ⟨S1x512, .f32⟩
  | .local _ .vmem, ⟨10, _⟩ => ⟨S512x512, .bf16⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x512, .f32⟩
  | .local _ .vmem, ⟨15, _⟩ => ⟨S512x512, .f32⟩
  | .local _ .vmem, ⟨16, _⟩ => ⟨S640x1792, .f32⟩
  | _, _ => ⟨S512x1792, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_c : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_call0_v5 : Ref sig .tc := ⟨.hbm, 30, rfl⟩
abbrev main_call0_v6 : Ref sig .tc := ⟨.hbm, 31, rfl⟩
abbrev main_call0_v7 : Ref sig .tc := ⟨.hbm, 32, rfl⟩
abbrev main_call0_v8 : Ref sig .tc := ⟨.hbm, 33, rfl⟩
abbrev main_call0_c : Ref sig .tc := ⟨.hbm, 34, rfl⟩
abbrev main_call0_v9 : Ref sig .tc := ⟨.hbm, 35, rfl⟩
abbrev main_call0_v10 : Ref sig .tc := ⟨.hbm, 36, rfl⟩
abbrev main_call0_v11 : Ref sig .tc := ⟨.hbm, 37, rfl⟩
abbrev main_call0_c_0 : Ref sig .tc := ⟨.hbm, 38, rfl⟩
abbrev main_call0_v12 : Ref sig .tc := ⟨.hbm, 39, rfl⟩
abbrev main_call0_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22_0 : Ref sig .tc := ⟨.hbm, 49, rfl⟩
abbrev main_v22_1 : Ref sig .tc := ⟨.hbm, 50, rfl⟩
abbrev main_v22_2 : Ref sig .tc := ⟨.hbm, 51, rfl⟩
abbrev main_v22_3 : Ref sig .tc := ⟨.hbm, 52, rfl⟩
abbrev main_v22_4 : Ref sig .tc := ⟨.hbm, 53, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_scratch0 : Ref sig .tc := ⟨.vmem, 16, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_12 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_13 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_14 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_15 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .vmem S512x1792 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x128x1792 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x1792 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S64x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S64x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S128x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S512x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S512x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true, true]

abbrev stage0_12 : Fin 1 → Memref sig .tc .vmem S512x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true, true]

abbrev stage0_13 : Fin 1 → Memref sig .tc .vmem S512x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true, true]

abbrev stage0_14 : Fin 1 → Memref sig .tc .vmem S512x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true, true]

abbrev stage0_15 : Fin 1 → Memref sig .tc .vmem S512x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![true, true]
-- ==== ShiftReferenceIdeal.lean ====
abbrev S512x1792 : Shape := ⟨2, ![512, 1792]⟩
abbrev S128x1792 : Shape := ⟨2, ![128, 1792]⟩
abbrev S1x1792 : Shape := ⟨2, ![1, 1792]⟩
abbrev S1x512 : Shape := ⟨2, ![1, 512]⟩
abbrev S1x64x512 : Shape := ⟨3, ![1, 64, 512]⟩
abbrev S1x128x512 : Shape := ⟨3, ![1, 128, 512]⟩
abbrev S384x1792 : Shape := ⟨2, ![384, 1792]⟩
abbrev S1792 : Shape := ⟨1, ![1792]⟩
abbrev S512x512 : Shape := ⟨2, ![512, 512]⟩
abbrev S512x64 : Shape := ⟨2, ![512, 64]⟩
abbrev S512x128 : Shape := ⟨2, ![512, 128]⟩
abbrev S512 : Shape := ⟨1, ![512]⟩
abbrev S64x512 : Shape := ⟨2, ![64, 512]⟩
abbrev S_ : Shape := ⟨0, ![]⟩
abbrev S128x512 : Shape := ⟨2, ![128, 512]⟩
abbrev S512x8x64 : Shape := ⟨3, ![512, 8, 64]⟩
abbrev S512x8 : Shape := ⟨2, ![512, 8]⟩
abbrev S512x8x1 : Shape := ⟨3, ![512, 8, 1]⟩
abbrev S512x1024 : Shape := ⟨2, ![512, 1024]⟩

abbrev nBuf : Space → Nat
  | .hbm => 109
  | .vmem => 0
  | .smem => 0
  | _ => 0

abbrev bufTy : (tb : Table) → Fin (tcTables nBuf tb) → BufTy
  | .hbm, ⟨0, _⟩ => ⟨S512x1792, .f32⟩
  | .hbm, ⟨1, _⟩ => ⟨S128x1792, .f32⟩
  | .hbm, ⟨2, _⟩ => ⟨S1x1792, .f32⟩
  | .hbm, ⟨3, _⟩ => ⟨S1x512, .f32⟩
  | .hbm, ⟨4, _⟩ => ⟨S1x64x512, .f32⟩
  | .hbm, ⟨5, _⟩ => ⟨S1x512, .f32⟩
  | .hbm, ⟨6, _⟩ => ⟨S1x64x512, .f32⟩
  | .hbm, ⟨7, _⟩ => ⟨S1x128x512, .f32⟩
  | .hbm, ⟨8, _⟩ => ⟨S1x512, .f32⟩
  | .hbm, ⟨9, _⟩ => ⟨S1x512, .f32⟩
  | .hbm, ⟨10, _⟩ => ⟨S384x1792, .f32⟩
  | .hbm, ⟨11, _⟩ => ⟨S512x1792, .f32⟩
  | .hbm, ⟨12, _⟩ => ⟨S512x1792, .f32⟩
  | .hbm, ⟨13, _⟩ => ⟨S1792, .f32⟩
  | .hbm, ⟨14, _⟩ => ⟨S1x1792, .f32⟩
  | .hbm, ⟨15, _⟩ => ⟨S512x1792, .f32⟩
  | .hbm, ⟨16, _⟩ => ⟨S512x1792, .f32⟩
  | .hbm, ⟨17, _⟩ => ⟨S512x1792, .f32⟩
  | .hbm, ⟨18, _⟩ => ⟨S512x512, .f32⟩
  | .hbm, ⟨19, _⟩ => ⟨S512x512, .f32⟩
  | .hbm, ⟨20, _⟩ => ⟨S512x512, .f32⟩
  | .hbm, ⟨21, _⟩ => ⟨S512x64, .f32⟩
  | .hbm, ⟨22, _⟩ => ⟨S512x64, .f32⟩
  | .hbm, ⟨23, _⟩ => ⟨S512x128, .f32⟩
  | .hbm, ⟨24, _⟩ => ⟨S512, .f32⟩
  | .hbm, ⟨25, _⟩ => ⟨S512x64, .f32⟩
  | .hbm, ⟨26, _⟩ => ⟨S64x512, .f32⟩
  | .hbm, ⟨27, _⟩ => ⟨S512x512, .f32⟩
  | .hbm, ⟨28, _⟩ => ⟨S1x512, .f32⟩
  | .hbm, ⟨29, _⟩ => ⟨S512x512, .f32⟩
  | .hbm, ⟨30, _⟩ => ⟨S512x512, .f32⟩
  | .hbm, ⟨31, _⟩ => ⟨S512x512, .f32⟩
  | .hbm, ⟨32, _⟩ => ⟨S_, .f32⟩
  | .hbm, ⟨33, _⟩ => ⟨S512x512, .f32⟩
  | .hbm, ⟨34, _⟩ => ⟨S512x512, .f32⟩
  | .hbm, ⟨35, _⟩ => ⟨S512x512, .f32⟩
  | .hbm, ⟨36, _⟩ => ⟨S512x512, .f32⟩
  | .hbm, ⟨37, _⟩ => ⟨S512x512, .i1⟩
  | .hbm, ⟨38, _⟩ => ⟨S512x512, .f32⟩
  | .hbm, ⟨39, _⟩ => ⟨S512x512, .f32⟩
  | .hbm, ⟨40, _⟩ => ⟨S512x512, .f32⟩
  | .hbm, ⟨41, _⟩ => ⟨S512x512, .f32⟩
  | .hbm, ⟨42, _⟩ => ⟨S512x512, .f32⟩
  | .hbm, ⟨43, _⟩ => ⟨S512x512, .f32⟩
  | .hbm, ⟨44, _⟩ => ⟨S512x512, .f32⟩
  | .hbm, ⟨45, _⟩ => ⟨S512x512, .f32⟩
  | .hbm, ⟨46, _⟩ => ⟨S512x512, .f32⟩
  | .hbm, ⟨47, _⟩ => ⟨S_, .f32⟩
  | .hbm, ⟨48, _⟩ => ⟨S512x512, .f32⟩
  | .hbm, ⟨49, _⟩ => ⟨S512x512, .f32⟩
  | .hbm, ⟨50, _⟩ => ⟨S512x512, .f32⟩
  | .hbm, ⟨51, _⟩ => ⟨S512x512, .f32⟩
  | .hbm, ⟨52, _⟩ => ⟨S512x512, .f32⟩
  | .hbm, ⟨53, _⟩ => ⟨S512, .f32⟩
  | .hbm, ⟨54, _⟩ => ⟨S64x512, .f32⟩
  | .hbm, ⟨55, _⟩ => ⟨S512x512, .f32⟩
  | .hbm, ⟨56, _⟩ => ⟨S1x512, .f32⟩
  | .hbm, ⟨57, _⟩ => ⟨S512x512, .f32⟩
  | .hbm, ⟨58, _⟩ => ⟨S512x512, .f32⟩
  | .hbm, ⟨59, _⟩ => ⟨S512x512, .f32⟩
  | .hbm, ⟨60, _⟩ => ⟨S512x512, .f32⟩
  | .hbm, ⟨61, _⟩ => ⟨S_, .f32⟩
  | .hbm, ⟨62, _⟩ => ⟨S512x512, .f32⟩
  | .hbm, ⟨63, _⟩ => ⟨S512x512, .f32⟩
  | .hbm, ⟨64, _⟩ => ⟨S_, .f32⟩
  | .hbm, ⟨65, _⟩ => ⟨S512x512, .f32⟩
  | .hbm, ⟨66, _⟩ => ⟨S512x512, .f32⟩
  | .hbm, ⟨67, _⟩ => ⟨S512x128, .f32⟩
  | .hbm, ⟨68, _⟩ => ⟨S512x128, .f32⟩
  | .hbm, ⟨69, _⟩ => ⟨S_, .f32⟩
  | .hbm, ⟨70, _⟩ => ⟨S512x128, .f32⟩
  | .hbm, ⟨71, _⟩ => ⟨S512x128, .f32⟩
  | .hbm, ⟨72, _⟩ => ⟨S_, .f32⟩
  | .hbm, ⟨73, _⟩ => ⟨S512x128, .f32⟩
  | .hbm, ⟨74, _⟩ => ⟨S512x128, .f32⟩
  | .hbm, ⟨75, _⟩ => ⟨S128x512, .f32⟩
  | .hbm, ⟨76, _⟩ => ⟨S512x512, .f32⟩
  | .hbm, ⟨77, _⟩ => ⟨S512, .f32⟩
  | .hbm, ⟨78, _⟩ => ⟨S1x512, .f32⟩
  | .hbm, ⟨79, _⟩ => ⟨S512x512, .f32⟩
  | .hbm, ⟨80, _⟩ => ⟨S512x512, .f32⟩
  | .hbm, ⟨81, _⟩ => ⟨S512x8x64, .f32⟩
  | .hbm, ⟨82, _⟩ => ⟨S512x8x64, .f32⟩
  | .hbm, ⟨83, _⟩ => ⟨S_, .f32⟩
  | .hbm, ⟨84, _⟩ => ⟨S512x8, .f32⟩
  | .hbm, ⟨85, _⟩ => ⟨S512x8x1, .f32⟩
  | .hbm, ⟨86, _⟩ => ⟨S_, .f32⟩
  | .hbm, ⟨87, _⟩ => ⟨S512x8x1, .f32⟩
  | .hbm, ⟨88, _⟩ => ⟨S512x8x1, .f32⟩
  | .hbm, ⟨89, _⟩ => ⟨S512x8x1, .f32⟩
  | .hbm, ⟨90, _⟩ => ⟨S512x8x64, .f32⟩
  | .hbm, ⟨91, _⟩ => ⟨S512x8x64, .f32⟩
  | .hbm, ⟨92, _⟩ => ⟨S512x512, .f32⟩
  | .hbm, ⟨93, _⟩ => ⟨S512x512, .f32⟩
  | .hbm, ⟨94, _⟩ => ⟨S512x1024, .f32⟩
  | .hbm, ⟨95, _⟩ => ⟨S512x512, .f32⟩
  | .hbm, ⟨96, _⟩ => ⟨S_, .f32⟩
  | .hbm, ⟨97, _⟩ => ⟨S512x512, .f32⟩
  | .hbm, ⟨98, _⟩ => ⟨S512x512, .f32⟩
  | .hbm, ⟨99, _⟩ => ⟨S512, .f32⟩
  | .hbm, ⟨100, _⟩ => ⟨S1x512, .f32⟩
  | .hbm, ⟨101, _⟩ => ⟨S512x512, .f32⟩
  | .hbm, ⟨102, _⟩ => ⟨S512x512, .f32⟩
  | .hbm, ⟨103, _⟩ => ⟨S_, .f32⟩
  | .hbm, ⟨104, _⟩ => ⟨S512x512, .f32⟩
  | .hbm, ⟨105, _⟩ => ⟨S512x512, .f32⟩
  | .hbm, ⟨106, _⟩ => ⟨S512x512, .f32⟩
  | .hbm, ⟨107, _⟩ => ⟨S512x1024, .f32⟩
  | .hbm, ⟨108, _⟩ => ⟨S512x1024, .f32⟩
  | _, _ => ⟨S512x1792, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_call0_cst : Ref sig .tc := ⟨.hbm, 32, rfl⟩
abbrev main_call0_v0 : Ref sig .tc := ⟨.hbm, 33, rfl⟩
abbrev main_call0_v1 : Ref sig .tc := ⟨.hbm, 34, rfl⟩
abbrev main_call0_v2 : Ref sig .tc := ⟨.hbm, 35, rfl⟩
abbrev main_call0_v3 : Ref sig .tc := ⟨.hbm, 36, rfl⟩
abbrev main_call0_v4 : Ref sig .tc := ⟨.hbm, 37, rfl⟩
abbrev main_call0_v5 : Ref sig .tc := ⟨.hbm, 38, rfl⟩
abbrev main_call0_v6 : Ref sig .tc := ⟨.hbm, 39, rfl⟩
abbrev main_call0_v7 : Ref sig .tc := ⟨.hbm, 40, rfl⟩
abbrev main_call0_v8 : Ref sig .tc := ⟨.hbm, 41, rfl⟩
abbrev main_call0_v9 : Ref sig .tc := ⟨.hbm, 42, rfl⟩
abbrev main_call0_v10 : Ref sig .tc := ⟨.hbm, 43, rfl⟩
abbrev main_call0_v11 : Ref sig .tc := ⟨.hbm, 44, rfl⟩
abbrev main_v22 : Ref sig .tc := ⟨.hbm, 45, rfl⟩
abbrev main_v23 : Ref sig .tc := ⟨.hbm, 46, rfl⟩
abbrev main_cst : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_cst_0 : Ref sig .tc := ⟨.hbm, 61, rfl⟩
abbrev main_v37 : Ref sig .tc := ⟨.hbm, 62, rfl⟩
abbrev main_v38 : Ref sig .tc := ⟨.hbm, 63, rfl⟩
abbrev main_cst_1 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_cst_2 : Ref sig .tc := ⟨.hbm, 69, rfl⟩
abbrev main_v43 : Ref sig .tc := ⟨.hbm, 70, rfl⟩
abbrev main_v44 : Ref sig .tc := ⟨.hbm, 71, rfl⟩
abbrev main_cst_3 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_cst_4 : Ref sig .tc := ⟨.hbm, 83, rfl⟩
abbrev main_v55 : Ref sig .tc := ⟨.hbm, 84, rfl⟩
abbrev main_v56 : Ref sig .tc := ⟨.hbm, 85, rfl⟩
abbrev main_cst_5 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_cst_6 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_cst_7 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩

abbrev nD : Nat := 1
abbrev τ : Topo := Topo.v7x

variable {F : FTy → Type} [FloatOps F]
-- ==== Proof.ExpertTables.lean ====
module

public import proofs.«01_k».proof.Proof.Gen.KernelIdeal.Launch
public import proofs.«01_k».proof.Proof.Gen.KernelIdeal.Skeleton
public import Idealize.ShloMosaic.Lib.StableHlo.ReadAt
public import Idealize.ShloMosaic.Lib.Pipeline.Frame
public import Idealize.ShloMosaic.Lib.Pointwise

@[expose] public section

set_option maxRecDepth 16384

noncomputable section

namespace Cert.KernelIdeal.Experts

open Cert.KernelIdeal Cert.KernelIdeal.Gen
open Idealize.ShloMosaic Idealize.ShloMosaic.TcCoe
open Idealize.SL.Sem

variable {F : FTy → Type} [FloatOps F]
variable (m : (ℓ : Loc nD τ sig) → Buf (Elt F) ℓ) (c : Dev nD)

abbrev hostLines : List (List (HloOp τ sig (Elt F))) :=
  [hostOps0, hostOps0_1, hostOps0_2, hostOps0_3, hostOps0_4, hostOps0_5, hostOps0_6, hostOps0_7]

def V (c : Dev nD) (b : Ref sig .tc) : Buf (Elt F) ((c : Thread nD τ).loc b) :=
  StableHlo.after (List.flatten hostLines) (fun b => m (c, b)) b

/-- A count rounded up to a number of row tiles, as the host's floor division computes it. -/
def quot (x : BitVec 32) : BitVec 32 :=
  let y : BitVec 32 := IntOp.subi (IntOp.addi x 256#32) 1#32
  Scalar.select
    (IntOp.andi
      (IntOp.cmpi .ne (if y = 0 then (0 : BitVec 32) else if y.msb = true then -1 else 1)
        (if (256#32 : BitVec 32) = 0 then (0 : BitVec 32) else if (256#32 : BitVec 32).msb = true then -1 else 1))
      (IntOp.cmpi .ne (IntOp.remsi .host y 256#32) 0#32))
    (IntOp.subi (IntOp.divsi .host y 256#32) 1#32) (IntOp.divsi .host y 256#32)

/-- The rows an expert with `x` rows is given: whole tiles of 256. -/
def padded (x : BitVec 32) : BitVec 32 := IntOp.muli (quot x) 256#32

/-- Where expert `e`'s rows end, of the counts `c`. -/
def ends (c : Fin 32 → BitVec 32) (e : Fin 32) : BitVec 32 :=
  Finset.fold IntOp.addi 0#32 (fun k => Scalar.select (IntOp.cmpi .sge (BitVec.ofNat 32 e.val) (BitVec.ofNat 32 k.val)) (padded (c k)) 0#32)
    (Finset.univ : Finset (Fin 32))

/-- The rows in use. -/
def total (c : Fin 32 → BitVec 32) : BitVec 32 :=
  Finset.fold IntOp.addi 0#32 (fun k => padded (c k)) (Finset.univ : Finset (Fin 32))

/-- The number of experts whose rows end at or before row `r`. -/
def past (c : Fin 32 → BitVec 32) (r : BitVec 32) : BitVec 32 :=
  Finset.fold IntOp.addi 0#32 (fun e => BitVec.setWidth 32 (IntOp.cmpi .sge r (ends c e))) (Finset.univ : Finset (Fin 32))

/-- Whether row `r` is in use, as a word. -/
def used (c : Fin 32 → BitVec 32) (r : BitVec 32) : BitVec 32 := BitVec.setWidth 32 (IntOp.cmpi .slt r (total c))

/-- The last expert with rows. -/
def lastUsed (c : Fin 32 → BitVec 32) : BitVec 32 :=
  Finset.fold IntOp.maxsi 2147483648#32 (fun k => Scalar.select (IntOp.cmpi .sgt (padded (c k)) 0#32) (BitVec.ofNat 32 k.val) 0#32)
    (Finset.univ : Finset (Fin 32))

/-- The first row of tile `t`. -/
def firstRow (t : ℕ) : BitVec 32 := IntOp.muli (BitVec.ofNat 32 t) 256#32

/-- The counts as launched. -/
def cnt (k : Fin 32) : BitVec 32 := m ((c : Thread nD τ).loc main_arg1) (ix1 k)

set_option maxHeartbeats 800000 in
theorem V_valid (j : S164.Idx) : V m c main_v22 j = used (cnt m c) (firstRow (j 0).val) := by
  unfold V
  after_reads_at
  rfl

set_option maxHeartbeats 800000 in
theorem V_expert (j : S164.Idx) : V m c main_v36 j
    = Scalar.select (IntOp.cmpi .eq (used (cnt m c) (firstRow (j 0).val)) 1#32) (past (cnt m c) (firstRow (j 0).val)) (lastUsed (cnt m c)) := by
  unfold V
  after_reads_at
  rfl

/-! ## The words are in range -/

theorem bit_cases (b : BitVec 1) : b = 0#1 ∨ b = 1#1 := by
  revert b; decide

theorem used_cases (d : Fin 32 → BitVec 32) (r : BitVec 32) : used d r = 0#32 ∨ used d r = 1#32 := by
  unfold used
  rcases bit_cases (IntOp.cmpi .slt r (total d)) with h | h <;> rw [h] <;> decide

theorem used_eq_one (d : Fin 32 → BitVec 32) (r : BitVec 32) : used d r = 1#32 ↔ IntOp.cmpi .slt r (total d) = 1#1 := by
  unfold used
  rcases bit_cases (IntOp.cmpi .slt r (total d)) with h | h <;> rw [h] <;> decide

/-- A sum of bits counts the ones that are set. -/
theorem fold_bits {ι : Type} [DecidableEq ι] (p : ι → BitVec 1) (s : Finset ι) :
    Finset.fold IntOp.addi 0#32 (fun e => BitVec.setWidth 32 (p e)) s = BitVec.ofNat 32 (s.filter fun e => p e = 1#1).card := by
  induction s using Finset.induction_on with
  | empty => simp
  | insert a s ha ih =>
    rw [Finset.fold_insert ha, ih, Finset.filter_insert]
    rcases bit_cases (p a) with h | h
    · rw [h]; simp [IntOp.addi]
    · rw [if_pos h, h, Finset.card_insert_of_notMem (by simp [ha])]
      apply BitVec.eq_of_toNat_eq
      simp [IntOp.addi, BitVec.toNat_add, Nat.add_comm]

/-- The experts whose rows end at or before `r`. -/
def pastSet (d : Fin 32 → BitVec 32) (r : BitVec 32) : Finset (Fin 32) :=
  Finset.univ.filter fun e => IntOp.cmpi .sge r (ends d e) = 1#1

theorem past_toNat (d : Fin 32 → BitVec 32) (r : BitVec 32) : (past d r).toNat = (pastSet d r).card := by
  unfold past pastSet
  rw [fold_bits, BitVec.toNat_ofNat, Nat.mod_eq_of_lt]
  have := (Finset.univ.filter fun e : Fin 32 => IntOp.cmpi .sge r (ends d e) = 1#1).card_le_univ
  simp only [Fintype.card_fin] at this
  omega

/-- The last expert's rows end where the rows in use end. -/
theorem ends_last (d : Fin 32 → BitVec 32) : ends d 31 = total d := by
  unfold ends total
  refine Finset.fold_congr fun k _ => ?_
  rw [show IntOp.cmpi .sge (BitVec.ofNat 32 (31 : Fin 32).val) (BitVec.ofNat 32 k.val) = 1#1 from by revert k; decide]
  rfl

theorem slt_iff (a b : BitVec 32) : IntOp.cmpi .slt a b = 1#1 ↔ a.toInt < b.toInt := by
  simp only [IntOp.cmpi, BitVec.slt, BitVec.ofBool]
  by_cases h : a.toInt < b.toInt <;> simp [h]

theorem sge_iff (a b : BitVec 32) : IntOp.cmpi .sge a b = 1#1 ↔ b.toInt ≤ a.toInt := by
  simp only [IntOp.cmpi, BitVec.sle, BitVec.ofBool]
  by_cases h : b.toInt ≤ a.toInt <;> simp [h]

theorem slt_not_sge (a b : BitVec 32) (h : IntOp.cmpi .slt a b = 1#1) (h' : IntOp.cmpi .sge a b = 1#1) : False := by
  rw [slt_iff] at h
  rw [sge_iff] at h'
  omega

/-- A row in use is before the end of some expert's rows. -/
theorem past_lt (d : Fin 32 → BitVec 32) (r : BitVec 32) (h : used d r = 1#32) : (past d r).toNat < 32 := by
  rw [past_toNat]
  have h31 : (31 : Fin 32) ∉ pastSet d r := by
    unfold pastSet
    rw [Finset.mem_filter, ends_last]
    rintro ⟨-, h'⟩
    rw [used_eq_one] at h
    exact slt_not_sge r (total d) h h'
  have : pastSet d r ⊂ Finset.univ := Finset.ssubset_univ_iff.mpr fun he => h31 (he ▸ Finset.mem_univ _)
  simpa using Finset.card_lt_card this

theorem fold_max_lt (f : Fin 32 → BitVec 32) (hf : ∀ k, (f k).toNat < 32) (s : Finset (Fin 32)) :
    (s = ∅ ∧ Finset.fold IntOp.maxsi 2147483648#32 f s = 2147483648#32) ∨ (Finset.fold IntOp.maxsi 2147483648#32 f s).toNat < 32 := by
  induction s using Finset.induction_on with
  | empty => exact .inl ⟨rfl, by simp⟩
  | insert a s ha ih =>
    right
    rw [Finset.fold_insert ha]
    rcases ih with ⟨-, ih⟩ | ih
    · rw [ih]
      have h := hf a
      have hx : (f a).toInt = (f a).toNat := by rw [BitVec.toInt_eq_toNat_cond]; split <;> omega
      have hi : (2147483648#32).toInt = -2147483648 := by decide
      unfold IntOp.maxsi
      rw [if_pos (by rw [BitVec.slt, decide_eq_true_eq]; omega)]
      exact h
    · have h := hf a
      unfold IntOp.maxsi
      split <;> assumption

theorem lastUsed_lt (d : Fin 32 → BitVec 32) : (lastUsed d).toNat < 32 := by
  unfold lastUsed
  have step : ∀ (b : BitVec 1) (k : Fin 32), (Scalar.select b (BitVec.ofNat 32 k.val) 0#32 : BitVec 32).toNat < 32 := fun b k => by
    unfold Scalar.select
    split
    · rw [BitVec.toNat_ofNat]; omega
    · decide
  rcases fold_max_lt _ (fun k => step _ k) Finset.univ with h | h
  · exact absurd h.1 (by decide)
  · exact h

theorem expert_lt (j : S164.Idx) : (V m c main_v36 j : BitVec 32).toNat < 32 := by
  rw [V_expert]
  rcases used_cases (cnt m c) (firstRow (j 0).val) with h | h
  · rw [h]; exact lastUsed_lt _
  · have h' := past_lt _ _ h
    rw [h]; exact h'

/-! ## The tables the region runs at -/

/-- The tables' contents as the host leaves them. -/
def tables (c : Dev nD) : pre0.Contents (Elt F) := fun k => V m c (pre0.ref k)

theorem point_lt (i : grid0.Coords) : (i 0).val < 164 := (i 0).isLt

theorem rect_idx (i : grid0.Coords) (h : ∀ a, (k0_off1 i) a + S1.size a ≤ S164.size a) (x : (Rect.unit (s := S164) (k0_off1 i) S1.size h).shape.Idx) :
    (Rect.unit (s := S164) (k0_off1 i) S1.size h).emb x = (ix1 ⟨(i 0).val, point_lt i⟩ : S164.Idx) := by
  have hi := point_lt i
  refine funext fun a => Fin.ext ?_
  match a with
  | ⟨0, h0⟩ =>
    have hx : (x ⟨0, h0⟩).val < 1 := (x ⟨0, h0⟩).isLt
    have hv : (k0_off1 i) ⟨0, h0⟩ = (i 0).val := by
      show (BitVec.ofNat 32 (i 0).val).toNat = _
      rw [BitVec.toNat_ofNat]; omega
    rw [Rect.emb_apply]
    show k0_off1 i ⟨0, h0⟩ + 1 * (x ⟨0, h0⟩).val = (i 0).val
    omega

theorem block_le1 (n : ℕ) (h : n < 32) : ∀ a : Fin 3, (![n, 0, 0] a + 1) * S1x1024x512.size a ≤ S32x1024x512.size a := by
  intro a; fin_cases a
  · show (n + 1) * 1 ≤ 32; omega
  · show (0 + 1) * _ ≤ _; decide
  · show (0 + 1) * _ ≤ _; decide

theorem block_le2 (n : ℕ) (h : n < 32) : ∀ a : Fin 3, (![n, 0, 0] a + 1) * S1x512x1024.size a ≤ S32x512x1024.size a := by
  intro a; fin_cases a
  · show (n + 1) * 1 ≤ 32; omega
  · show (0 + 1) * _ ≤ _; decide
  · show (0 + 1) * _ ≤ _; decide

/-- Tables whose experts are in range are admissible. -/
theorem ok_of (pf : pre0.Contents (Elt F)) (h : ∀ j : S164.Idx, (pf 0 j : BitVec 32).toNat < 32) : ok0 pf :=
  ⟨fun i => ⟨block_le1 _ (h _), .inl rfl⟩, fun i => ⟨block_le1 _ (h _), .inl rfl⟩, fun i => ⟨block_le2 _ (h _), .inl rfl⟩⟩

/-- The admissible contents the region runs at. -/
def adm (c : Dev nD) : (pcfg0 (F := F)).Adm := ⟨tables m c, ok_of _ (expert_lt m c)⟩

end Cert.KernelIdeal.Experts
-- ==== Proof.ExpertRun.lean ====
module

public import proofs.«01_k».proof.Proof.Gen.KernelIdeal.Launch
public import proofs.«01_k».proof.Proof.Gen.KernelIdeal.Skeleton
public import Idealize.ShloMosaic.Lib.Pipeline.Kit
public import Idealize.ShloMosaic.Lib.Pipeline.FrameBody
public import Idealize.ShloMosaic.Lib.Writes
public import Idealize.ShloMosaic.Lib.VecWindow
public import Idealize.ShloMosaic.Lib.Ring
public import Idealize.ShloMosaic.Lib.Exec
public import Idealize.ShloMosaic.Lib.Affine
public import Idealize.ShloMosaic.Lib.Tactic

@[expose] public section

set_option maxRecDepth 16384
set_option Elab.async false

noncomputable section

namespace Cert.KernelIdeal.Experts

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-! ## The body on one row tile, either way its validity word goes -/

/-- The tables, as the body is handed them. -/
abbrev tabE : Memref sig .tc .smem S164 .i32 := Memref.whole main_v36
abbrev tabV : Memref sig .tc .smem S164 .i32 := Memref.whole main_v22

/-- The word the body tests at point `i`, of the validity table's contents. -/
abbrev word1 (i : grid0.Coords) (T1 : S164.Idx → Elt F .i32) : Elt F .i32 :=
  View.readAt (Elt F) (tabV).view (Rect.unit (s := S164) (k0_off1 i) S1.size (k0_off1_inb i)).toLoadRect T1 (Shape.Idx.first (numel1_S1.symm ▸ Nat.one_pos))
abbrev word2 (i : grid0.Coords) (T1 : S164.Idx → Elt F .i32) : Elt F .i32 :=
  View.readAt (Elt F) (tabV).view (Rect.unit (s := S164) (k0_off2 i) S1.size (k0_off2_inb i)).toLoadRect T1 (Shape.Idx.first (numel1_S1.symm ▸ Nat.one_pos))

section
variable (c : Dev nD) (i : grid0.Coords)
  (arg3 : Memref sig .tc .vmem S256x1024 .f32) (harg3 : arg3.IsWhole) (arg4 : Memref sig .tc .vmem S1x1024x512 .f32) (harg4 : arg4.IsWhole)
  (arg5 : Memref sig .tc .vmem S1x1024x512 .f32) (harg5 : arg5.IsWhole) (arg6 : Memref sig .tc .vmem S1x512x1024 .f32) (harg6 : arg6.IsWhole)
  (arg7 : Memref sig .tc .vmem S256x1024 .f32) (harg7 : arg7.IsWhole) (T0 T1 : S164.Idx → Elt F .i32)
  (x0 : S256x1024.Idx → Elt F .f32) (x1 x2 : S1x1024x512.Idx → Elt F .f32) (x3 : S1x512x1024.Idx → Elt F .f32)

/-- What the body holds beside its output: the four blocks and its halves of the tables. -/
def inputsHeld : sProp 𝕄 :=
  iprop((arg3.view.loc (c : Thread nD τ) ↦[arg3.view.set]{fullShare} arg3.view.rep x0)
    ∗ (arg4.view.loc (c : Thread nD τ) ↦[arg4.view.set]{fullShare} arg4.view.rep x1)
    ∗ (arg5.view.loc (c : Thread nD τ) ↦[arg5.view.set]{fullShare} arg5.view.rep x2)
    ∗ (arg6.view.loc (c : Thread nD τ) ↦[arg6.view.set]{fullShare} arg6.view.rep x3)
    ∗ (tabE.view.loc (c : Thread nD τ) ↦{fullShare.right} T0)
    ∗ (tabV.view.loc (c : Thread nD τ) ↦{fullShare.right} T1))

set_option backward.proofsInPublic true in
set_option maxHeartbeats 4000000 in
/-- The tile is in use: the body stores the expert's product into the output. -/
def runUsed (h1 : k0_cond1 (word1 i T1) = 1#1) (h2 : ¬(k0_cond2 (word2 i T1) = 1#1)) :
    { out : List (View.Piece (Elt F) S256x1024 .f32) //
      ∀ (K : PUnit → sProp 𝕄),
        iprop(inputsHeld c arg3 arg4 arg5 arg6 T0 T1 x0 x1 x2 x3 ∗ (∃ d, owns (c : Thread nD τ) arg7 fullShare d)
          ∗ (iprop(inputsHeld c arg3 arg4 arg5 arg6 T0 T1 x0 x1 x2 x3
              ∗ (∃ f, arg7.view.loc (c : Thread nD τ) ↦[arg7.view.set]{fullShare} arg7.view.writes (Elt F) f out)) -∗ K ⟨⟩))
          ⊢ wp frame (wpE (defs₀ (F := F)) Variants.none c none) Set.univ
              (cc0_moe_experts i tabE (Memref.isWhole_whole _) tabV (Memref.isWhole_whole _) arg3 harg3 arg4 harg4 arg5 harg5 arg6 harg6 arg7 harg7) K } :=
  ⟨_, fun K => by
    unfold owns inputsHeld
    rw [cc0_moe_experts_eq_skeleton]; unfold cc0_moe_experts_skel
    iintro ⟨⟨H0, H1, H2, H3, HT0, HT1⟩, ⟨%d4, %f4, -, HO4⟩, Hk⟩
    have hT0 : tabE.IsWhole := Memref.isWhole_whole _
    have hT1 : tabV.IsWhole := Memref.isWhole_whole _
    sl_exec! (disch := first | (guard_target = k0_cond1 _ = _; exact h1) | (guard_target = ¬(k0_cond2 _ = _); exact h2))
    sl_step
    iapply Hk
    isplitr [HO4]
    · isplitl [H0]; · iexact H0
      isplitl [H1]; · iexact H1
      isplitl [H2]; · iexact H2
      isplitl [H3]; · iexact H3
      isplitl [HT0]; · iexact HT0
      iexact HT1
    iexists _; iexact HO4⟩

set_option backward.proofsInPublic true in
set_option maxHeartbeats 4000000 in
/-- The tile is past the rows in use: the body stores zeros. -/
def runUnused (h1 : ¬(k0_cond1 (word1 i T1) = 1#1)) (h2 : k0_cond2 (word2 i T1) = 1#1) :
    { out : List (View.Piece (Elt F) S256x1024 .f32) //
      ∀ (K : PUnit → sProp 𝕄),
        iprop(inputsHeld c arg3 arg4 arg5 arg6 T0 T1 x0 x1 x2 x3 ∗ (∃ d, owns (c : Thread nD τ) arg7 fullShare d)
          ∗ (iprop(inputsHeld c arg3 arg4 arg5 arg6 T0 T1 x0 x1 x2 x3
              ∗ (∃ f, arg7.view.loc (c : Thread nD τ) ↦[arg7.view.set]{fullShare} arg7.view.writes (Elt F) f out)) -∗ K ⟨⟩))
          ⊢ wp frame (wpE (defs₀ (F := F)) Variants.none c none) Set.univ
              (cc0_moe_experts i tabE (Memref.isWhole_whole _) tabV (Memref.isWhole_whole _) arg3 harg3 arg4 harg4 arg5 harg5 arg6 harg6 arg7 harg7) K } :=
  ⟨_, fun K => by
    unfold owns inputsHeld
    rw [cc0_moe_experts_eq_skeleton]; unfold cc0_moe_experts_skel
    iintro ⟨⟨H0, H1, H2, H3, HT0, HT1⟩, ⟨%d4, %f4, -, HO4⟩, Hk⟩
    have hT0 : tabE.IsWhole := Memref.isWhole_whole _
    have hT1 : tabV.IsWhole := Memref.isWhole_whole _
    sl_exec! (disch := first | (guard_target = ¬(k0_cond1 _ = _); exact h1) | (guard_target = k0_cond2 _ = _; exact h2))
    sl_step
    iapply Hk
    isplitr [HO4]
    · isplitl [H0]; · iexact H0
      isplitl [H1]; · iexact H1
      isplitl [H2]; · iexact H2
      isplitl [H3]; · iexact H3
      isplitl [HT0]; · iexact HT0
      iexact HT1
    iexists _; iexact HO4⟩

theorem runUsed_read (h1 : k0_cond1 (word1 i T1) = 1#1) (h2 : ¬(k0_cond2 (word2 i T1) = 1#1)) (f : arg7.view.ty.Contents (Elt F)) :
    arg7.view.read (Elt F) (arg7.view.writes (Elt F) f (runUsed c i arg3 harg3 arg4 harg4 arg5 harg5 arg6 harg6 arg7 harg7 T0 T1 x0 x1 x2 x3 h1 h2).1)
      = k0_pay1 x0 x1 x2 x3 := by
  unfold runUsed
  dsimp only
  unfold runUsed.sl.HO4_1
  rw [View.read_writes_full, View.readAt_rep_full, View.readAt_rep_full, View.readAt_rep_full, View.readAt_rep_full]

theorem runUnused_read (h1 : ¬(k0_cond1 (word1 i T1) = 1#1)) (h2 : k0_cond2 (word2 i T1) = 1#1) (f : arg7.view.ty.Contents (Elt F)) :
    arg7.view.read (Elt F) (arg7.view.writes (Elt F) f (runUnused c i arg3 harg3 arg4 harg4 arg5 harg5 arg6 harg6 arg7 harg7 T0 T1 x0 x1 x2 x3 h1 h2).1)
      = k0_pay2 := by
  unfold runUnused
  dsimp only
  unfold runUnused.sl.HO4_1
  rw [View.read_writes_full]

end

end Cert.KernelIdeal.Experts

end
-- ==== Proof.ExpertFrame.lean ====
module

public import proofs.«01_k».proof.Proof.ExpertTables
public import proofs.«01_k».proof.Proof.ExpertRun
public import Idealize.ShloMosaic.Lib.Pipeline.Quiescent
public import Idealize.ShloMosaic.Lib.Claim
public import Idealize.ShloMosaic.Lib.Pipeline.Frame
public import Idealize.ShloMosaic.Lib.Pipeline.FrameBody
public import Idealize.ShloMosaic.Adequacy
public import Idealize.ShloMosaic.Init

@[expose] public section

set_option maxRecDepth 16384
set_option Elab.async false

noncomputable section

namespace Cert.KernelIdeal.Experts

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg) (c : Dev nD)

/-! ## The host up to the region -/

theorem fresh0 : (hostOps0 : List (HloOp τ sig (Elt F))).Forall fun op => op.fresh = ∅ := by simp only [List.Forall]; repeat' constructor
theorem fresh1 : (hostOps0_1 : List (HloOp τ sig (Elt F))).Forall fun op => op.fresh = ∅ := by simp only [List.Forall]; repeat' constructor
theorem fresh2 : (hostOps0_2 : List (HloOp τ sig (Elt F))).Forall fun op => op.fresh = ∅ := by simp only [List.Forall]; repeat' constructor
theorem fresh3 : (hostOps0_3 : List (HloOp τ sig (Elt F))).Forall fun op => op.fresh = ∅ := by simp only [List.Forall]; repeat' constructor
theorem fresh4 : (hostOps0_4 : List (HloOp τ sig (Elt F))).Forall fun op => op.fresh = ∅ := by simp only [List.Forall]; repeat' constructor
theorem fresh5 : (hostOps0_5 : List (HloOp τ sig (Elt F))).Forall fun op => op.fresh = ∅ := by simp only [List.Forall]; repeat' constructor
theorem fresh6 : (hostOps0_6 : List (HloOp τ sig (Elt F))).Forall fun op => op.fresh = ∅ := by simp only [List.Forall]; repeat' constructor
theorem fresh7 : (hostOps0_7 : List (HloOp τ sig (Elt F))).Forall fun op => op.fresh = ∅ := by simp only [List.Forall]; repeat' constructor

/-- `@main` runs the host's lines and then the region. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main hostLines
    (by simp only [List.Forall]; exact ⟨hostOps0_sub, hostOps0_1_sub, hostOps0_2_sub, hostOps0_3_sub, hostOps0_4_sub, hostOps0_5_sub, hostOps0_6_sub, hostOps0_7_sub⟩)
    (by simp only [List.Forall]; exact ⟨fresh0, fresh1, fresh2, fresh3, fresh4, fresh5, fresh6, fresh7⟩) main_chain

theorem V_arg0 : V m c main_arg0 = m ((c : Thread nD τ).loc main_arg0) :=
  StableHlo.after_of_forall_not_mem (b := Proc.devRef .tc main_arg0) _ _ (List.forall_iff_forall_mem.mp (by
    simp only [hostLines, hostOps0, hostOps0_1, hostOps0_2, hostOps0_3, hostOps0_4, hostOps0_5, hostOps0_6, hostOps0_7, List.flatten_cons,
      List.flatten_nil, List.append_nil, List.cons_append, List.nil_append, List.Forall, StableHlo.nullary_writes, StableHlo.unary_writes,
      StableHlo.binary_writes, StableHlo.ternary_writes, StableHlo.reshape_writes, Finset.mem_singleton]
    repeat' apply And.intro
    all_goals exact StableHlo.devRef_ne_of_ne (by decide)))

theorem V_arg1 : V m c main_arg1 = m ((c : Thread nD τ).loc main_arg1) :=
  StableHlo.after_of_forall_not_mem (b := Proc.devRef .tc main_arg1) _ _ (List.forall_iff_forall_mem.mp (by
    simp only [hostLines, hostOps0, hostOps0_1, hostOps0_2, hostOps0_3, hostOps0_4, hostOps0_5, hostOps0_6, hostOps0_7, List.flatten_cons,
      List.flatten_nil, List.append_nil, List.cons_append, List.nil_append, List.Forall, StableHlo.nullary_writes, StableHlo.unary_writes,
      StableHlo.binary_writes, StableHlo.ternary_writes, StableHlo.reshape_writes, Finset.mem_singleton]
    repeat' apply And.intro
    all_goals exact StableHlo.devRef_ne_of_ne (by decide)))

theorem V_arg2 : V m c main_arg2 = m ((c : Thread nD τ).loc main_arg2) :=
  StableHlo.after_of_forall_not_mem (b := Proc.devRef .tc main_arg2) _ _ (List.forall_iff_forall_mem.mp (by
    simp only [hostLines, hostOps0, hostOps0_1, hostOps0_2, hostOps0_3, hostOps0_4, hostOps0_5, hostOps0_6, hostOps0_7, List.flatten_cons,
      List.flatten_nil, List.append_nil, List.cons_append, List.nil_append, List.Forall, StableHlo.nullary_writes, StableHlo.unary_writes,
      StableHlo.binary_writes, StableHlo.ternary_writes, StableHlo.reshape_writes, Finset.mem_singleton]
    repeat' apply And.intro
    all_goals exact StableHlo.devRef_ne_of_ne (by decide)))

theorem V_arg3 : V m c main_arg3 = m ((c : Thread nD τ).loc main_arg3) :=
  StableHlo.after_of_forall_not_mem (b := Proc.devRef .tc main_arg3) _ _ (List.forall_iff_forall_mem.mp (by
    simp only [hostLines, hostOps0, hostOps0_1, hostOps0_2, hostOps0_3, hostOps0_4, hostOps0_5, hostOps0_6, hostOps0_7, List.flatten_cons,
      List.flatten_nil, List.append_nil, List.cons_append, List.nil_append, List.Forall, StableHlo.nullary_writes, StableHlo.unary_writes,
      StableHlo.binary_writes, StableHlo.ternary_writes, StableHlo.reshape_writes, Finset.mem_singleton]
    repeat' apply And.intro
    all_goals exact StableHlo.devRef_ne_of_ne (by decide)))

theorem V_arg4 : V m c main_arg4 = m ((c : Thread nD τ).loc main_arg4) :=
  StableHlo.after_of_forall_not_mem (b := Proc.devRef .tc main_arg4) _ _ (List.forall_iff_forall_mem.mp (by
    simp only [hostLines, hostOps0, hostOps0_1, hostOps0_2, hostOps0_3, hostOps0_4, hostOps0_5, hostOps0_6, hostOps0_7, List.flatten_cons,
      List.flatten_nil, List.append_nil, List.cons_append, List.nil_append, List.Forall, StableHlo.nullary_writes, StableHlo.unary_writes,
      StableHlo.binary_writes, StableHlo.ternary_writes, StableHlo.reshape_writes, Finset.mem_singleton]
    repeat' apply And.intro
    all_goals exact StableHlo.devRef_ne_of_ne (by decide)))

/-! ## The word each tile tests -/

/-- Tile `t`'s validity word. -/
def valid (i : grid0.Coords) : BitVec 32 := used (cnt m 0) (firstRow (i 0).val)

theorem valid_cases (i : grid0.Coords) : valid m i = 0#32 ∨ valid m i = 1#32 := used_cases _ _

theorem word1_eq (i : grid0.Coords) : word1 i (tables m 0 1) = valid m i := by
  show V m 0 main_v22 _ = _
  rw [V_valid]
  unfold valid
  congr 2
  have h := congrArg (fun j : S164.Idx => (j 0).val) (rect_idx i (k0_off1_inb i) (Shape.Idx.first (numel1_S1.symm ▸ Nat.one_pos)))
  exact h

theorem word2_eq (i : grid0.Coords) : word2 i (tables m 0 1) = valid m i := word1_eq m i

theorem cond1_one : k0_cond1 (1#32 : Elt F .i32) = 1#1 := by decide
theorem cond2_one : ¬(k0_cond2 (1#32 : Elt F .i32) = 1#1) := by decide
theorem cond1_zero : ¬(k0_cond1 (0#32 : Elt F .i32) = 1#1) := by decide
theorem cond2_zero : k0_cond2 (0#32 : Elt F .i32) = 1#1 := by decide

theorem off_val (i : grid0.Coords) : k0_off1 i 0 = (i 0).val := by
  have hi := point_lt i
  show (BitVec.ofNat 32 (i 0).val).toNat = _
  rw [BitVec.toNat_ofNat]; omega

theorem tested (i : grid0.Coords) : (tables m 0).atD 1 (k0_off1 i) = valid m i := by
  have hi := point_lt i
  have hb : ∀ a : Fin 1, k0_off1 i a + 1 ≤ S164.size a := fun a => by
    rw [show a = 0 from Subsingleton.elim _ _, off_val]; exact hi
  show (if h : ∀ a : Fin 1, k0_off1 i a + 1 ≤ S164.size a then V m 0 main_v22 (fun a => ⟨k0_off1 i a, h a⟩) else default) = _
  rw [dif_pos hb, V_valid]
  unfold valid
  congr 2
  exact off_val i

theorem stored_at (i : grid0.Coords) : idle0 (F := F) (tables m 0) 4 i = false := by
  show (!(k0_cond1 ((tables m 0).atD 1 (k0_off1 i)) == 1#1) && !(k0_cond2 ((tables m 0).atD 1 (k0_off1 i)) == 1#1)) = false
  rw [tested]
  rcases valid_cases m i with h | h
  · rw [h]; decide
  · rw [h]; decide

theorem runs_unused (i : grid0.Coords) (h : valid m i = 0#32) :
    ¬(k0_cond1 (word1 i (tables m 0 1)) = 1#1) ∧ k0_cond2 (word2 i (tables m 0 1)) = 1#1 := by
  rw [word1_eq, word2_eq, h]; exact ⟨cond1_zero, cond2_zero⟩

theorem runs_used (i : grid0.Coords) (h : valid m i = 1#32) :
    k0_cond1 (word1 i (tables m 0 1)) = 1#1 ∧ ¬(k0_cond2 (word2 i (tables m 0 1)) = 1#1) := by
  rw [word1_eq, word2_eq, h]; exact ⟨cond1_one, cond2_one⟩

end Cert.KernelIdeal.Experts

end
-- ==== Proof.ExpertBlocks.lean ====
module

public import proofs.«01_k».proof.Proof.ExpertFrame
public import Idealize.ShloMosaic.Lib.Pipeline.Quiescent
public import Idealize.ShloMosaic.Lib.Claim
public import Idealize.ShloMosaic.Lib.Pipeline.Frame
public import Idealize.ShloMosaic.Lib.Pipeline.FrameBody
public import Idealize.ShloMosaic.Adequacy
public import Idealize.ShloMosaic.Init

@[expose] public section

set_option maxRecDepth 16384
set_option Elab.async false

noncomputable section

namespace Cert.KernelIdeal.Experts

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg) (c : Dev nD)

attribute [local irreducible] V valid

/-! ## The pipeline at the tables the host computed -/

abbrev atTables : (p : Fin 1) → (pcfgs (F := F) p).Adm := fun _ => adm m 0
abbrev cfgA : Pipeline.Cfg sig Λ₀ := cfg0 (F := F) (adm m 0)
abbrev pcs : Fin 1 → Pipeline.Cfg sig Λ₀ := Pipeline.pin (pcfgs (F := F)) (atTables m)
abbrev crd (t : Fin (cfgA m).N) : grid0.Coords := (cfgA m).grid.coords t

abbrev stg0 (t : Fin (cfgA m).N) : Memref sig .tc .vmem S256x1024 .f32 := spec0_0.stage ((cfgA m).slots t (0 : Fin 5))
abbrev whl0 (t : Fin (cfgA m).N) : (stg0 m t).IsWhole := hstage0_0 (((cfgA m).slots t (0 : Fin 5)).cast nbuf0_0)
abbrev stg1 (t : Fin (cfgA m).N) : Memref sig .tc .vmem S1x1024x512 .f32 := spec0_1.stage ((cfgA m).slots t (1 : Fin 5))
abbrev whl1 (t : Fin (cfgA m).N) : (stg1 m t).IsWhole := hstage0_1 (((cfgA m).slots t (1 : Fin 5)).cast nbuf0_1)
abbrev stg2 (t : Fin (cfgA m).N) : Memref sig .tc .vmem S1x1024x512 .f32 := spec0_2.stage ((cfgA m).slots t (2 : Fin 5))
abbrev whl2 (t : Fin (cfgA m).N) : (stg2 m t).IsWhole := hstage0_2 (((cfgA m).slots t (2 : Fin 5)).cast nbuf0_2)
abbrev stg3 (t : Fin (cfgA m).N) : Memref sig .tc .vmem S1x512x1024 .f32 := spec0_3.stage ((cfgA m).slots t (3 : Fin 5))
abbrev whl3 (t : Fin (cfgA m).N) : (stg3 m t).IsWhole := hstage0_3 (((cfgA m).slots t (3 : Fin 5)).cast nbuf0_3)
abbrev stg4 (t : Fin (cfgA m).N) : Memref sig .tc .vmem S256x1024 .f32 := spec0_4.stage ((cfgA m).slots t (4 : Fin 5))
abbrev whl4 (t : Fin (cfgA m).N) : (stg4 m t).IsWhole := hstage0_4 (((cfgA m).slots t (4 : Fin 5)).cast nbuf0_4)

/-- Window `w`'s block at point `t`, of its array as the region finds it. -/
def iblk (w : Fin (cfgA m).W) (t : Fin (cfgA m).N) : (((cfgA m).win w).xblock (crd m t)).Idx → Elt F ((cfgA m).win w).elt :=
  (((cfgA m).win w).blk t).view.read (Elt F) (V m c (Pipeline.arrRef spec0 w))

/-- What the body leaves in the output's block: the expert's product where the tile is in use, zeros past the rows in use. -/
def oblk (t : Fin (cfgA m).N) : S256x1024.Idx → Elt F .f32 :=
  if valid m (crd m t) = 1#32 then k0_pay1 (iblk m c (0 : Fin 5) t) (iblk m c (1 : Fin 5) t) (iblk m c (2 : Fin 5) t) (iblk m c (3 : Fin 5) t) else k0_pay2

/-- The proof data of the one pipeline. -/
def dats (_ : Fin 1) (c : Dev nD) : Dat τ (Elt F) Unit ℕ (UR sig nD τ) ℕ (cfgA m) c where
  A w := V m c (Pipeline.arrRef spec0 w)
  after w t := match w with
    | ⟨0, _⟩ => iblk m c (0 : Fin 5) t
    | ⟨1, _⟩ => iblk m c (1 : Fin 5) t
    | ⟨2, _⟩ => iblk m c (2 : Fin 5) t
    | ⟨3, _⟩ => iblk m c (3 : Fin 5) t
    | ⟨4, _⟩ => oblk m c t
  Φ _ := iprop(Pipeline.ΦA spec0 c ∗ Pipeline.ΦT pre0 (adm m 0).1 c)
  q _ := fullShare
  owed _ := 0

theorem before0 (t : Fin (cfgA m).N) (d) : (dats m 0 c).before (0 : Fin 5) t d = iblk m c (0 : Fin 5) t :=
  ((dats m 0 c).before_in_eq_fetched (0 : Fin 5) rfl (fun _ => rfl) (fun _ _ _ => rfl)
    (fun t => by rw [show (dats m 0 c).after (0 : Fin 5) t = iblk m c (0 : Fin 5) t from rfl]; unfold Dat.blockOf iblk; rfl) t d).trans
    (by unfold Dat.fetched Dat.blockOf iblk; rfl)

theorem before1 (t : Fin (cfgA m).N) (d) : (dats m 0 c).before (1 : Fin 5) t d = iblk m c (1 : Fin 5) t :=
  ((dats m 0 c).before_in_eq_fetched (1 : Fin 5) rfl (fun _ => rfl) (fun _ _ _ => rfl)
    (fun t => by rw [show (dats m 0 c).after (1 : Fin 5) t = iblk m c (1 : Fin 5) t from rfl]; unfold Dat.blockOf iblk; rfl) t d).trans
    (by unfold Dat.fetched Dat.blockOf iblk; rfl)

theorem before2 (t : Fin (cfgA m).N) (d) : (dats m 0 c).before (2 : Fin 5) t d = iblk m c (2 : Fin 5) t :=
  ((dats m 0 c).before_in_eq_fetched (2 : Fin 5) rfl (fun _ => rfl) (fun _ _ _ => rfl)
    (fun t => by rw [show (dats m 0 c).after (2 : Fin 5) t = iblk m c (2 : Fin 5) t from rfl]; unfold Dat.blockOf iblk; rfl) t d).trans
    (by unfold Dat.fetched Dat.blockOf iblk; rfl)

theorem before3 (t : Fin (cfgA m).N) (d) : (dats m 0 c).before (3 : Fin 5) t d = iblk m c (3 : Fin 5) t :=
  ((dats m 0 c).before_in_eq_fetched (3 : Fin 5) rfl (fun _ => rfl) (fun _ _ _ => rfl)
    (fun t => by rw [show (dats m 0 c).after (3 : Fin 5) t = iblk m c (3 : Fin 5) t from rfl]; unfold Dat.blockOf iblk; rfl) t d).trans
    (by unfold Dat.fetched Dat.blockOf iblk; rfl)

/-- Every point stores the output's block, whichever way its word goes. -/
theorem stored (t : Fin (cfgA m).N) : (cfgA m).idle (4 : Fin 5) ((cfgA m).grid.coords t) = false :=
  stored_at m (crd m t)

theorem oblk_unused (t : Fin (cfgA m).N) (h : valid m (crd m t) = 0#32) : oblk m c t = k0_pay2 := by
  unfold oblk; rw [h]; exact if_neg (by decide)

theorem oblk_used (t : Fin (cfgA m).N) (h : valid m (crd m t) = 1#32) :
    oblk m c t = k0_pay1 (iblk m c (0 : Fin 5) t) (iblk m c (1 : Fin 5) t) (iblk m c (2 : Fin 5) t) (iblk m c (3 : Fin 5) t) := by
  unfold oblk; rw [h]; exact if_pos rfl

theorem prefHeld_eq (q : Fin 2 → PosShare TreeShare) (v : pre0.Contents (Elt F)) :
    (Pipeline.prefHeld (Ix := Unit) (Name := ℕ) (U := UR sig nD τ) (Lvl := ℕ) pre0 c q v : sProp 𝕄)
      = iprop((((c : Thread nD τ).loc main_v36) ↦{q 0} v 0) ∗ (((c : Thread nD τ).loc main_v22) ↦{q 1} v 1)) := by
  unfold Pipeline.prefHeld
  rw [show (Finset.univ : Finset (Fin 2)) = insert (0 : Fin 2) {(1 : Fin 2)} from by decide,
    bigSep_insert (by decide), bigSep_singleton]
  rfl

abbrev bodyAt (t : Fin (cfgA m).N) : Prog (TpuEff nD τ sig (Elt F) Λ₀ .tc) PUnit :=
  cc0_moe_experts (crd m t) tabE (Memref.isWhole_whole _) tabV (Memref.isWhole_whole _) (stg0 m t) (whl0 m t) (stg1 m t) (whl1 m t)
    (stg2 m t) (whl2 m t) (stg3 m t) (whl3 m t) (stg4 m t) (whl4 m t)

/-- The body at one point, from the blocks it is handed to what it leaves in the output's block. -/
theorem tile (t : Fin (cfgA m).N) (K : PUnit → sProp 𝕄) :
    iprop(inputsHeld c (stg0 m t) (stg1 m t) (stg2 m t) (stg3 m t) (tables m 0 0) (tables m 0 1) (iblk m c (0 : Fin 5) t) (iblk m c (1 : Fin 5) t) (iblk m c (2 : Fin 5) t) (iblk m c (3 : Fin 5) t)
        ∗ (∃ d, owns (c : Thread nD τ) (stg4 m t) fullShare d)
        ∗ (iprop(inputsHeld c (stg0 m t) (stg1 m t) (stg2 m t) (stg3 m t) (tables m 0 0) (tables m 0 1) (iblk m c (0 : Fin 5) t) (iblk m c (1 : Fin 5) t) (iblk m c (2 : Fin 5) t) (iblk m c (3 : Fin 5) t)
            ∗ owns (c : Thread nD τ) (stg4 m t) fullShare (oblk m c t)) -∗ K ⟨⟩))
      ⊢ wp frame (wpE (defs₀ (F := F)) Variants.none c none) Set.univ (bodyAt m t) K := by
  rcases valid_cases m (crd m t) with h | h
  · have h1 := (runs_unused m (crd m t) h).1
    have h2 := (runs_unused m (crd m t) h).2
    rw [oblk_unused m c t h]
    iintro ⟨HI, HO, Hk⟩
    iapply ((runUnused c (crd m t) (stg0 m t) (whl0 m t) (stg1 m t) (whl1 m t) (stg2 m t) (whl2 m t) (stg3 m t) (whl3 m t) (stg4 m t) (whl4 m t)
      (tables m 0 0) (tables m 0 1) (iblk m c (0 : Fin 5) t) (iblk m c (1 : Fin 5) t) (iblk m c (2 : Fin 5) t) (iblk m c (3 : Fin 5) t) h1 h2).2 K)
    isplitl [HI]; · iexact HI
    isplitl [HO]; · iexact HO
    iintro ⟨HI, ⟨%f, HO⟩⟩
    iapply Hk
    isplitl [HI]; · iexact HI
    unfold owns; iexists _; isplitr; swap
    · iexact HO
    · ipureintro; exact runUnused_read _ _ _ _ _ _ _ _ _ _ _ _ _ _ _ _ _ _ _ _ _
  · have h1 := (runs_used m (crd m t) h).1
    have h2 := (runs_used m (crd m t) h).2
    rw [oblk_used m c t h]
    iintro ⟨HI, HO, Hk⟩
    iapply ((runUsed c (crd m t) (stg0 m t) (whl0 m t) (stg1 m t) (whl1 m t) (stg2 m t) (whl2 m t) (stg3 m t) (whl3 m t) (stg4 m t) (whl4 m t)
      (tables m 0 0) (tables m 0 1) (iblk m c (0 : Fin 5) t) (iblk m c (1 : Fin 5) t) (iblk m c (2 : Fin 5) t) (iblk m c (3 : Fin 5) t) h1 h2).2 K)
    isplitl [HI]; · iexact HI
    isplitl [HO]; · iexact HO
    iintro ⟨HI, ⟨%f, HO⟩⟩
    iapply Hk
    isplitl [HI]; · iexact HI
    unfold owns; iexists _; isplitr; swap
    · iexact HO
    · ipureintro; exact runUsed_read _ _ _ _ _ _ _ _ _ _ _ _ _ _ _ _ _ _ _ _ _

end Cert.KernelIdeal.Experts

end
-- ==== Proof.ExpertBody.lean ====
module

public import proofs.«01_k».proof.Proof.ExpertBlocks
public import Idealize.ShloMosaic.Lib.Pipeline.Quiescent
public import Idealize.ShloMosaic.Lib.Claim
public import Idealize.ShloMosaic.Lib.Pipeline.Frame
public import Idealize.ShloMosaic.Lib.Pipeline.FrameBody
public import Idealize.ShloMosaic.Lib.Pipeline.TableIdle
public import Idealize.ShloMosaic.Adequacy
public import Idealize.ShloMosaic.Init

@[expose] public section

set_option maxRecDepth 16384
set_option Elab.async false

noncomputable section

namespace Cert.KernelIdeal.Experts

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg) (c : Dev nD)

attribute [local irreducible] V valid

set_option maxHeartbeats 400000 in
theorem sound_body (t : Fin (cfgA m).N) :
    iprop((dats m 0 c).Φ t.castSucc ∗ (dats m 0 c).owesAt () t.castSucc
        ∗ (∃ d, owns (c : Thread nD τ) (stg0 m t) fullShare ((dats m 0 c).before (0 : Fin 5) t d))
        ∗ (∃ d, owns (c : Thread nD τ) (stg1 m t) fullShare ((dats m 0 c).before (1 : Fin 5) t d))
        ∗ (∃ d, owns (c : Thread nD τ) (stg2 m t) fullShare ((dats m 0 c).before (2 : Fin 5) t d))
        ∗ (∃ d, owns (c : Thread nD τ) (stg3 m t) fullShare ((dats m 0 c).before (3 : Fin 5) t d))
        ∗ (∃ d, owns (c : Thread nD τ) (stg4 m t) fullShare ((dats m 0 c).before (4 : Fin 5) t d)))
      ⊢ wp frame (wpE (defs₀ (F := F)) Variants.none c none) Set.univ (bodyAt m t) fun _ =>
          iprop((dats m 0 c).Φ t.succ ∗ (dats m 0 c).owesAt () t.succ
            ∗ bigSep Finset.univ fun w : Fin (cfgA m).W =>
                match (cfgA m).idle w ((cfgA m).grid.coords t) with
                | true =>
                  match ((cfgA m).win w).flush t with
                  | false => iprop(∃ d, owns (c : Thread nD τ) (((cfgA m).win w).stage ((cfgA m).slots t w)) fullShare ((dats m 0 c).before w t d))
                  | true => owns (c : Thread nD τ) (((cfgA m).win w).stage ((cfgA m).slots t w)) fullShare ((dats m 0 c).after w t)
                | false => owns (c : Thread nD τ) (((cfgA m).win w).stage ((cfgA m).slots t w)) fullShare ((dats m 0 c).after w t)) := by
  rw [bigSep_W0]
  rewrite [stored m t]
  simp only [before0, before1, before2, before3]
  rewrite [show (dats m 0 c).Φ t.succ = iprop(Pipeline.ΦA spec0 c ∗ Pipeline.ΦT pre0 (adm m 0).1 c) from rfl,
    show (dats m 0 c).Φ t.castSucc = iprop(Pipeline.ΦA spec0 c ∗ Pipeline.ΦT pre0 (adm m 0).1 c) from rfl,
    show (dats m 0 c).owesAt () t.succ = (dats m 0 c).owesAt () t.castSucc from rfl]
  have hc : c = 0 := Subsingleton.elim _ _
  unfold Pipeline.ΦT
  rewrite [prefHeld_eq]
  iintro ⟨⟨HA, HT0, HT1⟩, Ho, ⟨%d0, H0⟩, ⟨%d1, H1⟩, ⟨%d2, H2⟩, ⟨%d3, H3⟩, ⟨%d4, H4⟩⟩
  iapply (tile m c t)
  unfold inputsHeld
  isplitr [H4 HA Ho]
  · isplitl [H0]; · iapply rep_of_owns; iexact H0
    isplitl [H1]; · iapply rep_of_owns; iexact H1
    isplitl [H2]; · iapply rep_of_owns; iexact H2
    isplitl [H3]; · iapply rep_of_owns; iexact H3
    isplitl [HT0]; · iexact HT0
    iexact HT1
  isplitl [H4]; · iexists _; iexact H4
  iintro ⟨⟨H0, H1, H2, H3, HT0, HT1⟩, H4⟩
  isplitl [HA HT0 HT1]
  · isplitl [HA]; · iexact HA
    isplitl [HT0]; · iexact HT0
    iexact HT1
  isplitl [Ho]; · iexact Ho
  isplitl [H0]; · iapply owns_of_rep; iexact H0
  isplitl [H1]; · iapply owns_of_rep; iexact H1
  isplitl [H2]; · iapply owns_of_rep; iexact H2
  isplitl [H3]; · iapply owns_of_rep; iexact H3
  iexact H4

end Cert.KernelIdeal.Experts

end
-- ==== Proof.ExpertMain.lean ====
module

public import proofs.«01_k».proof.Proof.ExpertBody
public import Idealize.ShloMosaic.Lib.Pipeline.Quiescent
public import Idealize.ShloMosaic.Lib.Claim
public import Idealize.ShloMosaic.Lib.Pipeline.Frame
public import Idealize.ShloMosaic.Lib.Pipeline.FrameBody
public import Idealize.ShloMosaic.Adequacy
public import Idealize.ShloMosaic.Init

@[expose] public section

set_option maxRecDepth 16384
set_option Elab.async false

noncomputable section

namespace Cert.KernelIdeal.Experts

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg) (c : Dev nD)

attribute [local irreducible] V valid

theorem body_obligation : BodyObligation (dats m 0 c) (defs₀ (F := F)) Variants.none () Set.univ := fun t => by
  rw [bigSep_W0]
  exact sound_body m c t

set_option backward.isDefEq.respectTransparency.types false in
set_option maxHeartbeats 400000 in
/-- Every execution of `@main` ends, with each window's array at what the pipeline computes, every other buffer as the region found it,
    and every counter at zero. -/
theorem run_main : θ_run defs (onTc (τ := τ) (main (F := F))) (s₀ m ρ) (fun r => Pipeline.FramePost (pcs m) (dats m) 0 (V m) r ∧ r.2.sem = fun _ => 0) :=
  Pipeline.θ_run_frameP (Q' := _) pcfgs (atTables m) (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := fun _ _ => rfl)
    (hpf := fun c k => by rw [show c = 0 from Subsingleton.elim _ _]; rfl) (hΦ := fun _ _ => rfl)

theorem counts_unstaged : main_arg1 ∈ Pipeline.restRefs sig spec0 := by decide

/-- What a run leaves the five arguments at at. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c =>
    ⟨((h.1 c).1 (0 : Fin 5)).trans (((dats m 0 c).arrAt_in (0 : Fin 5) rfl _).trans (V_arg0 m c)),
     ((h.1 c).2 main_arg1 counts_unstaged).trans (V_arg1 m c),
     ((h.1 c).1 (1 : Fin 5)).trans (((dats m 0 c).arrAt_in (1 : Fin 5) rfl _).trans (V_arg2 m c)),
     ((h.1 c).1 (2 : Fin 5)).trans (((dats m 0 c).arrAt_in (2 : Fin 5) rfl _).trans (V_arg3 m c)),
     ((h.1 c).1 (3 : Fin 5)).trans (((dats m 0 c).arrAt_in (3 : Fin 5) rfl _).trans (V_arg4 m c))⟩, h.2⟩) (run_main m ρ)

end Cert.KernelIdeal.Experts

end
-- ==== Proof.ExpertRows.lean ====
module

public import proofs.«01_k».proof.Proof.ExpertTables

@[expose] public section

set_option maxRecDepth 16384

noncomputable section

namespace Cert.KernelIdeal.Experts

open Idealize.ShloMosaic

/-! ## A row and the first row of its tile

  Every expert's rows are whole tiles, so the words that count them are multiples of 256, and a comparison with one of
  them reads the same for a row as for the first row of its tile. -/

theorem padded_dvd (x : BitVec 32) : 256 ∣ (padded x).toNat := by
  unfold padded
  show 256 ∣ (quot x * 256#32).toNat
  rw [BitVec.toNat_mul, BitVec.toNat_ofNat]
  omega

theorem fold_dvd {ι : Type} [DecidableEq ι] (s : Finset ι) (f : ι → BitVec 32) (h : ∀ i, 256 ∣ (f i).toNat) :
    256 ∣ (Finset.fold IntOp.addi 0#32 f s).toNat := by
  induction s using Finset.induction_on with
  | empty => simp
  | insert a s ha ih =>
    rw [Finset.fold_insert ha]
    show 256 ∣ (f a + _).toNat
    have := h a
    rw [BitVec.toNat_add]
    omega

theorem ends_dvd (d : Fin 32 → BitVec 32) (e : Fin 32) : 256 ∣ (ends d e).toNat := by
  unfold ends
  refine fold_dvd _ _ fun k => ?_
  rcases bit_cases (IntOp.cmpi .sge (BitVec.ofNat 32 e.val) (BitVec.ofNat 32 k.val)) with h | h <;> rw [h]
  · exact ⟨0, rfl⟩
  · exact padded_dvd (d k)

theorem total_dvd (d : Fin 32 → BitVec 32) : 256 ∣ (total d).toNat := ends_last d ▸ ends_dvd d 31

theorem toInt_small (n : ℕ) (h : n < 41984) : (BitVec.ofNat 32 n).toInt = n := by
  rw [BitVec.toInt_eq_toNat_cond, BitVec.toNat_ofNat]
  omega

theorem firstRow_eq (t : ℕ) : firstRow t = BitVec.ofNat 32 (t * 256) := by
  unfold firstRow
  show BitVec.ofNat 32 t * 256#32 = _
  rw [← BitVec.ofNat_mul]

theorem le_tile (n : ℕ) (h : n < 41984) (b : BitVec 32) (hb : 256 ∣ b.toNat) :
    b.toInt ≤ (BitVec.ofNat 32 n).toInt ↔ b.toInt ≤ (firstRow (n / 256)).toInt := by
  rw [firstRow_eq, toInt_small n h, toInt_small _ (by omega), BitVec.toInt_eq_toNat_cond]
  have := b.isLt
  split <;> omega

theorem bit_ext {a b : BitVec 1} (h : a = 1#1 ↔ b = 1#1) : a = b := by
  revert h; revert a b; decide

theorem sge_tile (n : ℕ) (h : n < 41984) (b : BitVec 32) (hb : 256 ∣ b.toNat) :
    IntOp.cmpi .sge (BitVec.ofNat 32 n) b = IntOp.cmpi .sge (firstRow (n / 256)) b := by
  apply bit_ext
  rw [sge_iff, sge_iff]
  exact le_tile n h b hb

theorem slt_tile (n : ℕ) (h : n < 41984) (b : BitVec 32) (hb : 256 ∣ b.toNat) :
    IntOp.cmpi .slt (BitVec.ofNat 32 n) b = IntOp.cmpi .slt (firstRow (n / 256)) b := by
  apply bit_ext
  rw [slt_iff, slt_iff, ← not_le, ← not_le, le_tile n h b hb]

theorem past_tile (d : Fin 32 → BitVec 32) (n : ℕ) (h : n < 41984) : past d (BitVec.ofNat 32 n) = past d (firstRow (n / 256)) := by
  unfold past
  exact Finset.fold_congr fun e _ => by rw [sge_tile n h _ (ends_dvd d e)]

end Cert.KernelIdeal.Experts

end
-- ==== Proof.ExpertValue.lean ====
module

public import proofs.«01_k».proof.Proof.ExpertMain
public import proofs.«01_k».proof.Proof.ExpertRows
public import Idealize.ShloMosaic.Lib.Pipeline.ValueKit
public import Idealize.ShloMosaic.Lib.Pointwise

@[expose] public section

set_option maxRecDepth 16384
set_option Elab.async false

noncomputable section

namespace Cert.KernelIdeal.Experts

open Cert.KernelIdeal Cert.KernelIdeal.Gen
open Idealize.ShloMosaic
open Idealize.ShloMosaic.TcCoe Idealize.ShloMosaic.Tactic
open Idealize.SL.Sem
open Idealize.ShloMosaic.Pipeline (Dat Cfg Window)

/-! ## The body's product at an index -/

/-- The projection of row `r` of a block of rows to hidden entry `f`. -/
def lane (x : FVec Ideal S256x1024 .f32) (w : FVec Ideal S1x1024x512 .f32) (r : Fin 256) (f : Fin 512) : EReal :=
  ∑ k : Fin 1024, x (ix2 r k) * w (ix3 0 k f)

theorem product_at (x : FVec Ideal S256x1024 .f32) (wg wu : FVec Ideal S1x1024x512 .f32) (wd : FVec Ideal S1x512x1024 .f32) (r : Fin 256) (j : Fin 1024) :
    k0_pay1 (F := Ideal) x wg wu wd (ix2 r j)
      = ∑ f : Fin 512, (lane x wg r f * Ideal.div 1 (1 + Ideal.exp (0 - lane x wg r f)) * lane x wu r f) * wd (ix3 0 f j) := by
  unfold k0_pay1 lane
  pointwise []

theorem zeros_at (i : S256x1024.Idx) : k0_pay2 (F := Ideal) i = (0 : EReal) := by
  unfold k0_pay2
  pointwise []

variable {F : FTy → Type} [FloatOps F]
variable (m : (ℓ : Loc nD τ sig) → Buf (Elt F) ℓ) (c : Dev nD)

attribute [local irreducible] V valid

/-- The grid point of a row. -/
def tileOf (n : Fin 41984) : Fin (cfgA m).N := ⟨n.val / 256, by show n.val / 256 < 164; have := n.isLt; omega⟩

theorem crd_val (t : Fin (cfgA m).N) : ((crd m t) 0).val = t.val := by
  revert t
  show ∀ t : Fin grid0.N, (grid0.coords t 0).val = t.val
  decide +kernel

/-- The output array after the run: each row is its tile's row. -/
def final : Buf (Elt F) ((c : Thread nD τ).loc main_v37) := fun i =>
  oblk m c (tileOf m (i 0)) (ix2 ⟨(i 0).val % 256, Nat.mod_lt _ (by decide)⟩ (i 1))

theorem flush4 (t : Fin (cfgA m).N) : ((cfgA m).win (4 : Fin 5)).flush t = true := by
  rw [Pipeline.Window.flush_eq_flushOf]
  revert t
  show ∀ t : Fin grid0.N, Pipeline.Window.flushOf grid0 true cc0_transform_4 t = true
  decide +kernel

theorem index4 (t : Fin (cfgA m).N) : ((cfgA m).win (4 : Fin 5)).index t = ![t.val, 0] := by
  revert t
  show ∀ t : Fin grid0.N, cc0_transform_4 (grid0.coords t) = ![t.val, 0]
  decide +kernel

theorem index0 (t : Fin (cfgA m).N) : ((cfgA m).win (0 : Fin 5)).index t = ![t.val, 0] := by
  revert t
  show ∀ t : Fin grid0.N, cc0_transform_0 (grid0.coords t) = ![t.val, 0]
  decide +kernel

/-- Where the output's block at point `t` lies in the array. -/
theorem emb4 (t : Fin (cfgA m).N) (y : (((cfgA m).win (4 : Fin 5)).xblock ((cfgA m).grid.coords t)).Idx) (n : Fin 41984)
    (hn : n.val = t.val * 256 + (y 0).val) (k : Fin 1024) (hk : k.val = (y 1).val) :
    (((cfgA m).win (4 : Fin 5)).blk t).view.emb y = ix2 n k := by
  funext a
  apply Fin.ext
  refine (Pipeline.Window.rect_emb_val ((cfgA m).win (4 : Fin 5)) t y a (hk := rfl)).trans ?_
  rw [index4]
  match a with
  | ⟨0, _⟩ => exact hn.symm
  | ⟨1, _⟩ =>
    show 0 * 1024 + (y 1).val = k.val
    rw [hk, Nat.zero_mul, Nat.zero_add]

/-- Where the block of rows at point `t` lies in the array. -/
theorem emb0 (t : Fin (cfgA m).N) (y : (((cfgA m).win (0 : Fin 5)).xblock ((cfgA m).grid.coords t)).Idx) (n : Fin 41984)
    (hn : n.val = t.val * 256 + (y 0).val) (k : Fin 1024) (hk : k.val = (y 1).val) :
    (((cfgA m).win (0 : Fin 5)).blk t).view.emb y = ix2 n k := by
  funext a
  apply Fin.ext
  refine (Pipeline.Window.rect_emb_val ((cfgA m).win (0 : Fin 5)) t y a (hk := rfl)).trans ?_
  rw [index0]
  match a with
  | ⟨0, _⟩ => exact hn.symm
  | ⟨1, _⟩ =>
    show 0 * 1024 + (y 1).val = k.val
    rw [hk, Nat.zero_mul, Nat.zero_add]

/-- Every row of the array is in its tile's block. -/
theorem mem4 (n : Fin 41984) (k : Fin 1024) :
    (ix2 n k : S41984x1024.Idx) ∈ (((cfgA m).win (4 : Fin 5)).blk (tileOf m n)).view.set := by
  have e := emb4 m (tileOf m n) (ix2 (⟨n.val % 256, Nat.mod_lt _ (by decide)⟩ : Fin 256) k) n
    (show n.val = n.val / 256 * 256 + n.val % 256 by omega) k rfl
  have hm := Idealize.ShloMosaic.View.emb_mem_set (((cfgA m).win (4 : Fin 5)).blk (tileOf m n)).view
    (ix2 (⟨n.val % 256, Nat.mod_lt _ (by decide)⟩ : Fin 256) k)
  exact Eq.mp (congrArg (fun j : S41984x1024.Idx => j ∈ (((cfgA m).win (4 : Fin 5)).blk (tileOf m n)).view.set) e) hm

theorem out_final : (dats m 0 c).arrAt (4 : Fin 5) (cfgA m).N = final m c := by
  refine (dats m 0 c).arrAt_eq_of_emb (4 : Fin 5) _ (fun t hf y => ?_) (fun i => ?_)
  · have h0 : (y 0).val < 256 := (y 0).isLt
    have ht : t.val < 164 := t.isLt
    refine Eq.trans ?_ (congrArg (final m c) (emb4 m t y ⟨t.val * 256 + (y 0).val, by omega⟩ rfl (y 1) rfl).symm)
    show oblk m c t _ = oblk m c _ _
    congr 1
    · apply Fin.ext
      show t.val = (t.val * 256 + (y 0).val) / 256
      omega
    · funext a
      apply Fin.ext
      match a with
      | ⟨0, _⟩ => show (y 0).val = (t.val * 256 + (y 0).val) % 256; omega
      | ⟨1, _⟩ => rfl
  · refine ⟨tileOf m (i 0), flush4 m _, ?_⟩
    have e : (ix2 (i 0 : Fin 41984) (i 1 : Fin 1024) : S41984x1024.Idx) = i := by
      funext a
      match a with
      | ⟨0, _⟩ => rfl
      | ⟨1, _⟩ => rfl
    have hm := mem4 m (i 0) (i 1)
    exact Eq.mp (congrArg (fun j : S41984x1024.Idx => j ∈ (((cfgA m).win (4 : Fin 5)).blk (tileOf m (i 0))).view.set) e) hm

theorem rows_at (t : Fin (cfgA m).N) (r : Fin 256) (k : Fin 1024) (n : Fin 41984) (hn : n.val = t.val * 256 + r.val) :
    iblk m c (0 : Fin 5) t (ix2 r k) = V m c main_arg0 (ix2 n k) := by
  unfold iblk
  exact congrArg (V m c main_arg0) (emb0 m t (ix2 r k) n hn k rfl)

/-- The expert of a grid point. -/
def expertAt (i : grid0.Coords) : BitVec 32 :=
  Scalar.select (IntOp.cmpi .eq (used (cnt m 0) (firstRow (i 0).val)) 1#32) (past (cnt m 0) (firstRow (i 0).val)) (lastUsed (cnt m 0))

theorem word_expert (i : grid0.Coords) (h) : (tables m 0).at 0 (Rect.unit (s := S164) (k0_off1 i) S1.size h) numel1_S1 = expertAt m i := by
  show V m 0 main_v36 _ = _
  refine (V_expert m 0 _).trans ?_
  unfold expertAt
  have h := congrArg (fun j : S164.Idx => (j 0).val) (rect_idx i (k0_off1_inb i) (Shape.Idx.first (numel1_S1.symm ▸ Nat.one_pos)))
  dsimp only at h
  exact congrArg (fun n : ℕ => Scalar.select (IntOp.cmpi .eq (used (cnt m 0) (firstRow n)) 1#32) (past (cnt m 0) (firstRow n)) (lastUsed (cnt m 0))) h

theorem map1 (i : grid0.Coords) : cc0_transform_1 k0_off1_inb numel1_S1 (tables m 0) i = ![(expertAt m i).toNat, 0, 0] := by
  rw [← word_expert m i (k0_off1_inb i)]; rfl
theorem map2 (i : grid0.Coords) : cc0_transform_2 k0_off1_inb numel1_S1 (tables m 0) i = ![(expertAt m i).toNat, 0, 0] := by
  rw [← word_expert m i (k0_off1_inb i)]; rfl
theorem map3 (i : grid0.Coords) : cc0_transform_3 k0_off1_inb numel1_S1 (tables m 0) i = ![(expertAt m i).toNat, 0, 0] := by
  rw [← word_expert m i (k0_off1_inb i)]; rfl

theorem index1 (t : Fin (cfgA m).N) : ((cfgA m).win (1 : Fin 5)).index t = ![(expertAt m (crd m t)).toNat, 0, 0] := map1 m (crd m t)
theorem index2 (t : Fin (cfgA m).N) : ((cfgA m).win (2 : Fin 5)).index t = ![(expertAt m (crd m t)).toNat, 0, 0] := map2 m (crd m t)
theorem index3 (t : Fin (cfgA m).N) : ((cfgA m).win (3 : Fin 5)).index t = ![(expertAt m (crd m t)).toNat, 0, 0] := map3 m (crd m t)

theorem weights1_at (t : Fin (cfgA m).N) (e : Fin 32) (he : (expertAt m (crd m t)).toNat = e.val) (k : Fin 1024) (f : Fin 512) :
    iblk m c (1 : Fin 5) t (ix3 0 k f) = V m c main_arg2 (ix3 e k f) := by
  unfold iblk
  refine congrArg (V m c main_arg2) (funext fun a => Fin.ext ?_)
  refine (Pipeline.Window.rect_emb_val ((cfgA m).win (1 : Fin 5)) t (ix3 0 k f) a (hk := rfl)).trans ?_
  rw [index1, he]
  match a with
  | ⟨0, _⟩ => show e.val * 1 + 0 = e.val; rw [Nat.mul_one, Nat.add_zero]
  | ⟨1, _⟩ => show 0 * 1024 + k.val = k.val; rw [Nat.zero_mul, Nat.zero_add]
  | ⟨2, _⟩ => show 0 * 512 + f.val = f.val; rw [Nat.zero_mul, Nat.zero_add]

theorem weights2_at (t : Fin (cfgA m).N) (e : Fin 32) (he : (expertAt m (crd m t)).toNat = e.val) (k : Fin 1024) (f : Fin 512) :
    iblk m c (2 : Fin 5) t (ix3 0 k f) = V m c main_arg3 (ix3 e k f) := by
  unfold iblk
  refine congrArg (V m c main_arg3) (funext fun a => Fin.ext ?_)
  refine (Pipeline.Window.rect_emb_val ((cfgA m).win (2 : Fin 5)) t (ix3 0 k f) a (hk := rfl)).trans ?_
  rw [index2, he]
  match a with
  | ⟨0, _⟩ => show e.val * 1 + 0 = e.val; rw [Nat.mul_one, Nat.add_zero]
  | ⟨1, _⟩ => show 0 * 1024 + k.val = k.val; rw [Nat.zero_mul, Nat.zero_add]
  | ⟨2, _⟩ => show 0 * 512 + f.val = f.val; rw [Nat.zero_mul, Nat.zero_add]

theorem weights3_at (t : Fin (cfgA m).N) (e : Fin 32) (he : (expertAt m (crd m t)).toNat = e.val) (k : Fin 512) (f : Fin 1024) :
    iblk m c (3 : Fin 5) t (ix3 0 k f) = V m c main_arg4 (ix3 e k f) := by
  unfold iblk
  refine congrArg (V m c main_arg4) (funext fun a => Fin.ext ?_)
  refine (Pipeline.Window.rect_emb_val ((cfgA m).win (3 : Fin 5)) t (ix3 0 k f) a (hk := rfl)).trans ?_
  rw [index3, he]
  match a with
  | ⟨0, _⟩ => show e.val * 1 + 0 = e.val; rw [Nat.mul_one, Nat.add_zero]
  | ⟨1, _⟩ => show 0 * 512 + k.val = k.val; rw [Nat.zero_mul, Nat.zero_add]
  | ⟨2, _⟩ => show 0 * 1024 + f.val = f.val; rw [Nat.zero_mul, Nat.zero_add]

end Cert.KernelIdeal.Experts

end
-- ==== Proof.ExpertReference.lean ====
module

public import proofs.«01_k».proof.Proof.ExpertTables
public import proofs.«01_k».proof.Proof.Gen.ReferenceIdeal.Run
public import Idealize.ShloMosaic.Lib.Routing.OpsOne
public import Idealize.ShloMosaic.Lib.Pointwise

@[expose] public section

set_option maxRecDepth 16384

noncomputable section

namespace Cert.ReferenceIdeal.Experts

open Cert.ReferenceIdeal Cert.ReferenceIdeal.Gen
open Idealize.ShloMosaic Idealize.ShloMosaic.TcCoe
open Idealize.SL.Sem
open Cert.KernelIdeal.Experts (quot padded ends total past)

/-! ## The running sums of the padded counts -/

/-- A running sum of the padded counts is where each expert's rows end. -/
theorem running (x : S32.Idx → BitVec 32) (init : S_.Idx → BitVec 32) (h) (hu) (hi : init ix0 = 0#32)
    (d : Fin 32 → BitVec 32) (hx : ∀ k, x (ix1 k) = padded (d k)) (e : Fin 32) :
    Host.reduceWindow (s := S32) (t := S32) IntOp.addi ![32] ![1] ![31] ![0] x init h hu (ix1 e) = ends d e := by
  refine (Routing.cumsum_vec (N := 32) (Nm1 := 31) rfl x init hi h hu e).trans (?_ : (∑ i : Fin 32, if i ≤ e then x (ix1 i) else 0) = ends d e)
  unfold ends
  rw [show (∑ i : Fin 32, if i ≤ e then x (ix1 i) else 0)
    = Finset.fold IntOp.addi 0#32 (fun i : Fin 32 => if i ≤ e then x (ix1 i) else 0#32) Finset.univ from rfl]
  refine Finset.fold_congr fun k _ => ?_
  rw [hx]
  have hb : (IntOp.cmpi .sge (BitVec.ofNat 32 e.val) (BitVec.ofNat 32 k.val) = 1#1) ↔ k ≤ e := by
    revert e k; decide
  by_cases hk : k ≤ e
  · rw [if_pos hk, hb.mpr hk]; rfl
  · rw [if_neg hk]
    rcases Cert.KernelIdeal.Experts.bit_cases (IntOp.cmpi .sge (BitVec.ofNat 32 e.val) (BitVec.ofNat 32 k.val)) with h0 | h0
    · rw [h0]; rfl
    · exact absurd (hb.mp h0) hk

/-! ## The reference's lines, in two parts -/

/-- Which expert each row is routed to: one-hot, zeros past the rows in use. -/
def gates (w : S32.Idx → BitVec 32) : FVec Ideal S41984x32 .f32 :=
  select (broadcastInDim S41984x32 ![0, 1] bcast_S41984x1_S41984x32_0_1 (cmpi .slt (broadcastInDim S41984x1 ![0] bcast_S41984_S41984x1_0 (iotaInDim S41984 32 0)) (broadcastInDim S41984x1 ![] bcast_S_S41984x1 (shapeCast _ (extractStridedSlice S1 ![31] w slices_S32_S1_31) shapeCasts_S1_S_))))
    (uitofp (F := Ideal) .f32 (cmpi .eq (broadcastInDim S41984x32 ![0, 1] bcast_S41984x1_S41984x32_0_1 (broadcastInDim S41984x1 ![0] bcast_S41984_S41984x1_0
      (Host.reduce IntOp.addi (extui 32 (cmpi .sge (broadcastInDim S41984x32 ![0, 1] bcast_S41984x1_S41984x32_0_1 (broadcastInDim S41984x1 ![0] bcast_S41984_S41984x1_0 (iotaInDim S41984 32 0))) (broadcastInDim S41984x32 ![0, 1] bcast_S1x32_S41984x32_0_1 (broadcastInDim S1x32 ![1] bcast_S32_S1x32_1 w))) natLt_1_32) (constantI S_ 32 0#32) reducesTo_S41984x32_S41984_d1 h_S_)))
      (broadcastInDim S41984x32 ![0, 1] bcast_S1x32_S41984x32_0_1 (iotaInDim S1x32 32 1))))
    (broadcastInDim S41984x32 ![] bcast_S_S41984x32 (id (constant (F := Ideal) S_ .f32 0x00000000#32)))

/-- A projection of every row by every expert. -/
def proj (x : FVec Ideal S41984x1024 .f32) (w : FVec Ideal S32x1024x512 .f32) : FVec Ideal S32x41984x512 .f32 :=
  transpose S32x41984x512 [0, 2, 1] (Host.dotGeneral (F := Ideal) dot_S32x1024x512_S41984x1024_S32x512x41984_1_1_02_0_n_n none w x) transposes_S32x512x41984_S32x41984x512_0_2_1

/-- The activation. -/
def silu (h : FVec Ideal S32x41984x512 .f32) : FVec Ideal S32x41984x512 .f32 :=
  mulf (F := Ideal) (φ := .f32) h (Host.divf (F := Ideal) (φ := .f32) (broadcastInDim S32x41984x512 ![] bcast_S_S32x41984x512 (constant (F := Ideal) S_ .f32 0x3F800000#32)) (addf (F := Ideal) (φ := .f32) (broadcastInDim S32x41984x512 ![] bcast_S_S32x41984x512 (constant (F := Ideal) S_ .f32 0x3F800000#32)) (Host.exp (F := Ideal) (φ := .f32) (Host.negf (F := Ideal) (φ := .f32) h))))

/-- Every expert's product, gated and added up. -/
def mixed (g : FVec Ideal S41984x32 .f32) (x : FVec Ideal S41984x1024 .f32) (wg wu : FVec Ideal S32x1024x512 .f32) (wd : FVec Ideal S32x512x1024 .f32) : FVec Ideal S41984x1024 .f32 :=
  Host.reduceAdd (F := Ideal) (φ := .f32) (mulf (F := Ideal) (φ := .f32) (broadcastInDim S32x41984x1024 ![0, 1, 2] bcast_S32x41984x1_S32x41984x1024_0_1_2 (broadcastInDim S32x41984x1 ![0, 1] bcast_S32x41984_S32x41984x1_0_1 (transpose S32x41984 [1, 0] g transposes_S41984x32_S32x41984_1_0)))
    (Host.dotGeneral (F := Ideal) dot_S32x41984x512_S32x512x1024_S32x41984x1024_2_1_1_2_0_0 none (mulf (F := Ideal) (φ := .f32) (silu (proj x wg)) (proj x wu)) wd))
    (constant (F := Ideal) S_ .f32 0x00000000#32) reducesTo_S32x41984x1024_S41984x1024_d0 h_S_

variable (m : (ℓ : Loc nD τ sig) → Buf (Elt Ideal) ℓ) (c : Dev nD)

theorem parts : ∃ w : S32.Idx → BitVec 32, (∀ e, w (ix1 e) = ends (fun k => m ((c.tc : Thread nD τ).loc main_arg1) (ix1 k)) e) ∧
    Value.res_main_v33 m c = mixed (gates w) (m ((c.tc : Thread nD τ).loc main_arg0)) (m ((c.tc : Thread nD τ).loc main_arg2)) (m ((c.tc : Thread nD τ).loc main_arg3)) (m ((c.tc : Thread nD τ).loc main_arg4)) := by
  refine ⟨?w, ?_, ?_⟩
  rotate_left 2
  · unfold Value.res_main_v33 mixed silu proj gates
    rfl
  · intro e
    refine running _ _ _ _ rfl _ (fun k => ?_) e
    rfl

theorem gates_at (w : S32.Idx → BitVec 32) (n : Fin 41984) (e : Fin 32) : gates w (ix2 n e)
    = Scalar.select (IntOp.cmpi .slt (BitVec.ofNat 32 n.val) (w (ix1 31)))
        (FloatOps.uitofp (F := Ideal) .f32 (IntOp.cmpi .eq
          (Finset.fold IntOp.addi 0#32 (fun e => BitVec.setWidth 32 (IntOp.cmpi .sge (BitVec.ofNat 32 n.val) (w (ix1 e)))) (Finset.univ : Finset (Fin 32)))
          (BitVec.ofNat 32 e.val))) (0 : EReal) := by
  have hz : (id (constant (F := Ideal) S_ .f32 0x00000000#32) : FVec Ideal S_ .f32) ix0 = (0 : EReal) := by
    show FloatOps.ofBits (F := Ideal) .f32 0x00000000#32 = (0 : EReal)
    simp
  unfold gates
  pointwise [hz]

/-- Expert `e`'s projection of row `n` to hidden entry `f`. -/
def preact (x : FVec Ideal S41984x1024 .f32) (w : FVec Ideal S32x1024x512 .f32) (e : Fin 32) (n : Fin 41984) (f : Fin 512) : EReal :=
  ∑ k : Fin 1024, w (ix3 e k f) * x (ix2 n k)

/-- Expert `e`'s product of row `n`, entry `j`. -/
def ffn (x : FVec Ideal S41984x1024 .f32) (wg wu : FVec Ideal S32x1024x512 .f32) (wd : FVec Ideal S32x512x1024 .f32) (e : Fin 32) (n : Fin 41984) (j : Fin 1024) : EReal :=
  ∑ f : Fin 512, (preact x wg e n f * Ideal.div 1 (1 + Ideal.exp (-preact x wg e n f)) * preact x wu e n f) * wd (ix3 e f j)

theorem mixed_at (g x wg wu wd) (n : Fin 41984) (j : Fin 1024) :
    mixed g x wg wu wd (ix2 n j) = ∑ e : Fin 32, g (ix2 n e) * ffn x wg wu wd e n j := by
  unfold mixed silu proj ffn preact
  pointwise []

/-- The counts as launched. -/
def cnt (k : Fin 32) : BitVec 32 := m ((c.tc : Thread nD τ).loc main_arg1) (ix1 k)

theorem gate_used (w : S32.Idx → BitVec 32) (d : Fin 32 → BitVec 32) (hw : ∀ e, w (ix1 e) = ends d e) (n : Fin 41984)
    (h : IntOp.cmpi .slt (BitVec.ofNat 32 n.val) (total d) = 1#1) (e : Fin 32) :
    gates w (ix2 n e) = if (past d (BitVec.ofNat 32 n.val)).toNat = e.val then (1 : EReal) else 0 := by
  rw [gates_at, hw, Cert.KernelIdeal.Experts.ends_last, h]
  have hp : (Finset.fold IntOp.addi 0#32 (fun e => BitVec.setWidth 32 (IntOp.cmpi .sge (BitVec.ofNat 32 n.val) (w (ix1 e)))) (Finset.univ : Finset (Fin 32)))
      = past d (BitVec.ofNat 32 n.val) := by
    unfold past
    exact Finset.fold_congr fun e _ => by rw [hw]
  rw [hp]
  have he := e.isLt
  by_cases hq : (past d (BitVec.ofNat 32 n.val)).toNat = e.val
  · rw [if_pos hq, show past d (BitVec.ofNat 32 n.val) = BitVec.ofNat 32 e.val from by
      apply BitVec.eq_of_toNat_eq; rw [hq, BitVec.toNat_ofNat, Nat.mod_eq_of_lt (by omega)]]
    simp [IntOp.cmpi, Scalar.select]
    show (((1#1 : BitVec 1).toNat : ℝ) : EReal) = 1
    simp
  · rw [if_neg hq]
    have : past d (BitVec.ofNat 32 n.val) ≠ BitVec.ofNat 32 e.val := fun h' => hq (by
      rw [h', BitVec.toNat_ofNat, Nat.mod_eq_of_lt (by omega)])
    have hb : (past d (BitVec.ofNat 32 n.val) == BitVec.ofNat 32 e.val) = false := by simpa using this
    simp only [IntOp.cmpi, Scalar.select, hb]
    show (((0#1 : BitVec 1).toNat : ℝ) : EReal) = 0
    simp

theorem gate_unused (w : S32.Idx → BitVec 32) (d : Fin 32 → BitVec 32) (hw : ∀ e, w (ix1 e) = ends d e) (n : Fin 41984)
    (h : IntOp.cmpi .slt (BitVec.ofNat 32 n.val) (total d) = 0#1) (e : Fin 32) : gates w (ix2 n e) = (0 : EReal) := by
  rw [gates_at, hw, Cert.KernelIdeal.Experts.ends_last, h]
  rfl

/-- What the reference leaves at row `n`, entry `j`, of a row in use: the product of the expert whose rows hold it. -/
theorem at_used (n : Fin 41984) (j : Fin 1024) (h : IntOp.cmpi .slt (BitVec.ofNat 32 n.val) (total (cnt m c)) = 1#1)
    (e : Fin 32) (he : (past (cnt m c) (BitVec.ofNat 32 n.val)).toNat = e.val) :
    Value.res_main_v33 m c (ix2 n j) = ffn (m ((c.tc : Thread nD τ).loc main_arg0)) (m ((c.tc : Thread nD τ).loc main_arg2)) (m ((c.tc : Thread nD τ).loc main_arg3)) (m ((c.tc : Thread nD τ).loc main_arg4)) e n j := by
  obtain ⟨w, hw, hres⟩ := parts m c
  refine (congrFun hres _).trans ((mixed_at _ _ _ _ _ n j).trans ?_)
  rw [Finset.sum_eq_single e]
  · rw [gate_used w (cnt m c) hw n h, if_pos he, one_mul]
  · intro e' _ hne
    rw [gate_used w (cnt m c) hw n h, if_neg (fun h' => hne (Fin.ext (h'.symm.trans he))), zero_mul]
  · exact fun h' => absurd (Finset.mem_univ _) h'

/-- … of a row past the rows in use: zero. -/
theorem at_unused (n : Fin 41984) (j : Fin 1024) (h : IntOp.cmpi .slt (BitVec.ofNat 32 n.val) (total (cnt m c)) = 0#1) :
    Value.res_main_v33 m c (ix2 n j) = (0 : EReal) := by
  obtain ⟨w, hw, hres⟩ := parts m c
  refine (congrFun hres _).trans ((mixed_at _ _ _ _ _ n j).trans ?_)
  refine Finset.sum_eq_zero fun e _ => ?_
  rw [gate_unused w (cnt m c) hw n h, zero_mul]

end Cert.ReferenceIdeal.Experts

end
-- ==== Proof.ExpertEqual.lean ====
module

public import proofs.«01_k».proof.Proof.ExpertValue
public import proofs.«01_k».proof.Proof.ExpertReference

@[expose] public section

set_option maxRecDepth 16384
set_option Elab.async false

noncomputable section

namespace Cert.KernelIdeal.Experts

open Cert.KernelIdeal Cert.KernelIdeal.Gen
open Idealize.ShloMosaic
open Idealize.ShloMosaic.TcCoe
open Idealize.SL.Sem
open Cert.ReferenceIdeal.Experts (preact ffn)

variable (m : (ℓ : Loc nD τ sig) → Buf (Elt Ideal) ℓ)
variable (m' : (ℓ : Loc Cert.ReferenceIdeal.nD Cert.ReferenceIdeal.τ Cert.ReferenceIdeal.sig) → Buf (Elt Ideal) ℓ)

attribute [local irreducible] V valid

theorem final_at (n : Fin 41984) (j : Fin 1024) :
    final m 0 (ix2 n j) = oblk m 0 (tileOf m n) (ix2 ⟨n.val % 256, Nat.mod_lt _ (by decide)⟩ j) := rfl

theorem tile_val (n : Fin 41984) : ((crd m (tileOf m n)) 0).val = n.val / 256 := crd_val m _

/-- Whether a row's tile is in use, by the row. -/
theorem valid_row (n : Fin 41984) : valid m (crd m (tileOf m n)) = 1#32 ↔ IntOp.cmpi .slt (BitVec.ofNat 32 n.val) (total (cnt m 0)) = 1#1 := by
  unfold valid
  rw [tile_val, used_eq_one, slt_tile n.val n.isLt _ (total_dvd _)]

theorem expert_row (n : Fin 41984) (h : IntOp.cmpi .slt (BitVec.ofNat 32 n.val) (total (cnt m 0)) = 1#1) :
    expertAt m (crd m (tileOf m n)) = past (cnt m 0) (BitVec.ofNat 32 n.val) := by
  have hu : used (cnt m 0) (firstRow (n.val / 256)) = 1#32 := by
    rw [used_eq_one, ← slt_tile n.val n.isLt _ (total_dvd _)]; exact h
  unfold expertAt
  rw [tile_val, hu, past_tile _ n.val n.isLt]
  rfl

theorem past_row_lt (n : Fin 41984) (h : IntOp.cmpi .slt (BitVec.ofNat 32 n.val) (total (cnt m 0)) = 1#1) :
    (past (cnt m 0) (BitVec.ofNat 32 n.val)).toNat < 32 :=
  past_lt _ _ ((used_eq_one _ _).mpr h)

theorem row_split (n : Fin 41984) : n.val = (tileOf m n).val * 256 + n.val % 256 := by
  show n.val = n.val / 256 * 256 + n.val % 256
  omega

/-- What the kernel leaves at row `n`, entry `j`, of a row in use. -/
theorem final_used (n : Fin 41984) (j : Fin 1024) (h : IntOp.cmpi .slt (BitVec.ofNat 32 n.val) (total (cnt m 0)) = 1#1)
    (e : Fin 32) (he : (past (cnt m 0) (BitVec.ofNat 32 n.val)).toNat = e.val) :
    (final m 0 (ix2 n j) : EReal) = ffn (m ((0 : Dev nD).tc.loc main_arg0)) (m ((0 : Dev nD).tc.loc main_arg2)) (m ((0 : Dev nD).tc.loc main_arg3)) (m ((0 : Dev nD).tc.loc main_arg4)) e n j := by
  have hv := (valid_row m n).mpr h
  have hx : (expertAt m (crd m (tileOf m n))).toNat = e.val := by rw [expert_row m n h]; exact he
  rw [final_at, oblk_used m 0 _ hv]
  refine (product_at _ _ _ _ _ _).trans ?_
  have h1 : ∀ f, lane (iblk m 0 (0 : Fin 5) (tileOf m n)) (iblk m 0 (1 : Fin 5) (tileOf m n)) ⟨n.val % 256, Nat.mod_lt _ (by decide)⟩ f
      = preact (m ((0 : Dev nD).tc.loc main_arg0)) (m ((0 : Dev nD).tc.loc main_arg2)) e n f := fun f => by
    unfold lane preact
    refine Finset.sum_congr rfl fun k _ => ?_
    rw [rows_at m 0 (tileOf m n) _ k n (row_split m n), weights1_at m 0 (tileOf m n) e hx k f, V_arg0, V_arg2]
    exact mul_comm _ _
  have h2 : ∀ f, lane (iblk m 0 (0 : Fin 5) (tileOf m n)) (iblk m 0 (2 : Fin 5) (tileOf m n)) ⟨n.val % 256, Nat.mod_lt _ (by decide)⟩ f
      = preact (m ((0 : Dev nD).tc.loc main_arg0)) (m ((0 : Dev nD).tc.loc main_arg3)) e n f := fun f => by
    unfold lane preact
    refine Finset.sum_congr rfl fun k _ => ?_
    rw [rows_at m 0 (tileOf m n) _ k n (row_split m n), weights2_at m 0 (tileOf m n) e hx k f, V_arg0, V_arg3]
    exact mul_comm _ _
  unfold ffn
  refine Finset.sum_congr rfl fun f _ => ?_
  rw [h1, h2, weights3_at m 0 (tileOf m n) e hx f j, V_arg4, zero_sub]

theorem final_unused (n : Fin 41984) (j : Fin 1024) (h : IntOp.cmpi .slt (BitVec.ofNat 32 n.val) (total (cnt m 0)) = 0#1) :
    final m 0 (ix2 n j) = (0 : EReal) := by
  have hv : valid m (crd m (tileOf m n)) = 0#32 := (valid_cases m _).resolve_right fun hv => by
    have := (valid_row m n).mp hv
    rw [h] at this
    exact absurd this (by decide)
  rw [final_at, oblk_unused m 0 _ hv]
  exact zeros_at _

/-- From equal arguments the kernel's result is the reference's. -/
theorem equal
    (h0 : m' ((0 : Dev Cert.ReferenceIdeal.nD).tc.loc Cert.ReferenceIdeal.main_arg0) = m ((0 : Dev nD).tc.loc main_arg0))
    (h1 : m' ((0 : Dev Cert.ReferenceIdeal.nD).tc.loc Cert.ReferenceIdeal.main_arg1) = m ((0 : Dev nD).tc.loc main_arg1))
    (h2 : m' ((0 : Dev Cert.ReferenceIdeal.nD).tc.loc Cert.ReferenceIdeal.main_arg2) = m ((0 : Dev nD).tc.loc main_arg2))
    (h3 : m' ((0 : Dev Cert.ReferenceIdeal.nD).tc.loc Cert.ReferenceIdeal.main_arg3) = m ((0 : Dev nD).tc.loc main_arg3))
    (h4 : m' ((0 : Dev Cert.ReferenceIdeal.nD).tc.loc Cert.ReferenceIdeal.main_arg4) = m ((0 : Dev nD).tc.loc main_arg4)) :
    Cert.ReferenceIdeal.Value.res_main_v33 m' 0 = final m 0 := by
  have hc : Cert.ReferenceIdeal.Experts.cnt m' 0 = cnt m 0 := funext fun k => congrFun h1 (ix1 k)
  have key : ∀ (n : Fin 41984) (j : Fin 1024), Cert.ReferenceIdeal.Value.res_main_v33 m' 0 (ix2 n j) = final m 0 (ix2 n j) := by
    intro n j
    rcases bit_cases (IntOp.cmpi .slt (BitVec.ofNat 32 n.val) (total (cnt m 0))) with h | h
    · exact (Cert.ReferenceIdeal.Experts.at_unused m' 0 n j (hc ▸ h)).trans (final_unused m n j h).symm
    · refine (Cert.ReferenceIdeal.Experts.at_used m' 0 n j (hc ▸ h) ⟨_, past_row_lt m n h⟩ (by rw [hc])).trans ?_
      refine Eq.trans ?_ (final_used m n j h ⟨_, past_row_lt m n h⟩ rfl).symm
      rw [← h0, ← h2, ← h3, ← h4]
  funext i
  have e : (ix2 (i 0 : Fin 41984) (i 1 : Fin 1024) : S41984x1024.Idx) = i := by
    funext a
    match a with
    | ⟨0, _⟩ => rfl
    | ⟨1, _⟩ => rfl
  have := key (i 0) (i 1)
  exact Eq.mp (congrArg (fun i : S41984x1024.Idx => Cert.ReferenceIdeal.Value.res_main_v33 m' 0 i = final m 0 i) e) this

/-- The kernel's run, its result and its arguments. -/
theorem run_final (ρ : Dev nD → PrngReg) : θ_run defs (onTc (τ := τ) (main (F := Ideal))) ⟨m, fun _ => 0, ρ⟩ (fun r => ∀ c : Dev nD,
      r.2.mem ((c.tc : Thread nD τ).loc main_v37) = final m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨((h.1 c).1 (4 : Fin 5)).trans (out_final m c),
     ((h.1 c).1 (0 : Fin 5)).trans (((dats m 0 c).arrAt_in (0 : Fin 5) rfl _).trans (V_arg0 m c)),
     ((h.1 c).2 main_arg1 counts_unstaged).trans (V_arg1 m c),
     ((h.1 c).1 (1 : Fin 5)).trans (((dats m 0 c).arrAt_in (1 : Fin 5) rfl _).trans (V_arg2 m c)),
     ((h.1 c).1 (2 : Fin 5)).trans (((dats m 0 c).arrAt_in (2 : Fin 5) rfl _).trans (V_arg3 m c)),
     ((h.1 c).1 (3 : Fin 5)).trans (((dats m 0 c).arrAt_in (3 : Fin 5) rfl _).trans (V_arg4 m c))⟩) (run_main m ρ)

end Cert.KernelIdeal.Experts

end
-- ==== Proof.ProjectionBlocks.lean ====
module

public import proofs.«01_k».proof.Proof.Gen.PromptIdeal.Value
public import Idealize.ShloMosaic.Lib.Pipeline.ValueKit
public import Idealize.ShloMosaic.Lib.Pointwise

@[expose] public section

set_option maxRecDepth 16384

noncomputable section

/-! The norm and the projection of one row, and a block of the kernel's results in terms of them. -/

namespace Cert.Projection

open Cert.PromptIdeal Cert.PromptIdeal.Gen
open Idealize.ShloMosaic
open Idealize.ShloMosaic.TcCoe Idealize.ShloMosaic.Tactic

/-- The sum of a row's squares. -/
def squares (x : Fin 1024 → EReal) : EReal := ∑ k : Fin 1024, x k * x k

/-- Entry `k` of a row after the norm. -/
def normed (x w : Fin 1024 → EReal) (k : Fin 1024) : EReal :=
  x k * Ideal.rsqrt (Ideal.div (squares x) (Ideal.ofBits .f32 0x44800000#32) + Ideal.ofBits .f32 0x358637BD#32) * w k

/-- A row after the norm times a column of weights. -/
def projected (x w col : Fin 1024 → EReal) : EReal := ∑ k : Fin 1024, normed x w k * col k

/-- The norm's weights. -/
def scaleOf (w : FVec Ideal S1x1024 .f32) (k : Fin 1024) : EReal := w (ix2 0 k)

/-- Column `q` of the projection's weights. -/
def columnOf (W : FVec Ideal S1x1024x5896 .f32) (q : Fin 5896) (k : Fin 1024) : EReal := W (ix3 0 k q)

/-- Column `q` of the weights of the last eight, filled up with zeros. -/
def abOf (W : FVec Ideal S1x1024x5896 .f32) (q : Fin 128) (k : Fin 1024) : EReal :=
  if h : q.val < 8 then columnOf W ⟨3840 + q.val, by omega⟩ k else 0

theorem projected_ab (x w : Fin 1024 → EReal) (W : FVec Ideal S1x1024x5896 .f32) (q : Fin 128) :
    projected x w (abOf W q) = if h : q.val < 8 then projected x w (columnOf W ⟨3840 + q.val, by omega⟩) else 0 := by
  unfold projected abOf
  by_cases h : q.val < 8
  · simp only [dif_pos h]
  · simp only [dif_neg h, mul_zero, Finset.sum_const_zero]

/-- An index of a matrix by its two coordinates. -/
theorem idx_eq {a b : ℕ} (f : (⟨2, ![a, b]⟩ : Shape).Idx) (i : Fin a) (j : Fin b) (h0 : (f 0).val = i.val) (h1 : (f 1).val = j.val) :
    f = ix2 i j := by
  funext d
  match d with
  | ⟨0, _⟩ => exact Fin.ext h0
  | ⟨1, _⟩ => exact Fin.ext h1

/-- Where a block's element lies in a matrix: the block's place times its extents, and the element's place in it. -/
theorem idx_of_block {a b s w p q : ℕ} (f : (⟨2, ![a, b]⟩ : Shape).Idx) (y : (⟨2, ![s, w]⟩ : Shape).Idx) (ix : Fin 2 → ℕ)
    (h : ∀ d : Fin 2, (f d).val = ix d * (![s, w] : Fin 2 → ℕ) d + (y d).val) (hix : ix = ![p, q]) (i : Fin a) (j : Fin b)
    (hi : p * s + (y 0).val = i.val) (hj : q * w + (y 1).val = j.val) : f = ix2 i j := by
  subst hix
  exact idx_eq f i j ((h 0).trans hi) ((h 1).trans hj)

theorem first (w : ℕ) (k : Fin w) : 0 * w + k.val = k.val := by rw [Nat.zero_mul, Nat.zero_add]

theorem zeros : (![0, 0] : Fin 2 → ℕ) = fun _ => 0 := by
  funext d
  match d with
  | ⟨0, _⟩ => rfl
  | ⟨1, _⟩ => rfl

theorem zero_word : (FloatOps.sitofp .f32 0#32 : Ideal .f32) = (0 : EReal) := by
  show ((BitVec.toInt 0#32 : ℝ) : EReal) = 0
  simp

theorem normed_at (x : FVec Ideal S256x1024 .f32) (w : FVec Ideal S1x1024 .f32) (r : Fin 256) (k : Fin 1024) :
    k0_pay3 (F := Ideal) x w (ix2 r k) = normed (fun k => x (ix2 r k)) (fun k => w (ix2 0 k)) k := by
  unfold k0_pay3 normed squares
  pointwise []

variable (x0 : FVec Ideal S256x1024 .f32) (x1 : FVec Ideal S1x1024 .f32) (x2 : FVec Ideal S1024x3840 .bf16)
  (x3 : FVec Ideal S1024x2048 .bf16) (x4 : FVec Ideal S1024x128 .bf16) (r : Fin 256)

/-- A product of the block's rows after the norm with a column. -/
def entry (col : Fin 1024 → EReal) : EReal := projected (fun k => x0 (ix2 r k)) (fun k => x1 (ix2 0 k)) col

theorem out5_at (k : Fin 1024) :
    out0_5 (F := Ideal) x0 x1 x2 x3 x4 (ix2 r k) = normed (fun k => x0 (ix2 r k)) (fun k => x1 (ix2 0 k)) k := by
  unfold out0_5
  rw [View.canon_unit_zero zeros, View.ld_unit_zero (h := zeros), View.ld_unit_zero (h := zeros)]
  exact normed_at x0 x1 r k

theorem out6_at (q : Fin 1792) :
    out0_6 (F := Ideal) x0 x1 x2 x3 x4 (ix2 r q) = entry x0 x1 r fun k => x2 (ix2 k ⟨q.val, by omega⟩) := by
  unfold out0_6 k0_pay5 k0_pay4 entry projected
  rw [View.canon_unit_zero zeros, View.ld_unit_zero (h := zeros), View.ld_unit_zero (h := zeros)]
  pointwise [normed_at]

theorem out7_at (q : Fin 1536) :
    out0_7 (F := Ideal) x0 x1 x2 x3 x4 (ix2 r q) = entry x0 x1 r fun k => x2 (ix2 k ⟨1792 + q.val, by omega⟩) := by
  unfold out0_7 k0_pay6 k0_pay4 entry projected
  rw [View.canon_unit_zero zeros, View.ld_unit_zero (h := zeros), View.ld_unit_zero (h := zeros)]
  pointwise [normed_at]

theorem out8_at (q : Fin 512) :
    out0_8 (F := Ideal) x0 x1 x2 x3 x4 (ix2 r q) = entry x0 x1 r fun k => x2 (ix2 k ⟨3328 + q.val, by omega⟩) := by
  unfold out0_8 k0_pay7 k0_pay4 entry projected
  rw [View.canon_unit_zero zeros, View.ld_unit_zero (h := zeros), View.ld_unit_zero (h := zeros)]
  pointwise [normed_at]

theorem out9_at (q : Fin 2048) :
    out0_9 (F := Ideal) x0 x1 x2 x3 x4 (ix2 r q) = entry x0 x1 r fun k => x3 (ix2 k q) := by
  unfold out0_9 k0_pay1 k0_pay8 k0_pay4 entry projected
  rw [View.canon_unit_zero zeros, View.ld_unit_zero (h := zeros), View.ld_unit_zero (h := zeros), View.ld_unit_zero (h := zeros)]
  pointwise [normed_at]

theorem out10_at (q : Fin 128) :
    out0_10 (F := Ideal) x0 x1 x2 x3 x4 (ix2 r q) = entry x0 x1 r fun k => x4 (ix2 k q) := by
  unfold out0_10 k0_pay2 k0_pay8 k0_pay4 entry projected
  rw [View.canon_unit_zero zeros, View.ld_unit_zero (h := zeros), View.ld_unit_zero (h := zeros), View.ld_unit_zero (h := zeros)]
  pointwise [normed_at]

/-- Two arrays of two axes are equal when they are at every row and column. -/
theorem ext2 {a b : ℕ} {α : Type} (f g : ((⟨2, ![a, b]⟩ : Shape).Idx → α)) (h : ∀ (n : Fin a) (k : Fin b), f (ix2 n k) = g (ix2 n k)) : f = g := by
  funext i
  have e : (ix2 (i 0 : Fin a) (i 1 : Fin b) : (⟨2, ![a, b]⟩ : Shape).Idx) = i := by
    funext d
    match d with
    | ⟨0, _⟩ => rfl
    | ⟨1, _⟩ => rfl
  exact e ▸ h (i 0) (i 1)

end Cert.Projection
-- ==== Proof.ProjectionPrompt.lean ====
module

public import proofs.«01_k».proof.Proof.ProjectionBlocks
public import Idealize.ShloMosaic.Lib.StableHlo.ReadAt

@[expose] public section

set_option maxRecDepth 16384

noncomputable section

/-! The prompt's projections: every result of the kernel, element by element, in terms of the arguments. -/

namespace Cert.Projection.Prompt

open Cert.PromptIdeal Cert.PromptIdeal.Gen Cert.PromptIdeal.Value Cert.Projection
open Idealize.ShloMosaic
open Idealize.ShloMosaic.TcCoe Idealize.ShloMosaic.Tactic
open Idealize.SL.Sem
open Idealize.ShloMosaic.Pipeline (Dat Cfg Window)

variable (m : (ℓ : Loc nD τ sig) → Buf (Elt Ideal) ℓ) (c : Dev nD)

/-- Row `n` of the prompt's tokens. -/
def token (n : Fin 16384) (k : Fin 1024) : EReal :=
  m ((c : Thread nD τ).loc main_arg0) (ix3 ⟨n.val / 2048, by omega⟩ ⟨n.val % 2048, by omega⟩ k)

/-- The norm's weights. -/
def scale (k : Fin 1024) : EReal := scaleOf (m ((c : Thread nD τ).loc main_arg1)) k

/-- Column `q` of the projection's weights. -/
def column (q : Fin 5896) (k : Fin 1024) : EReal := columnOf (m ((c : Thread nD τ).loc main_arg2)) q k

theorem V_rows (n : Fin 16384) (k : Fin 1024) : V m c main_v0 (ix2 n k) = token m c n k := by
  unfold token
  unfold V
  after_reads_at

theorem V_scale (k : Fin 1024) : V m c main_v2 (ix2 0 k) = scale m c k := by
  unfold scale scaleOf
  unfold V
  after_reads_at

theorem V_main (k : Fin 1024) (q : Fin 3840) : V m c main_v5 (ix2 k q) = column m c ⟨q.val, by omega⟩ k := by
  unfold column columnOf
  unfold V
  after_reads_at

theorem V_gates (k : Fin 1024) (q : Fin 2048) : V m c main_v7 (ix2 k q) = column m c ⟨3848 + q.val, by omega⟩ k := by
  unfold column columnOf
  unfold V
  after_reads_at

theorem V_ab (k : Fin 1024) (q : Fin 128) :
    V m c main_v10 (ix2 k q) = if h : q.val < 8 then column m c ⟨3840 + q.val, by omega⟩ k else 0 := by
  unfold column columnOf
  unfold V
  after_reads_at
  exact dite_congr rfl (fun _ => rfl) fun _ => zero_word

/-! ## The blocks that a grid point reads and writes -/

theorem index_eq : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![t.val, 0] ∧ win0_6.index t = ![t.val, 0]
    ∧ win0_7.index t = ![t.val, 0] ∧ win0_8.index t = ![t.val, 0] ∧ win0_9.index t = ![t.val, 0] ∧ win0_10.index t = ![t.val, 0] :=
  (by decide +kernel : ∀ t : Fin grid0.N, _)

theorem flush_eq : ∀ t : Fin cfg0.N, (cfg0.win 5).flush t = true ∧ (cfg0.win 6).flush t = true ∧ (cfg0.win 7).flush t = true
    ∧ (cfg0.win 8).flush t = true ∧ (cfg0.win 9).flush t = true ∧ (cfg0.win 10).flush t = true :=
  (by decide +kernel : ∀ t : Fin grid0.N, _)

/-- The grid point of a row. -/
def tile (n : Fin 16384) : Fin cfg0.N := ⟨n.val / 256, by show n.val / 256 < 64; omega⟩

/-- A row's place in its tile. -/
def place (n : Fin 16384) : Fin 256 := ⟨n.val % 256, by omega⟩

theorem back (n : Fin 16384) : n.val / 256 * 256 + n.val % 256 = n.val := by omega

theorem emb0 (n : Fin 16384) (k : Fin 1024) : ((cfg0.win 0).blk (tile n)).view.emb (ix2 (place n) k) = ix2 n k :=
  idx_of_block (s := 256) (w := 1024) _ (ix2 (place n) k) _ (fun d => (cfg0.win 0).rect_emb_val (tile n) (ix2 (place n) k) d (hk := rfl)) (index_eq (tile n)).1 n k (back n) (first 1024 k)
theorem emb1 (t : Fin cfg0.N) (j : Fin 1) (k : Fin 1024) : ((cfg0.win 1).blk t).view.emb (ix2 j k) = ix2 j k :=
  idx_of_block (s := 1) (w := 1024) _ (ix2 j k) _ (fun d => (cfg0.win 1).rect_emb_val t (ix2 j k) d (hk := rfl)) (index_eq t).2.1 j k (first 1 j) (first 1024 k)
theorem emb2 (t : Fin cfg0.N) (j : Fin 1024) (k : Fin 3840) : ((cfg0.win 2).blk t).view.emb (ix2 j k) = ix2 j k :=
  idx_of_block (s := 1024) (w := 3840) _ (ix2 j k) _ (fun d => (cfg0.win 2).rect_emb_val t (ix2 j k) d (hk := rfl)) (index_eq t).2.2.1 j k (first 1024 j) (first 3840 k)
theorem emb3 (t : Fin cfg0.N) (j : Fin 1024) (k : Fin 2048) : ((cfg0.win 3).blk t).view.emb (ix2 j k) = ix2 j k :=
  idx_of_block (s := 1024) (w := 2048) _ (ix2 j k) _ (fun d => (cfg0.win 3).rect_emb_val t (ix2 j k) d (hk := rfl)) (index_eq t).2.2.2.1 j k (first 1024 j) (first 2048 k)
theorem emb4 (t : Fin cfg0.N) (j : Fin 1024) (k : Fin 128) : ((cfg0.win 4).blk t).view.emb (ix2 j k) = ix2 j k :=
  idx_of_block (s := 1024) (w := 128) _ (ix2 j k) _ (fun d => (cfg0.win 4).rect_emb_val t (ix2 j k) d (hk := rfl)) (index_eq t).2.2.2.2.1 j k (first 1024 j) (first 128 k)
theorem emb5 (n : Fin 16384) (k : Fin 1024) : ((cfg0.win 5).blk (tile n)).view.emb (ix2 (place n) k) = ix2 n k :=
  idx_of_block (s := 256) (w := 1024) _ (ix2 (place n) k) _ (fun d => (cfg0.win 5).rect_emb_val (tile n) (ix2 (place n) k) d (hk := rfl)) (index_eq (tile n)).2.2.2.2.2.1 n k (back n) (first 1024 k)
theorem emb6 (n : Fin 16384) (k : Fin 1792) : ((cfg0.win 6).blk (tile n)).view.emb (ix2 (place n) k) = ix2 n k :=
  idx_of_block (s := 256) (w := 1792) _ (ix2 (place n) k) _ (fun d => (cfg0.win 6).rect_emb_val (tile n) (ix2 (place n) k) d (hk := rfl)) (index_eq (tile n)).2.2.2.2.2.2.1 n k (back n) (first 1792 k)
theorem emb7 (n : Fin 16384) (k : Fin 1536) : ((cfg0.win 7).blk (tile n)).view.emb (ix2 (place n) k) = ix2 n k :=
  idx_of_block (s := 256) (w := 1536) _ (ix2 (place n) k) _ (fun d => (cfg0.win 7).rect_emb_val (tile n) (ix2 (place n) k) d (hk := rfl)) (index_eq (tile n)).2.2.2.2.2.2.2.1 n k (back n) (first 1536 k)
theorem emb8 (n : Fin 16384) (k : Fin 512) : ((cfg0.win 8).blk (tile n)).view.emb (ix2 (place n) k) = ix2 n k :=
  idx_of_block (s := 256) (w := 512) _ (ix2 (place n) k) _ (fun d => (cfg0.win 8).rect_emb_val (tile n) (ix2 (place n) k) d (hk := rfl)) (index_eq (tile n)).2.2.2.2.2.2.2.2.1 n k (back n) (first 512 k)
theorem emb9 (n : Fin 16384) (k : Fin 2048) : ((cfg0.win 9).blk (tile n)).view.emb (ix2 (place n) k) = ix2 n k :=
  idx_of_block (s := 256) (w := 2048) _ (ix2 (place n) k) _ (fun d => (cfg0.win 9).rect_emb_val (tile n) (ix2 (place n) k) d (hk := rfl)) (index_eq (tile n)).2.2.2.2.2.2.2.2.2.1 n k (back n) (first 2048 k)
theorem emb10 (n : Fin 16384) (k : Fin 128) : ((cfg0.win 10).blk (tile n)).view.emb (ix2 (place n) k) = ix2 n k :=
  idx_of_block (s := 256) (w := 128) _ (ix2 (place n) k) _ (fun d => (cfg0.win 10).rect_emb_val (tile n) (ix2 (place n) k) d (hk := rfl)) (index_eq (tile n)).2.2.2.2.2.2.2.2.2.2 n k (back n) (first 128 k)

theorem rows_at (n : Fin 16384) (k : Fin 1024) : iblk m c 0 (tile n) (ix2 (place n) k) = token m c n k := by
  unfold iblk
  exact (congrArg (V m c main_v0) (emb0 n k)).trans (V_rows m c n k)

theorem scale_at (t : Fin cfg0.N) (k : Fin 1024) : iblk m c 1 t (ix2 0 k) = scale m c k := by
  unfold iblk
  exact (congrArg (V m c main_v2) (emb1 t 0 k)).trans (V_scale m c k)

theorem main_at (t : Fin cfg0.N) (k : Fin 1024) (q : Fin 3840) : iblk m c 2 t (ix2 k q) = column m c ⟨q.val, by omega⟩ k := by
  unfold iblk
  exact (congrArg (V m c main_v5) (emb2 t k q)).trans (V_main m c k q)

theorem gates_at (t : Fin cfg0.N) (k : Fin 1024) (q : Fin 2048) : iblk m c 3 t (ix2 k q) = column m c ⟨3848 + q.val, by omega⟩ k := by
  unfold iblk
  exact (congrArg (V m c main_v7) (emb3 t k q)).trans (V_gates m c k q)

theorem ab_at (t : Fin cfg0.N) (k : Fin 1024) (q : Fin 128) :
    iblk m c 4 t (ix2 k q) = if h : q.val < 8 then column m c ⟨3840 + q.val, by omega⟩ k else 0 := by
  unfold iblk
  exact (congrArg (V m c main_v10) (emb4 t k q)).trans (V_ab m c k q)

/-! ## The arrays after the run -/

/-- Row `n` after the norm, times a column. -/
def product (n : Fin 16384) (col : Fin 1024 → EReal) : EReal := projected (token m c n) (scale m c) col

theorem entry_at (n : Fin 16384) (col col' : Fin 1024 → EReal) (h : ∀ k, col k = col' k) :
    entry (iblk m c 0 (tile n)) (iblk m c 1 (tile n)) (place n) col = product m c n col' := by
  unfold entry product
  rw [funext (rows_at m c n), funext (scale_at m c (tile n)), funext h]

theorem norm_final (n : Fin 16384) (k : Fin 1024) : (dats m 0 c).arrAt 5 cfg0.N (ix2 n k) = normed (token m c n) (scale m c) k := by
  refine (congrArg ((dats m 0 c).arrAt 5 cfg0.N) (emb5 n k)).symm.trans ((congrFun (blocks5 m c (tile n) (flush_eq (tile n)).1) (ix2 (place n) k)).trans ?_)
  refine (congrFun (flushed5 m c (tile n)) (ix2 (place n) k)).trans ((out5_at _ _ _ _ _ (place n) k).trans ?_)
  rw [funext (rows_at m c n), funext (scale_at m c (tile n))]

theorem mix_final (n : Fin 16384) (q : Fin 1792) : (dats m 0 c).arrAt 6 cfg0.N (ix2 n q) = product m c n (column m c ⟨q.val, by omega⟩) :=
  (congrArg ((dats m 0 c).arrAt 6 cfg0.N) (emb6 n q)).symm.trans ((congrFun (blocks6 m c (tile n) (flush_eq (tile n)).2.1) (ix2 (place n) q)).trans
    ((congrFun (flushed6 m c (tile n)) (ix2 (place n) q)).trans ((out6_at _ _ _ _ _ (place n) q).trans
      (entry_at m c n _ _ fun k => main_at m c (tile n) k _))))

theorem qkv_final (n : Fin 16384) (q : Fin 1536) : (dats m 0 c).arrAt 7 cfg0.N (ix2 n q) = product m c n (column m c ⟨1792 + q.val, by omega⟩) :=
  (congrArg ((dats m 0 c).arrAt 7 cfg0.N) (emb7 n q)).symm.trans ((congrFun (blocks7 m c (tile n) (flush_eq (tile n)).2.2.1) (ix2 (place n) q)).trans
    ((congrFun (flushed7 m c (tile n)) (ix2 (place n) q)).trans ((out7_at _ _ _ _ _ (place n) q).trans
      (entry_at m c n _ _ fun k => main_at m c (tile n) k _))))

theorem z_final (n : Fin 16384) (q : Fin 512) : (dats m 0 c).arrAt 8 cfg0.N (ix2 n q) = product m c n (column m c ⟨3328 + q.val, by omega⟩) :=
  (congrArg ((dats m 0 c).arrAt 8 cfg0.N) (emb8 n q)).symm.trans ((congrFun (blocks8 m c (tile n) (flush_eq (tile n)).2.2.2.1) (ix2 (place n) q)).trans
    ((congrFun (flushed8 m c (tile n)) (ix2 (place n) q)).trans ((out8_at _ _ _ _ _ (place n) q).trans
      (entry_at m c n _ _ fun k => main_at m c (tile n) k _))))

theorem gates_final (n : Fin 16384) (q : Fin 2048) : (dats m 0 c).arrAt 9 cfg0.N (ix2 n q) = product m c n (column m c ⟨3848 + q.val, by omega⟩) :=
  (congrArg ((dats m 0 c).arrAt 9 cfg0.N) (emb9 n q)).symm.trans ((congrFun (blocks9 m c (tile n) (flush_eq (tile n)).2.2.2.2.1) (ix2 (place n) q)).trans
    ((congrFun (flushed9 m c (tile n)) (ix2 (place n) q)).trans ((out9_at _ _ _ _ _ (place n) q).trans
      (entry_at m c n _ _ fun k => gates_at m c (tile n) k q))))

theorem ab_final (n : Fin 16384) (q : Fin 128) : (dats m 0 c).arrAt 10 cfg0.N (ix2 n q)
    = product m c n (abOf (m ((c : Thread nD τ).loc main_arg2)) q) :=
  (congrArg ((dats m 0 c).arrAt 10 cfg0.N) (emb10 n q)).symm.trans ((congrFun (blocks10 m c (tile n) (flush_eq (tile n)).2.2.2.2.2) (ix2 (place n) q)).trans
    ((congrFun (flushed10 m c (tile n)) (ix2 (place n) q)).trans ((out10_at _ _ _ _ _ (place n) q).trans
      (entry_at m c n _ _ fun k => ab_at m c (tile n) k q))))

end Cert.Projection.Prompt

end
-- ==== Proof.ProjectionPromptReference.lean ====
module

public import proofs.«01_k».proof.Proof.ProjectionBlocks
public import proofs.«01_k».proof.Proof.Gen.PromptReferenceIdeal.Run

@[expose] public section

set_option maxRecDepth 16384

noncomputable section

/-! The prompt's reference, element by element. -/

namespace Cert.Projection.PromptReference

open Cert.PromptReferenceIdeal Cert.PromptReferenceIdeal.Gen Cert.Projection
open Idealize.ShloMosaic
open Idealize.ShloMosaic.TcCoe Idealize.ShloMosaic.Tactic

variable (x : FVec Ideal S8x2048x1024 .f32) (w : FVec Ideal S1x1024 .f32) (W : FVec Ideal S1x1024x5896 .f32)

/-- Row `n` of the tokens. -/
def tokenOf (n : Fin 16384) (k : Fin 1024) : EReal := x (ix3 ⟨n.val / 2048, by omega⟩ ⟨n.val % 2048, by omega⟩ k)

/-- The tokens after the norm. -/
def rows : FVec Ideal S16384x1024 .f32 :=
  mulf (mulf (shapeCast _ x shapeCasts_S8x2048x1024_S16384x1024) (broadcastInDim S16384x1024 ![0, 1] bcast_S16384x1_S16384x1024_0_1 (Host.rsqrt (addf (Host.divf (broadcastInDim S16384x1 ![0] bcast_S16384_S16384x1_0 (Host.reduceAdd (mulf (shapeCast _ x shapeCasts_S8x2048x1024_S16384x1024) (shapeCast _ x shapeCasts_S8x2048x1024_S16384x1024)) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 (broadcastInDim S1x1024 ![1] bcast_S1024_S1x1024_1 (shapeCast _ w shapeCasts_S1x1024_S1024)))

/-- Their product with the weights. -/
def products : FVec Ideal S16384x5896 .f32 :=
  Host.dotGeneral dot_S16384x1024_S1024x5896_S16384x5896_1_0_0_1_n_n none (rows x w) (shapeCast _ W shapeCasts_S1x1024x5896_S1024x5896)

theorem rows_at (n : Fin 16384) (k : Fin 1024) : rows x w (ix2 n k) = normed (tokenOf x n) (scaleOf w) k := by
  unfold rows normed squares tokenOf scaleOf
  pointwise []

theorem products_at (n : Fin 16384) (q : Fin 5896) :
    products x w W (ix2 n q) = projected (tokenOf x n) (scaleOf w) (columnOf W q) := by
  unfold products projected columnOf
  pointwise [rows_at]

theorem mix_at (n : Fin 16384) (q : Fin 1792) :
    extractStridedSlice S16384x1792 ![0, 0] (products x w W) slices_S16384x5896_S16384x1792_0_0 (ix2 n q)
      = projected (tokenOf x n) (scaleOf w) (columnOf W ⟨q.val, by omega⟩) := by
  pointwise [products_at]

theorem qkv_at (n : Fin 16384) (q : Fin 1536) :
    extractStridedSlice S16384x1536 ![0, 1792] (products x w W) slices_S16384x5896_S16384x1536_0_1792 (ix2 n q)
      = projected (tokenOf x n) (scaleOf w) (columnOf W ⟨1792 + q.val, by omega⟩) := by
  pointwise [products_at]

theorem z_at (n : Fin 16384) (q : Fin 512) :
    extractStridedSlice S16384x512 ![0, 3328] (products x w W) slices_S16384x5896_S16384x512_0_3328 (ix2 n q)
      = projected (tokenOf x n) (scaleOf w) (columnOf W ⟨3328 + q.val, by omega⟩) := by
  pointwise [products_at]

theorem gates_at (n : Fin 16384) (q : Fin 2048) :
    extractStridedSlice S16384x2048 ![0, 3848] (products x w W) slices_S16384x5896_S16384x2048_0_3848 (ix2 n q)
      = projected (tokenOf x n) (scaleOf w) (columnOf W ⟨3848 + q.val, by omega⟩) := by
  pointwise [products_at]

theorem ab_at (n : Fin 16384) (q : Fin 128) :
    pad S16384x128 ![0, 0] ![0, 120] ![0, 0] (extractStridedSlice S16384x8 ![0, 3840] (products x w W) slices_S16384x5896_S16384x8_0_3840) (sitofp .f32 (constantI S_ 32 0#32)) pads_S16384x8_S16384x128_000_01200 h_S_ (ix2 n q)
      = projected (tokenOf x n) (scaleOf w) (abOf W q) := by
  rw [projected_ab]
  pointwise [products_at]
  exact dite_congr rfl (fun _ => rfl) fun _ => zero_word

end Cert.Projection.PromptReference

end
-- ==== Proof.ProjectionPromptEqual.lean ====
module

public import proofs.«01_k».proof.Defs
public import proofs.«01_k».proof.Proof.ProjectionPrompt
public import proofs.«01_k».proof.Proof.ProjectionPromptReference

@[expose] public section

set_option maxRecDepth 512

noncomputable section

/-! The prompt's projections: from equal arguments the kernel and its reference give equal results. -/

namespace Cert.Projection.Prompt

open Cert.PromptIdeal Cert.PromptIdeal.Gen Cert.Projection
open Idealize.ShloMosaic
open Idealize.ShloMosaic.TcCoe
open Idealize.SL.Sem

variable (m : (ℓ : Loc nD τ sig) → Buf (Elt Ideal) ℓ) (c : Dev nD)

/-- The reference's arguments, read off the kernel's memory. -/
abbrev argX : FVec Ideal S8x2048x1024 .f32 := m ((c : Thread nD τ).loc main_arg0)
abbrev argG : FVec Ideal S1x1024 .f32 := m ((c : Thread nD τ).loc main_arg1)
abbrev argW : FVec Ideal S1x1024x5896 .f32 := m ((c : Thread nD τ).loc main_arg2)

/-- The value claim. -/
theorem algebraic : Cert.algebraic_PromptIdeal_PromptReferenceIdeal := fun m g m' g' _ ha => by
  refine ⟨fun c => (dats m 0 c).arrAt 5 cfg0.N, fun c => (dats m 0 c).arrAt 6 cfg0.N, fun c => (dats m 0 c).arrAt 7 cfg0.N,
    fun c => (dats m 0 c).arrAt 8 cfg0.N, fun c => (dats m 0 c).arrAt 9 cfg0.N, fun c => (dats m 0 c).arrAt 10 cfg0.N,
    Cert.PromptIdeal.Value.run_blocks (F := Ideal) m g, ?_⟩
  refine (θ_run Cert.PromptReferenceIdeal.defs _ _).mono (fun r h c => ?_) (Cert.PromptReferenceIdeal.Value.run (F := Ideal) m' g')
  have hc := h c
  rw [(ha c).1, (ha c).2.1, (ha c).2.2] at hc
  obtain ⟨h5, h6, h7, h8, h9, h10, k0, k1, k2⟩ := hc
  exact ⟨h5.trans (ext2 _ _ fun n q => (PromptReference.rows_at (argX m c) (argG m c) n q).trans (norm_final m c n q).symm),
    h6.trans (ext2 _ _ fun n q => (PromptReference.mix_at (argX m c) (argG m c) (argW m c) n q).trans (mix_final m c n q).symm),
    h7.trans (ext2 _ _ fun n q => (PromptReference.qkv_at (argX m c) (argG m c) (argW m c) n q).trans (qkv_final m c n q).symm),
    h8.trans (ext2 _ _ fun n q => (PromptReference.z_at (argX m c) (argG m c) (argW m c) n q).trans (z_final m c n q).symm),
    h9.trans (ext2 _ _ fun n q => (PromptReference.gates_at (argX m c) (argG m c) (argW m c) n q).trans (gates_final m c n q).symm),
    h10.trans (ext2 _ _ fun n q => (PromptReference.ab_at (argX m c) (argG m c) (argW m c) n q).trans (ab_final m c n q).symm),
    k0.trans (ha c).1.symm, k1.trans (ha c).2.1.symm, k2.trans (ha c).2.2.symm⟩

end Cert.Projection.Prompt

end
-- ==== Proof.ProjectionSample.lean ====
module

public import proofs.«01_k».proof.Proof.ProjectionBlocks
public import proofs.«01_k».proof.Proof.Gen.SampleIdeal.Value
public import Idealize.ShloMosaic.Lib.StableHlo.ReadAt

@[expose] public section

set_option maxRecDepth 512

noncomputable section

/-! The sample's projections: every result of the kernel, element by element, in terms of the arguments. -/

namespace Cert.Projection.Sample

open Cert.SampleIdeal Cert.SampleIdeal.Gen Cert.SampleIdeal.Value Cert.Projection
open Idealize.ShloMosaic
open Idealize.ShloMosaic.TcCoe Idealize.ShloMosaic.Tactic
open Idealize.SL.Sem
open Idealize.ShloMosaic.Pipeline (Dat Cfg Window)

variable (m : (ℓ : Loc nD τ sig) → Buf (Elt Ideal) ℓ) (c : Dev nD)

/-- Row `n` of the sample's tokens, step by step. -/
def token (n : Fin 512) (k : Fin 1024) : EReal :=
  m ((c : Thread nD τ).loc main_arg0) (ix3 ⟨n.val % 128, by omega⟩ ⟨n.val / 128, by omega⟩ k)

/-- The norm's weights. -/
def scale (k : Fin 1024) : EReal := scaleOf (m ((c : Thread nD τ).loc main_arg1)) k

/-- Column `q` of the projection's weights. -/
def column (q : Fin 5896) (k : Fin 1024) : EReal := columnOf (m ((c : Thread nD τ).loc main_arg2)) q k

theorem V_rows (n : Fin 512) (k : Fin 1024) : V m c main_v1 (ix2 n k) = token m c n k := by
  unfold token
  unfold V
  after_reads_at

theorem V_scale (k : Fin 1024) : V m c main_v3 (ix2 0 k) = scale m c k := by
  unfold scale scaleOf
  unfold V
  after_reads_at

theorem V_main (k : Fin 1024) (q : Fin 3840) : V m c main_v6 (ix2 k q) = column m c ⟨q.val, by omega⟩ k := by
  unfold column columnOf
  unfold V
  after_reads_at

theorem V_gates (k : Fin 1024) (q : Fin 2048) : V m c main_v8 (ix2 k q) = column m c ⟨3848 + q.val, by omega⟩ k := by
  unfold column columnOf
  unfold V
  after_reads_at

theorem V_ab (k : Fin 1024) (q : Fin 128) :
    V m c main_v11 (ix2 k q) = if h : q.val < 8 then column m c ⟨3840 + q.val, by omega⟩ k else 0 := by
  unfold column columnOf
  unfold V
  after_reads_at
  exact dite_congr rfl (fun _ => rfl) fun _ => zero_word

/-! ## The blocks that a grid point reads and writes -/

theorem index_eq : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![t.val, 0] ∧ win0_6.index t = ![t.val, 0]
    ∧ win0_7.index t = ![t.val, 0] ∧ win0_8.index t = ![t.val, 0] ∧ win0_9.index t = ![t.val, 0] ∧ win0_10.index t = ![t.val, 0] :=
  (by decide +kernel : ∀ t : Fin grid0.N, _)

theorem flush_eq : ∀ t : Fin cfg0.N, (cfg0.win 5).flush t = true ∧ (cfg0.win 6).flush t = true ∧ (cfg0.win 7).flush t = true
    ∧ (cfg0.win 8).flush t = true ∧ (cfg0.win 9).flush t = true ∧ (cfg0.win 10).flush t = true :=
  (by decide +kernel : ∀ t : Fin grid0.N, _)

/-- The grid point of a row. -/
def tile (n : Fin 512) : Fin cfg0.N := ⟨n.val / 256, by show n.val / 256 < 2; omega⟩

/-- A row's place in its tile. -/
def place (n : Fin 512) : Fin 256 := ⟨n.val % 256, by omega⟩

theorem back (n : Fin 512) : n.val / 256 * 256 + n.val % 256 = n.val := by omega

theorem emb0 (n : Fin 512) (k : Fin 1024) : ((cfg0.win 0).blk (tile n)).view.emb (ix2 (place n) k) = ix2 n k :=
  idx_of_block (s := 256) (w := 1024) _ (ix2 (place n) k) _ (fun d => (cfg0.win 0).rect_emb_val (tile n) (ix2 (place n) k) d (hk := rfl)) (index_eq (tile n)).1 n k (back n) (first 1024 k)
theorem emb1 (t : Fin cfg0.N) (j : Fin 1) (k : Fin 1024) : ((cfg0.win 1).blk t).view.emb (ix2 j k) = ix2 j k :=
  idx_of_block (s := 1) (w := 1024) _ (ix2 j k) _ (fun d => (cfg0.win 1).rect_emb_val t (ix2 j k) d (hk := rfl)) (index_eq t).2.1 j k (first 1 j) (first 1024 k)
theorem emb2 (t : Fin cfg0.N) (j : Fin 1024) (k : Fin 3840) : ((cfg0.win 2).blk t).view.emb (ix2 j k) = ix2 j k :=
  idx_of_block (s := 1024) (w := 3840) _ (ix2 j k) _ (fun d => (cfg0.win 2).rect_emb_val t (ix2 j k) d (hk := rfl)) (index_eq t).2.2.1 j k (first 1024 j) (first 3840 k)
theorem emb3 (t : Fin cfg0.N) (j : Fin 1024) (k : Fin 2048) : ((cfg0.win 3).blk t).view.emb (ix2 j k) = ix2 j k :=
  idx_of_block (s := 1024) (w := 2048) _ (ix2 j k) _ (fun d => (cfg0.win 3).rect_emb_val t (ix2 j k) d (hk := rfl)) (index_eq t).2.2.2.1 j k (first 1024 j) (first 2048 k)
theorem emb4 (t : Fin cfg0.N) (j : Fin 1024) (k : Fin 128) : ((cfg0.win 4).blk t).view.emb (ix2 j k) = ix2 j k :=
  idx_of_block (s := 1024) (w := 128) _ (ix2 j k) _ (fun d => (cfg0.win 4).rect_emb_val t (ix2 j k) d (hk := rfl)) (index_eq t).2.2.2.2.1 j k (first 1024 j) (first 128 k)
theorem emb5 (n : Fin 512) (k : Fin 1024) : ((cfg0.win 5).blk (tile n)).view.emb (ix2 (place n) k) = ix2 n k :=
  idx_of_block (s := 256) (w := 1024) _ (ix2 (place n) k) _ (fun d => (cfg0.win 5).rect_emb_val (tile n) (ix2 (place n) k) d (hk := rfl)) (index_eq (tile n)).2.2.2.2.2.1 n k (back n) (first 1024 k)
theorem emb6 (n : Fin 512) (k : Fin 1792) : ((cfg0.win 6).blk (tile n)).view.emb (ix2 (place n) k) = ix2 n k :=
  idx_of_block (s := 256) (w := 1792) _ (ix2 (place n) k) _ (fun d => (cfg0.win 6).rect_emb_val (tile n) (ix2 (place n) k) d (hk := rfl)) (index_eq (tile n)).2.2.2.2.2.2.1 n k (back n) (first 1792 k)
theorem emb7 (n : Fin 512) (k : Fin 1536) : ((cfg0.win 7).blk (tile n)).view.emb (ix2 (place n) k) = ix2 n k :=
  idx_of_block (s := 256) (w := 1536) _ (ix2 (place n) k) _ (fun d => (cfg0.win 7).rect_emb_val (tile n) (ix2 (place n) k) d (hk := rfl)) (index_eq (tile n)).2.2.2.2.2.2.2.1 n k (back n) (first 1536 k)
theorem emb8 (n : Fin 512) (k : Fin 512) : ((cfg0.win 8).blk (tile n)).view.emb (ix2 (place n) k) = ix2 n k :=
  idx_of_block (s := 256) (w := 512) _ (ix2 (place n) k) _ (fun d => (cfg0.win 8).rect_emb_val (tile n) (ix2 (place n) k) d (hk := rfl)) (index_eq (tile n)).2.2.2.2.2.2.2.2.1 n k (back n) (first 512 k)
theorem emb9 (n : Fin 512) (k : Fin 2048) : ((cfg0.win 9).blk (tile n)).view.emb (ix2 (place n) k) = ix2 n k :=
  idx_of_block (s := 256) (w := 2048) _ (ix2 (place n) k) _ (fun d => (cfg0.win 9).rect_emb_val (tile n) (ix2 (place n) k) d (hk := rfl)) (index_eq (tile n)).2.2.2.2.2.2.2.2.2.1 n k (back n) (first 2048 k)
theorem emb10 (n : Fin 512) (k : Fin 128) : ((cfg0.win 10).blk (tile n)).view.emb (ix2 (place n) k) = ix2 n k :=
  idx_of_block (s := 256) (w := 128) _ (ix2 (place n) k) _ (fun d => (cfg0.win 10).rect_emb_val (tile n) (ix2 (place n) k) d (hk := rfl)) (index_eq (tile n)).2.2.2.2.2.2.2.2.2.2 n k (back n) (first 128 k)

theorem rows_at (n : Fin 512) (k : Fin 1024) : iblk m c 0 (tile n) (ix2 (place n) k) = token m c n k := by
  unfold iblk
  exact (congrArg (V m c main_v1) (emb0 n k)).trans (V_rows m c n k)

theorem scale_at (t : Fin cfg0.N) (k : Fin 1024) : iblk m c 1 t (ix2 0 k) = scale m c k := by
  unfold iblk
  exact (congrArg (V m c main_v3) (emb1 t 0 k)).trans (V_scale m c k)

theorem main_at (t : Fin cfg0.N) (k : Fin 1024) (q : Fin 3840) : iblk m c 2 t (ix2 k q) = column m c ⟨q.val, by omega⟩ k := by
  unfold iblk
  exact (congrArg (V m c main_v6) (emb2 t k q)).trans (V_main m c k q)

theorem gates_at (t : Fin cfg0.N) (k : Fin 1024) (q : Fin 2048) : iblk m c 3 t (ix2 k q) = column m c ⟨3848 + q.val, by omega⟩ k := by
  unfold iblk
  exact (congrArg (V m c main_v8) (emb3 t k q)).trans (V_gates m c k q)

theorem ab_at (t : Fin cfg0.N) (k : Fin 1024) (q : Fin 128) :
    iblk m c 4 t (ix2 k q) = if h : q.val < 8 then column m c ⟨3840 + q.val, by omega⟩ k else 0 := by
  unfold iblk
  exact (congrArg (V m c main_v11) (emb4 t k q)).trans (V_ab m c k q)

/-! The body's results are those of the prompt's body. -/

theorem same : @out0_5 Ideal _ = @Cert.PromptIdeal.Gen.out0_5 Ideal _ ∧ @out0_6 Ideal _ = @Cert.PromptIdeal.Gen.out0_6 Ideal _
    ∧ @out0_7 Ideal _ = @Cert.PromptIdeal.Gen.out0_7 Ideal _ ∧ @out0_8 Ideal _ = @Cert.PromptIdeal.Gen.out0_8 Ideal _
    ∧ @out0_9 Ideal _ = @Cert.PromptIdeal.Gen.out0_9 Ideal _ ∧ @out0_10 Ideal _ = @Cert.PromptIdeal.Gen.out0_10 Ideal _ :=
  ⟨rfl, rfl, rfl, rfl, rfl, rfl⟩

/-! ## The arrays after the run -/

/-- Row `n` after the norm, times a column. -/
def product (n : Fin 512) (col : Fin 1024 → EReal) : EReal := projected (token m c n) (scale m c) col

theorem entry_at (n : Fin 512) (col col' : Fin 1024 → EReal) (h : ∀ k, col k = col' k) :
    entry (iblk m c 0 (tile n)) (iblk m c 1 (tile n)) (place n) col = product m c n col' := by
  unfold entry product
  rw [funext (rows_at m c n), funext (scale_at m c (tile n)), funext h]

theorem array5 (n : Fin 512) (k : Fin 1024) :
    (dats m 0 c).arrAt 5 cfg0.N (ix2 n k) = (dats m 0 c).flushed 5 (tile n) (ix2 (place n) k) := by
  have h := blocks5 m c (tile n) (flush_eq (tile n)).1
  rw [← emb5 n k]
  generalize (dats m 0 c).arrAt 5 cfg0.N = a at h ⊢
  exact congrFun h _

theorem array6 (n : Fin 512) (k : Fin 1792) :
    (dats m 0 c).arrAt 6 cfg0.N (ix2 n k) = (dats m 0 c).flushed 6 (tile n) (ix2 (place n) k) := by
  have h := blocks6 m c (tile n) (flush_eq (tile n)).2.1
  rw [← emb6 n k]
  generalize (dats m 0 c).arrAt 6 cfg0.N = a at h ⊢
  exact congrFun h _

theorem array7 (n : Fin 512) (k : Fin 1536) :
    (dats m 0 c).arrAt 7 cfg0.N (ix2 n k) = (dats m 0 c).flushed 7 (tile n) (ix2 (place n) k) := by
  have h := blocks7 m c (tile n) (flush_eq (tile n)).2.2.1
  rw [← emb7 n k]
  generalize (dats m 0 c).arrAt 7 cfg0.N = a at h ⊢
  exact congrFun h _

theorem array8 (n : Fin 512) (k : Fin 512) :
    (dats m 0 c).arrAt 8 cfg0.N (ix2 n k) = (dats m 0 c).flushed 8 (tile n) (ix2 (place n) k) := by
  have h := blocks8 m c (tile n) (flush_eq (tile n)).2.2.2.1
  rw [← emb8 n k]
  generalize (dats m 0 c).arrAt 8 cfg0.N = a at h ⊢
  exact congrFun h _

theorem array9 (n : Fin 512) (k : Fin 2048) :
    (dats m 0 c).arrAt 9 cfg0.N (ix2 n k) = (dats m 0 c).flushed 9 (tile n) (ix2 (place n) k) := by
  have h := blocks9 m c (tile n) (flush_eq (tile n)).2.2.2.2.1
  rw [← emb9 n k]
  generalize (dats m 0 c).arrAt 9 cfg0.N = a at h ⊢
  exact congrFun h _

theorem array10 (n : Fin 512) (k : Fin 128) :
    (dats m 0 c).arrAt 10 cfg0.N (ix2 n k) = (dats m 0 c).flushed 10 (tile n) (ix2 (place n) k) := by
  have h := blocks10 m c (tile n) (flush_eq (tile n)).2.2.2.2.2
  rw [← emb10 n k]
  generalize (dats m 0 c).arrAt 10 cfg0.N = a at h ⊢
  exact congrFun h _

theorem norm_final (n : Fin 512) (k : Fin 1024) : (dats m 0 c).arrAt 5 cfg0.N (ix2 n k) = normed (token m c n) (scale m c) k := by
  refine ((array5 m c n k).trans ?_)
  refine (congrFun (flushed5 m c (tile n)) (ix2 (place n) k)).trans ((congrFun (congrFun (congrFun (congrFun (congrFun (congrFun (same.1) _) _) _) _) _) (ix2 (place n) k)).trans ((out5_at _ _ _ _ _ (place n) k).trans ?_))
  rw [funext (rows_at m c n), funext (scale_at m c (tile n))]

theorem mix_final (n : Fin 512) (q : Fin 1792) : (dats m 0 c).arrAt 6 cfg0.N (ix2 n q) = product m c n (column m c ⟨q.val, by omega⟩) :=
  ((array6 m c n q).trans
    ((congrFun (flushed6 m c (tile n)) (ix2 (place n) q)).trans ((congrFun (congrFun (congrFun (congrFun (congrFun (congrFun (same.2.1) _) _) _) _) _) (ix2 (place n) q)).trans ((out6_at _ _ _ _ _ (place n) q).trans
      (entry_at m c n _ _ fun k => main_at m c (tile n) k _)))))

theorem qkv_final (n : Fin 512) (q : Fin 1536) : (dats m 0 c).arrAt 7 cfg0.N (ix2 n q) = product m c n (column m c ⟨1792 + q.val, by omega⟩) :=
  ((array7 m c n q).trans
    ((congrFun (flushed7 m c (tile n)) (ix2 (place n) q)).trans ((congrFun (congrFun (congrFun (congrFun (congrFun (congrFun (same.2.2.1) _) _) _) _) _) (ix2 (place n) q)).trans ((out7_at _ _ _ _ _ (place n) q).trans
      (entry_at m c n _ _ fun k => main_at m c (tile n) k _)))))

theorem z_final (n : Fin 512) (q : Fin 512) : (dats m 0 c).arrAt 8 cfg0.N (ix2 n q) = product m c n (column m c ⟨3328 + q.val, by omega⟩) :=
  ((array8 m c n q).trans
    ((congrFun (flushed8 m c (tile n)) (ix2 (place n) q)).trans ((congrFun (congrFun (congrFun (congrFun (congrFun (congrFun (same.2.2.2.1) _) _) _) _) _) (ix2 (place n) q)).trans ((out8_at _ _ _ _ _ (place n) q).trans
      (entry_at m c n _ _ fun k => main_at m c (tile n) k _)))))

theorem gates_final (n : Fin 512) (q : Fin 2048) : (dats m 0 c).arrAt 9 cfg0.N (ix2 n q) = product m c n (column m c ⟨3848 + q.val, by omega⟩) :=
  ((array9 m c n q).trans
    ((congrFun (flushed9 m c (tile n)) (ix2 (place n) q)).trans ((congrFun (congrFun (congrFun (congrFun (congrFun (congrFun (same.2.2.2.2.1) _) _) _) _) _) (ix2 (place n) q)).trans ((out9_at _ _ _ _ _ (place n) q).trans
      (entry_at m c n _ _ fun k => gates_at m c (tile n) k q)))))

theorem ab_final (n : Fin 512) (q : Fin 128) : (dats m 0 c).arrAt 10 cfg0.N (ix2 n q)
    = product m c n (abOf (m ((c : Thread nD τ).loc main_arg2)) q) :=
  ((array10 m c n q).trans
    ((congrFun (flushed10 m c (tile n)) (ix2 (place n) q)).trans ((congrFun (congrFun (congrFun (congrFun (congrFun (congrFun (same.2.2.2.2.2) _) _) _) _) _) (ix2 (place n) q)).trans ((out10_at _ _ _ _ _ (place n) q).trans
      (entry_at m c n _ _ fun k => ab_at m c (tile n) k q)))))

end Cert.Projection.Sample

end
-- ==== Proof.ProjectionSampleReference.lean ====
module

public import proofs.«01_k».proof.Proof.ProjectionBlocks
public import proofs.«01_k».proof.Proof.Gen.SampleReferenceIdeal.Run

@[expose] public section

set_option maxRecDepth 512

noncomputable section

/-! The sample's reference, element by element. -/

namespace Cert.Projection.SampleReference

open Cert.SampleReferenceIdeal Cert.SampleReferenceIdeal.Gen Cert.Projection
open Idealize.ShloMosaic
open Idealize.ShloMosaic.TcCoe Idealize.ShloMosaic.Tactic

variable (x : FVec Ideal S128x4x1024 .f32) (w : FVec Ideal S1x1024 .f32) (W : FVec Ideal S1x1024x5896 .f32)

/-- Row `n` of the tokens, step by step. -/
def tokenOf (n : Fin 512) (k : Fin 1024) : EReal := x (ix3 ⟨n.val % 128, by omega⟩ ⟨n.val / 128, by omega⟩ k)

/-- The tokens after the norm. -/
def rows : FVec Ideal S512x1024 .f32 :=
  mulf (mulf (shapeCast _ (transpose S4x128x1024 [1, 0, 2] x transposes_S128x4x1024_S4x128x1024_1_0_2) shapeCasts_S4x128x1024_S512x1024) (broadcastInDim S512x1024 ![0, 1] bcast_S512x1_S512x1024_0_1 (Host.rsqrt (addf (Host.divf (broadcastInDim S512x1 ![0] bcast_S512_S512x1_0 (Host.reduceAdd (mulf (shapeCast _ (transpose S4x128x1024 [1, 0, 2] x transposes_S128x4x1024_S4x128x1024_1_0_2) shapeCasts_S4x128x1024_S512x1024) (shapeCast _ (transpose S4x128x1024 [1, 0, 2] x transposes_S128x4x1024_S4x128x1024_1_0_2) shapeCasts_S4x128x1024_S512x1024)) (constant S_ .f32 0x00000000#32) reducesTo_S512x1024_S512_d1 h_S_)) (broadcastInDim S512x1 ![] bcast_S_S512x1 (constant S_ .f32 0x44800000#32))) (broadcastInDim S512x1 ![] bcast_S_S512x1 (constant S_ .f32 0x358637BD#32)))))) (broadcastInDim S512x1024 ![0, 1] bcast_S1x1024_S512x1024_0_1 (broadcastInDim S1x1024 ![1] bcast_S1024_S1x1024_1 (shapeCast _ w shapeCasts_S1x1024_S1024)))

/-- Their product with the weights. -/
def products : FVec Ideal S512x5896 .f32 :=
  Host.dotGeneral dot_S512x1024_S1024x5896_S512x5896_1_0_0_1_n_n none (rows x w) (shapeCast _ W shapeCasts_S1x1024x5896_S1024x5896)

theorem rows_at (n : Fin 512) (k : Fin 1024) : rows x w (ix2 n k) = normed (tokenOf x n) (scaleOf w) k := by
  unfold rows normed squares tokenOf scaleOf
  pointwise []

theorem products_at (n : Fin 512) (q : Fin 5896) :
    products x w W (ix2 n q) = projected (tokenOf x n) (scaleOf w) (columnOf W q) := by
  unfold products projected columnOf
  pointwise [rows_at]

theorem mix_at (n : Fin 512) (q : Fin 1792) :
    extractStridedSlice S512x1792 ![0, 0] (products x w W) slices_S512x5896_S512x1792_0_0 (ix2 n q)
      = projected (tokenOf x n) (scaleOf w) (columnOf W ⟨q.val, by omega⟩) := by
  pointwise [products_at]

theorem qkv_at (n : Fin 512) (q : Fin 1536) :
    extractStridedSlice S512x1536 ![0, 1792] (products x w W) slices_S512x5896_S512x1536_0_1792 (ix2 n q)
      = projected (tokenOf x n) (scaleOf w) (columnOf W ⟨1792 + q.val, by omega⟩) := by
  pointwise [products_at]

theorem z_at (n : Fin 512) (q : Fin 512) :
    extractStridedSlice S512x512 ![0, 3328] (products x w W) slices_S512x5896_S512x512_0_3328 (ix2 n q)
      = projected (tokenOf x n) (scaleOf w) (columnOf W ⟨3328 + q.val, by omega⟩) := by
  pointwise [products_at]

theorem gates_at (n : Fin 512) (q : Fin 2048) :
    extractStridedSlice S512x2048 ![0, 3848] (products x w W) slices_S512x5896_S512x2048_0_3848 (ix2 n q)
      = projected (tokenOf x n) (scaleOf w) (columnOf W ⟨3848 + q.val, by omega⟩) := by
  pointwise [products_at]

theorem ab_at (n : Fin 512) (q : Fin 128) :
    pad S512x128 ![0, 0] ![0, 120] ![0, 0] (extractStridedSlice S512x8 ![0, 3840] (products x w W) slices_S512x5896_S512x8_0_3840) (sitofp .f32 (constantI S_ 32 0#32)) pads_S512x8_S512x128_000_01200 h_S_ (ix2 n q)
      = projected (tokenOf x n) (scaleOf w) (abOf W q) := by
  rw [projected_ab]
  pointwise [products_at]
  exact dite_congr rfl (fun _ => rfl) fun _ => zero_word

end Cert.Projection.SampleReference

end
-- ==== Proof.ProjectionSampleEqual.lean ====
module

public import proofs.«01_k».proof.Defs
public import proofs.«01_k».proof.Proof.ProjectionSample
public import proofs.«01_k».proof.Proof.ProjectionSampleReference

@[expose] public section

set_option maxRecDepth 512

noncomputable section

/-! The sample's projections: from equal arguments the kernel and its reference give equal results. -/

namespace Cert.Projection.Sample

open Cert.SampleIdeal Cert.SampleIdeal.Gen Cert.Projection
open Idealize.ShloMosaic
open Idealize.ShloMosaic.TcCoe
open Idealize.SL.Sem

variable (m : (ℓ : Loc nD τ sig) → Buf (Elt Ideal) ℓ) (c : Dev nD)

/-- The reference's arguments, read off the kernel's memory. -/
abbrev argX : FVec Ideal S128x4x1024 .f32 := m ((c : Thread nD τ).loc main_arg0)
abbrev argG : FVec Ideal S1x1024 .f32 := m ((c : Thread nD τ).loc main_arg1)
abbrev argW : FVec Ideal S1x1024x5896 .f32 := m ((c : Thread nD τ).loc main_arg2)

/-- The value claim. -/
theorem algebraic : Cert.algebraic_SampleIdeal_SampleReferenceIdeal := fun m g m' g' _ ha => by
  refine ⟨fun c => (dats m 0 c).arrAt 5 cfg0.N, fun c => (dats m 0 c).arrAt 6 cfg0.N, fun c => (dats m 0 c).arrAt 7 cfg0.N,
    fun c => (dats m 0 c).arrAt 8 cfg0.N, fun c => (dats m 0 c).arrAt 9 cfg0.N, fun c => (dats m 0 c).arrAt 10 cfg0.N,
    Cert.SampleIdeal.Value.run_blocks (F := Ideal) m g, ?_⟩
  refine (θ_run Cert.SampleReferenceIdeal.defs _ _).mono (fun r h c => ?_) (Cert.SampleReferenceIdeal.Value.run (F := Ideal) m' g')
  have hc := h c
  rw [(ha c).1, (ha c).2.1, (ha c).2.2] at hc
  obtain ⟨h5, h6, h7, h8, h9, h10, k0, k1, k2⟩ := hc
  exact ⟨h5.trans (ext2 _ _ fun n q => (SampleReference.rows_at (argX m c) (argG m c) n q).trans (norm_final m c n q).symm),
    h6.trans (ext2 _ _ fun n q => (SampleReference.mix_at (argX m c) (argG m c) (argW m c) n q).trans (mix_final m c n q).symm),
    h7.trans (ext2 _ _ fun n q => (SampleReference.qkv_at (argX m c) (argG m c) (argW m c) n q).trans (qkv_final m c n q).symm),
    h8.trans (ext2 _ _ fun n q => (SampleReference.z_at (argX m c) (argG m c) (argW m c) n q).trans (z_final m c n q).symm),
    h9.trans (ext2 _ _ fun n q => (SampleReference.gates_at (argX m c) (argG m c) (argW m c) n q).trans (gates_final m c n q).symm),
    h10.trans (ext2 _ _ fun n q => (SampleReference.ab_at (argX m c) (argG m c) (argW m c) n q).trans (ab_final m c n q).symm),
    k0.trans (ha c).1.symm, k1.trans (ha c).2.1.symm, k2.trans (ha c).2.2.symm⟩

end Cert.Projection.Sample

end
-- ==== Proof.ConvBody.lean ====
module

public import proofs.«01_k».proof.Proof.ProjectionBlocks
public import proofs.«01_k».proof.Proof.Gen.ConvIdeal.Value
public import Idealize.ShloMosaic.Lib.StableHlo.ReadAt

@[expose] public section

set_option maxRecDepth 512

noncomputable section

/-! The body of `_gdn_prep`: every result, element by element, in terms of the blocks it reads. -/

namespace Cert.Convolution

open Cert.ConvIdeal Cert.ConvIdeal.Gen Cert.Projection
open Idealize.ShloMosaic
open Idealize.ShloMosaic.TcCoe Idealize.ShloMosaic.Tactic

/-- The rows that the convolution runs over: the carried ones, and the batch's own after them. -/
def padded (x0 : Vec Ideal S512x1536 .f32) (x1 : Vec Ideal S1x384x1536 .f32) (r : ℕ) (hr : r < 896) (q : Fin 1536) : EReal :=
  if h : r < 384 then x1 (ix3 0 ⟨r, h⟩ q) else x0 (ix2 ⟨r - 384, by omega⟩ q)

/-- The convolution's four taps. -/
def taps (x0 : Vec Ideal S512x1536 .f32) (x1 : Vec Ideal S1x384x1536 .f32) (x3 : Vec Ideal S4x1536 .f32) (n : Fin 512) (q : Fin 1536) : EReal :=
  x0 (ix2 n q) * x3 (ix2 3 q) + padded x0 x1 (n.val + 256) (by omega) q * x3 (ix2 2 q)
    + padded x0 x1 (n.val + 128) (by omega) q * x3 (ix2 1 q) + padded x0 x1 n.val (by omega) q * x3 (ix2 0 q)

theorem zeros3 : (![0, 0, 0] : Fin 3 → ℕ) = fun _ => 0 := by
  funext d
  match d with
  | ⟨0, _⟩ => rfl
  | ⟨1, _⟩ => rfl
  | ⟨2, _⟩ => rfl

/-- What the scratch holds when the taps are read. -/
abbrev staged (x0 : Vec Ideal S512x1536 .f32) (x1 : Vec Ideal S1x384x1536 .f32) : List (View.Piece (Elt Ideal) S896x1536 .f32) :=
  [⟨Rect.unit ![384, 0] S512x1536.size inb_S896x1536_S512x1536_384_0, k0_pay4 (F := Ideal) x0⟩,
    ⟨Rect.unit ![0, 0] S384x1536.size inb_S896x1536_S384x1536_0_0, k0_pay2 (F := Ideal) x1⟩]

section

variable (x0 : Vec Ideal S512x1536 .f32) (x1 : Vec Ideal S1x384x1536 .f32)

theorem canon_staged (r : ℕ) (hr : r < 896) (q : Fin 1536) :
    View.canon (staged x0 x1) (ix2 ⟨r, hr⟩ q) = padded x0 x1 r hr q := by
  unfold padded
  by_cases h : r < 384
  · rw [dif_pos h, View.canon_cons_of_not_mem]
    · have e : (ix2 ⟨r, hr⟩ q : S896x1536.Idx) = (Rect.unit (s := S896x1536) ![0, 0] S384x1536.size inb_S896x1536_S384x1536_0_0).emb (ix2 (⟨r, h⟩ : Fin 384) q) :=
        (idx_eq _ _ _ (by show 0 + 1 * r = r; omega) (by show 0 + 1 * q.val = q.val; omega)).symm
      rw [e, View.canon_cons_emb]
      unfold k0_pay2
      pointwise []
    · intro hm
      obtain ⟨x, hx⟩ := (Rect.unit (s := S896x1536) ![384, 0] S512x1536.size inb_S896x1536_S512x1536_384_0).exists_idx_of_mem hm
      have h0 := congrArg (fun f : S896x1536.Idx => (f 0).val) hx
      have h1 : 384 + 1 * (x 0).val = r := h0
      omega
  · have e : (ix2 ⟨r, hr⟩ q : S896x1536.Idx) = (Rect.unit (s := S896x1536) ![384, 0] S512x1536.size inb_S896x1536_S512x1536_384_0).emb (ix2 (⟨r - 384, by omega⟩ : Fin 512) q) :=
      (idx_eq _ _ _ (by show 384 + 1 * (r - 384) = r; omega) (by show 0 + 1 * q.val = q.val; omega)).symm
    rw [dif_neg h, e, View.canon_cons_emb]
    unfold k0_pay4
    pointwise []

theorem staged_at (v : View sig .tc .vmem S896x1536 .f32) (o : ℕ) (inb) (n : Fin 512) (q : Fin 1536) (h : n.val + o < 896) :
    v.readCov (staged x0 x1) (Rect.unit (s := S896x1536) ![o, 0] S512x1536.size inb).toLoadRect (ix2 n q) = padded x0 x1 (n.val + o) h q := by
  rw [View.readCov_eq_canon', ← canon_staged]
  exact congrArg _ (idx_eq _ _ _ (by show o + 1 * n.val = n.val + o; omega) (by show 0 + 1 * q.val = q.val; omega))

end

theorem pay5_at (v0 v14 v20 v26 : Vec Ideal S512x1536 .f32) (v10 v15 v21 v27 : Vec Ideal S1x1536 .f32) (n : Fin 512) (q : Fin 1536) :
    k0_pay5 (F := Ideal) v0 v10 v14 v15 v20 v21 v26 v27 (ix2 n q)
      = v0 (ix2 n q) * v10 (ix2 0 q) + v14 (ix2 n q) * v15 (ix2 0 q) + v20 (ix2 n q) * v21 (ix2 0 q) + v26 (ix2 n q) * v27 (ix2 0 q) := by
  unfold k0_pay5
  pointwise []

/-- The activation. -/
def act (u : EReal) : EReal := u * Ideal.div (Ideal.ofBits .f32 0x3F800000#32) (Ideal.ofBits .f32 0x3F800000#32 + Ideal.exp (0 - u))

theorem pay6_at (u : FVec Ideal S512x1536 .f32) (n : Fin 512) (q : Fin 1536) :
    k0_pay6 (F := Ideal) u (0 : EReal) (ix2 n q) = act (u (ix2 n q)) := by
  unfold k0_pay6 act
  pointwise []

theorem pay10_at (u : FVec Ideal S512x1536 .f32) (n : Fin 512) (q : Fin 512) :
    k0_pay10 (F := Ideal) u (FloatOps.ofBits .f32 0#32) (ix2 n q) = act (u (ix2 n ⟨1024 + q.val, by omega⟩)) := by
  unfold k0_pay10
  pointwise [pay6_at]

/-- The body's sum of squares: the high half's product with the ones, and the low half's. -/
def halves (a : Fin 512 → EReal) (w : Fin 512 → EReal) : EReal :=
  (∑ k : Fin 512, a k * a k * w k) + ∑ k : Fin 512, (a k * a k - a k * a k) * w k

theorem pay8_at (u : FVec Ideal S512x1536 .f32) (w : Vec Ideal S512x512 .bf16) (n : Fin 512) (q : Fin 512) :
    k0_pay8 (F := Ideal) u (FloatOps.ofBits .f32 0#32) w (ix2 n q)
      = act (u (ix2 n ⟨q.val, by omega⟩)) * Ideal.rsqrt (halves (fun k => act (u (ix2 n ⟨k.val, by omega⟩))) (fun k => w (ix2 k q))
          + Ideal.ofBits .f32 0x358637BD#32) * Ideal.ofBits .f32 0x3DB504F3#32 := by
  unfold k0_pay8 k0_pay7 halves
  pointwise [pay6_at]

theorem pay9_at (u : FVec Ideal S512x1536 .f32) (w : Vec Ideal S512x512 .bf16) (n : Fin 512) (q : Fin 512) :
    k0_pay9 (F := Ideal) u (FloatOps.ofBits .f32 0#32) w (ix2 n q)
      = act (u (ix2 n ⟨512 + q.val, by omega⟩)) * Ideal.rsqrt (halves (fun k => act (u (ix2 n ⟨512 + k.val, by omega⟩))) (fun k => w (ix2 k q))
          + Ideal.ofBits .f32 0x358637BD#32) := by
  unfold k0_pay9 k0_pay7 halves
  pointwise [pay6_at]

/-- The decay's logarithm. -/
def decay (ab al dt : EReal) : EReal :=
  (0 - Ideal.exp al) * (max (ab + dt) 0 + Ideal.log1p (Ideal.exp (0 - FloatOps.absf (F := Ideal) (φ := .f32) (ab + dt))))

theorem pay1_at (v74 : Vec Ideal S512x128 .f32) (v75 v80 : Vec Ideal S1x128 .f32) (n : Fin 512) (q : Fin 128) :
    k0_pay1 (F := Ideal) v74 v75 v80 (ix2 n q)
      = if q.val < 4 then decay (v74 (ix2 n q)) (v75 (ix2 0 q)) (v80 (ix2 0 q))
        else Ideal.div (Ideal.ofBits .f32 0x3F800000#32) (Ideal.ofBits .f32 0x3F800000#32 + Ideal.exp (0 - v74 (ix2 n q))) := by
  unfold k0_pay1 decay
  pointwise []
  by_cases h : q.val < 4
  · rw [if_pos h, (WordCmp.cmpi_slt_ofNat_eq_one_iff (w := 32) (b := 4) (by omega) (by omega)).2 h]
    rfl
  · rw [if_neg h, (WordCmp.cmpi_slt_ofNat_eq_zero_iff (w := 32) (b := 4) (by omega) (by omega)).2 h]
    rfl

/-- The convolution of the block. -/
def conv (x0 : Vec Ideal S512x1536 .f32) (x1 : Vec Ideal S1x384x1536 .f32) (x3 : Vec Ideal S4x1536 .f32) : FVec Ideal S512x1536 .f32 :=
  fun i => taps x0 x1 x3 (i 0) (i 1)

theorem row_at (x3 : Vec Ideal S4x1536 .f32) (k : Fin 4) (inb) (q : Fin 1536) :
    View.ld x3 (Rect.unit (s := S4x1536) ![k.val, 0] S1x1536.size inb) (ix2 0 q) = x3 (ix2 k q) :=
  congrArg x3 (idx_eq _ _ _ (by show k.val + 1 * 0 = k.val; omega) (by show 0 + 1 * q.val = q.val; omega))

theorem pay5_eq (v : View sig .tc .vmem S896x1536 .f32) (x0 : Vec Ideal S512x1536 .f32) (x1 : Vec Ideal S1x384x1536 .f32) (x3 : Vec Ideal S4x1536 .f32) :
    k0_pay5 (F := Ideal) x0 (View.ld x3 (Rect.unit (s := S4x1536) ![3, 0] S1x1536.size inb_S4x1536_S1x1536_3_0))
      (v.readCov (staged x0 x1) (Rect.unit (s := S896x1536) ![256, 0] S512x1536.size inb_S896x1536_S512x1536_256_0).toLoadRect) (View.ld x3 (Rect.unit (s := S4x1536) ![2, 0] S1x1536.size inb_S4x1536_S1x1536_2_0))
      (v.readCov (staged x0 x1) (Rect.unit (s := S896x1536) ![128, 0] S512x1536.size inb_S896x1536_S512x1536_128_0).toLoadRect) (View.ld x3 (Rect.unit (s := S4x1536) ![1, 0] S1x1536.size inb_S4x1536_S1x1536_1_0))
      (v.readCov (staged x0 x1) (Rect.unit (s := S896x1536) ![0, 0] S512x1536.size inb_S896x1536_S512x1536_0_0).toLoadRect) (View.ld x3 (Rect.unit (s := S4x1536) ![0, 0] S1x1536.size inb_S4x1536_S1x1536_0_0))
      = conv x0 x1 x3 := by
  refine ext2 _ _ fun n q => (pay5_at _ _ _ _ _ _ _ _ n q).trans ?_
  rw [staged_at x0 x1 v 256 _ n q (by omega), staged_at x0 x1 v 128 _ n q (by omega), staged_at x0 x1 v 0 _ n q (by omega)]
  exact congr (congrArg _ (congr (congrArg _ (congr (congrArg _ (congrArg _ (row_at x3 3 _ q))) (congrArg _ (row_at x3 2 _ q)))) (congrArg _ (row_at x3 1 _ q)))) (congrArg _ (row_at x3 0 _ q))

variable (c : Dev nD) (i : grid0.Coords) (arg2 : Memref sig .tc .vmem S512x1536 .f32) (harg2 : arg2.IsWhole)
  (arg3 : Memref sig .tc .vmem S1x384x1536 .f32) (harg3 : arg3.IsWhole) (arg4 : Memref sig .tc .vmem S512x128 .f32) (harg4 : arg4.IsWhole)
  (arg5 : Memref sig .tc .vmem S4x1536 .f32) (harg5 : arg5.IsWhole) (arg6 : Memref sig .tc .vmem S1x128 .f32) (harg6 : arg6.IsWhole)
  (arg7 : Memref sig .tc .vmem S1x128 .f32) (harg7 : arg7.IsWhole) (arg8 : Memref sig .tc .vmem S512x512 .bf16) (harg8 : arg8.IsWhole)
  (arg9 : Memref sig .tc .vmem S512x512 .f32) (harg9 : arg9.IsWhole) (arg10 : Memref sig .tc .vmem S512x512 .f32) (harg10 : arg10.IsWhole)
  (arg11 : Memref sig .tc .vmem S512x512 .f32) (harg11 : arg11.IsWhole) (arg12 : Memref sig .tc .vmem S512x128 .f32) (harg12 : arg12.IsWhole)
  (arg13 : Memref sig .tc .vmem S896x1536 .f32) (harg13 : arg13.IsWhole) (hc0 : cond0_0 i) (hc1 : ¬cond0_1 i)
  (x0 : Vec Ideal S512x1536 .f32) (x1 : Vec Ideal S1x384x1536 .f32) (x2 : Vec Ideal S512x128 .f32) (x3 : Vec Ideal S4x1536 .f32)
  (x4 : Vec Ideal S1x128 .f32) (x5 : Vec Ideal S1x128 .f32) (x6 : Vec Ideal S512x512 .bf16)

theorem out7_at (n : Fin 512) (q : Fin 512) :
    out0_A_7 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 (ix2 n q)
      = act (taps x0 x1 x3 n ⟨q.val, by omega⟩) * Ideal.rsqrt (halves (fun k => act (taps x0 x1 x3 n ⟨k.val, by omega⟩)) (fun k => x6 (ix2 k q))
          + Ideal.ofBits .f32 0x358637BD#32) * Ideal.ofBits .f32 0x3DB504F3#32 := by
  unfold out0_A_7
  rw [View.read_writes_eq_canon _ _ _ (cover0_A_7 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6)]
  unfold kernelRun0_A
  dsimp only
  sl_unfold_words
  rw [View.canon_unit_zero zeros]
  simp only [View.readAt_eq_ld, harg2.read_unread, harg3.read_unread, harg4.read_unread, harg5.read_unread, harg6.read_unread, harg7.read_unread,
    harg8.read_unread, View.ld_unit_zero (S := S512x1536) zeros, View.ld_unit_zero (S := S1x384x1536) zeros3, View.ld_unit_zero (S := S512x128) zeros,
    View.ld_unit_zero (S := S1x128) zeros, View.ld_unit_zero (S := S512x512) zeros]
  rw [pay5_eq]
  exact pay8_at (conv x0 x1 x3) x6 n q

theorem out8_at (n : Fin 512) (q : Fin 512) :
    out0_A_8 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 (ix2 n q)
      = act (taps x0 x1 x3 n ⟨512 + q.val, by omega⟩) * Ideal.rsqrt (halves (fun k => act (taps x0 x1 x3 n ⟨512 + k.val, by omega⟩)) (fun k => x6 (ix2 k q))
          + Ideal.ofBits .f32 0x358637BD#32) := by
  unfold out0_A_8
  rw [View.read_writes_eq_canon _ _ _ (cover0_A_8 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6)]
  unfold kernelRun0_A
  dsimp only
  sl_unfold_words
  rw [View.canon_unit_zero zeros]
  simp only [View.readAt_eq_ld, harg2.read_unread, harg3.read_unread, harg4.read_unread, harg5.read_unread, harg6.read_unread, harg7.read_unread,
    harg8.read_unread, View.ld_unit_zero (S := S512x1536) zeros, View.ld_unit_zero (S := S1x384x1536) zeros3, View.ld_unit_zero (S := S512x128) zeros,
    View.ld_unit_zero (S := S1x128) zeros, View.ld_unit_zero (S := S512x512) zeros]
  rw [pay5_eq]
  exact pay9_at (conv x0 x1 x3) x6 n q

theorem out9_at (n : Fin 512) (q : Fin 512) :
    out0_A_9 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 (ix2 n q)
      = act (taps x0 x1 x3 n ⟨1024 + q.val, by omega⟩) := by
  unfold out0_A_9
  rw [View.read_writes_eq_canon _ _ _ (cover0_A_9 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6)]
  unfold kernelRun0_A
  dsimp only
  sl_unfold_words
  rw [View.canon_unit_zero zeros]
  simp only [View.readAt_eq_ld, harg2.read_unread, harg3.read_unread, harg4.read_unread, harg5.read_unread, harg6.read_unread, harg7.read_unread,
    harg8.read_unread, View.ld_unit_zero (S := S512x1536) zeros, View.ld_unit_zero (S := S1x384x1536) zeros3, View.ld_unit_zero (S := S512x128) zeros,
    View.ld_unit_zero (S := S1x128) zeros, View.ld_unit_zero (S := S512x512) zeros]
  rw [pay5_eq]
  exact pay10_at (conv x0 x1 x3) n q

theorem out10_at (n : Fin 512) (q : Fin 128) :
    out0_A_10 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 (ix2 n q)
      = if q.val < 4 then decay (x2 (ix2 n q)) (x4 (ix2 0 q)) (x5 (ix2 0 q))
        else Ideal.div (Ideal.ofBits .f32 0x3F800000#32) (Ideal.ofBits .f32 0x3F800000#32 + Ideal.exp (0 - x2 (ix2 n q))) := by
  unfold out0_A_10
  rw [View.read_writes_eq_canon _ _ _ (cover0_A_10 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6)]
  unfold kernelRun0_A
  dsimp only
  sl_unfold_words
  rw [View.canon_unit_zero zeros]
  simp only [View.readAt_eq_ld, harg2.read_unread, harg3.read_unread, harg4.read_unread, harg5.read_unread, harg6.read_unread, harg7.read_unread,
    harg8.read_unread, View.ld_unit_zero (S := S512x1536) zeros, View.ld_unit_zero (S := S1x384x1536) zeros3, View.ld_unit_zero (S := S512x128) zeros,
    View.ld_unit_zero (S := S1x128) zeros, View.ld_unit_zero (S := S512x512) zeros]
  exact pay1_at x2 x4 x5 n q

end Cert.Convolution
-- ==== Proof.ConvArrays.lean ====
module

public import proofs.«01_k».proof.Proof.ConvBody

@[expose] public section

set_option maxRecDepth 512

noncomputable section

/-! The results of `_gdn_prep`, element by element, in terms of the arguments. -/

namespace Cert.Convolution

open Cert.ConvIdeal Cert.ConvIdeal.Gen Cert.ConvIdeal.Value Cert.Projection
open Idealize.ShloMosaic
open Idealize.ShloMosaic.TcCoe Idealize.ShloMosaic.Tactic
open Idealize.SL.Sem
open Idealize.ShloMosaic.Pipeline (Dat Cfg Window)

variable (m : (ℓ : Loc nD τ sig) → Buf (Elt Ideal) ℓ) (c : Dev nD)

theorem V_rows (n : Fin 512) (k : Fin 1536) : V m c main_arg0 (ix2 n k) = m ((c : Thread nD τ).loc main_arg0) (ix2 n k) := by
  unfold V
  after_reads_at

theorem V_carried (n : Fin 384) (k : Fin 1536) :
    V m c main_v17 (ix3 0 n k) = m ((c : Thread nD τ).loc main_arg2) (ix4 0 ⟨n.val % 128, by omega⟩ ⟨n.val / 128, by omega⟩ k) := by
  unfold V
  after_reads_at

theorem V_ab (n : Fin 512) (k : Fin 128) : V m c main_arg1 (ix2 n k) = m ((c : Thread nD τ).loc main_arg1) (ix2 n k) := by
  unfold V
  after_reads_at

theorem V_weights (j : Fin 4) (k : Fin 1536) : V m c main_v8 (ix2 j k) = m ((c : Thread nD τ).loc main_arg3) (ix3 0 j k) := by
  unfold V
  after_reads_at

theorem V_decay (q : Fin 128) (h : q.val < 4) : V m c main_v11 (ix2 0 q) = m ((c : Thread nD τ).loc main_arg4) (ix2 0 ⟨q.val, h⟩) := by
  unfold V
  after_reads_at
  exact dif_pos h

theorem V_bias (q : Fin 128) (h : q.val < 4) : V m c main_v14 (ix2 0 q) = m ((c : Thread nD τ).loc main_arg5) (ix2 0 ⟨q.val, h⟩) := by
  unfold V
  after_reads_at
  exact dif_pos h

/-- The host's floor division of a column's number by the head's width. -/
def head (k : ℕ) : BitVec 32 :=
  Scalar.select
    (IntOp.andi
      (IntOp.cmpi CmpIPredicate.ne
        (if BitVec.ofNat 32 k = 0 then 0 else if (BitVec.ofNat 32 k).msb = true then -1 else 1 : BitVec 32)
        (if (128#32 : BitVec 32) = 0 then 0 else if BitVec.msb (128#32 : BitVec 32) = true then -1 else 1 : BitVec 32))
      (IntOp.cmpi CmpIPredicate.ne (IntOp.remsi ArithUnit.host (BitVec.ofNat 32 k) 128#32) 0#32))
    (IntOp.subi (IntOp.divsi ArithUnit.host (BitVec.ofNat 32 k) 128#32) 1#32)
    (IntOp.divsi ArithUnit.host (BitVec.ofNat 32 k) 128#32)

theorem head_eq : ∀ k : Fin 512, head k.val = BitVec.ofNat 32 (k.val / 128) := by decide +kernel

theorem one_bit : (FloatOps.uitofp .bf16 1#1 : Ideal .bf16) = (1 : EReal) := by
  show ((BitVec.toNat 1#1 : ℝ) : EReal) = 1
  simp

theorem zero_bit : (FloatOps.uitofp .bf16 0#1 : Ideal .bf16) = (0 : EReal) := by
  show ((BitVec.toNat 0#1 : ℝ) : EReal) = 0
  simp

theorem V_ones (k q : Fin 512) : V m c main_v7 (ix2 k q) = (if k.val / 128 = q.val / 128 then 1 else 0 : EReal) := by
  unfold V
  after_reads_at
  refine Eq.trans (b := FloatOps.uitofp (F := Ideal) .bf16 (IntOp.cmpi .eq (head k.val) (head q.val))) rfl ?_
  rw [head_eq, head_eq]
  by_cases h : k.val / 128 = q.val / 128
  · rw [if_pos h, (WordCmp.cmpi_eq_ofNat_eq_one_iff (w := 32) (by omega) (by omega)).2 h]
    exact one_bit
  · rw [if_neg h, (WordCmp.cmpi_eq_ofNat_eq_zero_iff (w := 32) (by omega) (by omega)).2 h]
    exact zero_bit

/-! ## The grid's one point -/

theorem index_eq : ∀ t : Fin cfg0.N, win0_0.index t = ![0, 0] ∧ win0_1.index t = ![0, 0, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![0, 0] :=
  (by decide +kernel : ∀ t : Fin grid0.N, _)

theorem flush_eq : ∀ t : Fin cfg0.N, (cfg0.win 7).flush t = true ∧ (cfg0.win 8).flush t = true ∧ (cfg0.win 9).flush t = true
    ∧ (cfg0.win 10).flush t = true :=
  (by decide +kernel : ∀ t : Fin grid0.N, _)

/-- The grid's one point. -/
def pt : Fin cfg0.N := ⟨0, by show 0 < 1; omega⟩

theorem emb0 (j : Fin 512) (k : Fin 1536) : ((cfg0.win 0).blk pt).view.emb (ix2 j k) = ix2 j k :=
  idx_of_block (s := 512) (w := 1536) _ (ix2 j k) _ (fun d => (cfg0.win 0).rect_emb_val pt (ix2 j k) d (hk := rfl)) (index_eq pt).1 j k (first 512 j) (first 1536 k)
theorem emb2 (j : Fin 512) (k : Fin 128) : ((cfg0.win 2).blk pt).view.emb (ix2 j k) = ix2 j k :=
  idx_of_block (s := 512) (w := 128) _ (ix2 j k) _ (fun d => (cfg0.win 2).rect_emb_val pt (ix2 j k) d (hk := rfl)) (index_eq pt).2.2.1 j k (first 512 j) (first 128 k)
theorem emb3 (j : Fin 4) (k : Fin 1536) : ((cfg0.win 3).blk pt).view.emb (ix2 j k) = ix2 j k :=
  idx_of_block (s := 4) (w := 1536) _ (ix2 j k) _ (fun d => (cfg0.win 3).rect_emb_val pt (ix2 j k) d (hk := rfl)) (index_eq pt).2.2.2.1 j k (first 4 j) (first 1536 k)
theorem emb4 (j : Fin 1) (k : Fin 128) : ((cfg0.win 4).blk pt).view.emb (ix2 j k) = ix2 j k :=
  idx_of_block (s := 1) (w := 128) _ (ix2 j k) _ (fun d => (cfg0.win 4).rect_emb_val pt (ix2 j k) d (hk := rfl)) (index_eq pt).2.2.2.2.1 j k (first 1 j) (first 128 k)
theorem emb5 (j : Fin 1) (k : Fin 128) : ((cfg0.win 5).blk pt).view.emb (ix2 j k) = ix2 j k :=
  idx_of_block (s := 1) (w := 128) _ (ix2 j k) _ (fun d => (cfg0.win 5).rect_emb_val pt (ix2 j k) d (hk := rfl)) (index_eq pt).2.2.2.2.2.1 j k (first 1 j) (first 128 k)
theorem emb6 (j : Fin 512) (k : Fin 512) : ((cfg0.win 6).blk pt).view.emb (ix2 j k) = ix2 j k :=
  idx_of_block (s := 512) (w := 512) _ (ix2 j k) _ (fun d => (cfg0.win 6).rect_emb_val pt (ix2 j k) d (hk := rfl)) (index_eq pt).2.2.2.2.2.2.1 j k (first 512 j) (first 512 k)
theorem emb7 (j : Fin 512) (k : Fin 512) : ((cfg0.win 7).blk pt).view.emb (ix2 j k) = ix2 j k :=
  idx_of_block (s := 512) (w := 512) _ (ix2 j k) _ (fun d => (cfg0.win 7).rect_emb_val pt (ix2 j k) d (hk := rfl)) (index_eq pt).2.2.2.2.2.2.2.1 j k (first 512 j) (first 512 k)
theorem emb8 (j : Fin 512) (k : Fin 512) : ((cfg0.win 8).blk pt).view.emb (ix2 j k) = ix2 j k :=
  idx_of_block (s := 512) (w := 512) _ (ix2 j k) _ (fun d => (cfg0.win 8).rect_emb_val pt (ix2 j k) d (hk := rfl)) (index_eq pt).2.2.2.2.2.2.2.2.1 j k (first 512 j) (first 512 k)
theorem emb9 (j : Fin 512) (k : Fin 512) : ((cfg0.win 9).blk pt).view.emb (ix2 j k) = ix2 j k :=
  idx_of_block (s := 512) (w := 512) _ (ix2 j k) _ (fun d => (cfg0.win 9).rect_emb_val pt (ix2 j k) d (hk := rfl)) (index_eq pt).2.2.2.2.2.2.2.2.2.1 j k (first 512 j) (first 512 k)
theorem emb10 (j : Fin 512) (k : Fin 128) : ((cfg0.win 10).blk pt).view.emb (ix2 j k) = ix2 j k :=
  idx_of_block (s := 512) (w := 128) _ (ix2 j k) _ (fun d => (cfg0.win 10).rect_emb_val pt (ix2 j k) d (hk := rfl)) (index_eq pt).2.2.2.2.2.2.2.2.2.2 j k (first 512 j) (first 128 k)

theorem idx_of_block3 {s w : ℕ} (f y : (⟨3, ![1, s, w]⟩ : Shape).Idx) (ix : Fin 3 → ℕ)
    (h : ∀ d : Fin 3, (f d).val = ix d * (![1, s, w] : Fin 3 → ℕ) d + (y d).val) (hix : ix = ![0, 0, 0]) : f = y := by
  subst hix
  funext d
  match d with
  | ⟨0, _⟩ => exact Fin.ext ((h 0).trans (first 1 (y 0)))
  | ⟨1, _⟩ => exact Fin.ext ((h 1).trans (first s (y 1)))
  | ⟨2, _⟩ => exact Fin.ext ((h 2).trans (first w (y 2)))

theorem emb1 (j : Fin 384) (k : Fin 1536) : ((cfg0.win 1).blk pt).view.emb (ix3 0 j k) = ix3 0 j k :=
  idx_of_block3 (s := 384) (w := 1536) _ _ _ (fun d => (cfg0.win 1).rect_emb_val pt (ix3 0 j k) d (hk := rfl)) (index_eq pt).2.1

theorem array7 (n : Fin 512) (k : Fin 512) :
    (dats m 0 c).arrAt 7 cfg0.N (ix2 n k) = (dats m 0 c).flushed 7 pt (ix2 n k) := by
  have h := blocks7 m c pt (flush_eq pt).1
  generalize (dats m 0 c).arrAt 7 cfg0.N = a at h ⊢
  exact (congrArg a (emb7 n k).symm).trans (congrFun h (ix2 n k))

theorem array8 (n : Fin 512) (k : Fin 512) :
    (dats m 0 c).arrAt 8 cfg0.N (ix2 n k) = (dats m 0 c).flushed 8 pt (ix2 n k) := by
  have h := blocks8 m c pt (flush_eq pt).2.1
  generalize (dats m 0 c).arrAt 8 cfg0.N = a at h ⊢
  exact (congrArg a (emb8 n k).symm).trans (congrFun h (ix2 n k))

theorem array9 (n : Fin 512) (k : Fin 512) :
    (dats m 0 c).arrAt 9 cfg0.N (ix2 n k) = (dats m 0 c).flushed 9 pt (ix2 n k) := by
  have h := blocks9 m c pt (flush_eq pt).2.2.1
  generalize (dats m 0 c).arrAt 9 cfg0.N = a at h ⊢
  exact (congrArg a (emb9 n k).symm).trans (congrFun h (ix2 n k))

theorem array10 (n : Fin 512) (k : Fin 128) :
    (dats m 0 c).arrAt 10 cfg0.N (ix2 n k) = (dats m 0 c).flushed 10 pt (ix2 n k) := by
  have h := blocks10 m c pt (flush_eq pt).2.2.2
  generalize (dats m 0 c).arrAt 10 cfg0.N = a at h ⊢
  exact (congrArg a (emb10 n k).symm).trans (congrFun h (ix2 n k))

end Cert.Convolution
-- ==== Proof.ConvMath.lean ====
module

public import proofs.«01_k».proof.Proof.ConvArrays

@[expose] public section

set_option maxRecDepth 512

noncomputable section

/-! The convolution, the norms and the gates in plain terms of their arguments, and why the body's split sum of
squares is the plain one. -/

namespace Cert.Convolution

open Cert.Projection
open Idealize.ShloMosaic

section

variable (X : FVec Ideal ⟨2, ![512, 1536]⟩ .f32) (S : FVec Ideal ⟨4, ![1, 128, 3, 1536]⟩ .f32) (W : FVec Ideal ⟨3, ![1, 4, 1536]⟩ .f32)

/-- Row `r` of the carried rows followed by the batch's. -/
def rowsOf (r : ℕ) (hr : r < 896) (q : Fin 1536) : EReal :=
  if h : r < 384 then S (ix4 0 ⟨r % 128, by omega⟩ ⟨r / 128, by omega⟩ q) else X (ix2 ⟨r - 384, by omega⟩ q)

/-- The convolution. -/
def mixed (n : Fin 512) (q : Fin 1536) : EReal :=
  rowsOf X S n.val (by omega) q * W (ix3 0 0 q) + rowsOf X S (128 + n.val) (by omega) q * W (ix3 0 1 q)
    + rowsOf X S (256 + n.val) (by omega) q * W (ix3 0 2 q) + rowsOf X S (384 + n.val) (by omega) q * W (ix3 0 3 q)

/-- The activation, plainly. -/
def silu (u : EReal) : EReal := u * Ideal.div 1 (1 + Ideal.exp (-u))

/-- Element `q` over the length of its head. -/
def unit (a : Fin 512 → EReal) (q : Fin 512) : EReal :=
  a q * Ideal.rsqrt ((∑ j : Fin 128, a ⟨q.val / 128 * 128 + j.val, by omega⟩ * a ⟨q.val / 128 * 128 + j.val, by omega⟩)
    + Ideal.ofBits .f32 0x358637BD#32)

end

section

variable (ab : FVec Ideal ⟨2, ![512, 128]⟩ .f32) (al dt : FVec Ideal ⟨2, ![1, 4]⟩ .f32)

/-- The decay's logarithm, plainly. -/
def logDecay (al d : EReal) : EReal := -Ideal.exp al * (max d 0 + Ideal.log1p (Ideal.exp (-max d (-d))))

/-- The gates. -/
def gate (n : Fin 512) (q : Fin 128) : EReal :=
  if h : q.val < 4 then logDecay (al (ix2 0 ⟨q.val, h⟩)) (ab (ix2 n q) + dt (ix2 0 ⟨q.val, h⟩))
  else Ideal.div 1 (1 + Ideal.exp (-ab (ix2 n q)))

end

theorem one_word : Ideal.ofBits .f32 0x3F800000#32 = 1 := Ideal.ofBits_one_f32

theorem neg_eq (u : EReal) : 0 - u = -u := by rw [sub_eq_add_neg, zero_add]

theorem act_eq (u : EReal) : act u = silu u := by
  unfold act silu
  rw [one_word, neg_eq]

theorem decay_eq (ab al dt : EReal) : decay ab al dt = logDecay al (ab + dt) := by
  unfold decay logDecay
  rw [neg_eq, neg_eq]
  rfl

/-- The activation of a real is real. -/
theorem silu_real (u : ℝ) : ∃ r : ℝ, silu u = r := by
  have hpos : (1 + Real.exp (-u)) ≠ 0 := (add_pos one_pos (Real.exp_pos _)).ne'
  refine ⟨u * (1 * (1 / (1 + Real.exp (-u)))), ?_⟩
  have he : (1 : EReal) + Ideal.exp (-(u : EReal)) = ((1 + Real.exp (-u) : ℝ) : EReal) := by
    rw [← EReal.coe_neg, Ideal.exp_coe, EReal.coe_add, EReal.coe_one]
  unfold silu
  rw [he, Ideal.div_coe hpos, EReal.coe_mul, EReal.coe_mul, EReal.coe_one]

/-- On reals the low half is nothing, and the ones pick a head out. -/
theorem halves_eq (a : Fin 512 → EReal) (ha : ∀ k, ∃ r : ℝ, a k = r) (w : Fin 512 → EReal) (q : Fin 512)
    (hw : ∀ k, w k = if k.val / 128 = q.val / 128 then 1 else 0) :
    halves a w = ∑ j : Fin 128, a ⟨q.val / 128 * 128 + j.val, by omega⟩ * a ⟨q.val / 128 * 128 + j.val, by omega⟩ := by
  have hlow : ∀ k, (a k * a k - a k * a k) * w k = 0 := by
    intro k
    obtain ⟨r, hr⟩ := ha k
    rw [hr, ← EReal.coe_mul, ← EReal.coe_sub, sub_self, EReal.coe_zero, zero_mul]
  unfold halves
  rw [Finset.sum_congr rfl (fun k _ => hlow k), Finset.sum_const_zero, add_zero]
  have hhigh : ∀ k, a k * a k * w k = if k.val / 128 = q.val / 128 then a k * a k else 0 := by
    intro k
    rw [hw, mul_ite, mul_one, mul_zero]
  rw [Finset.sum_congr rfl (fun k _ => hhigh k), ← Finset.sum_filter]
  symm
  refine Finset.sum_bij (fun j _ => ⟨q.val / 128 * 128 + j.val, by omega⟩) ?_ ?_ ?_ ?_
  · intro j _
    exact Finset.mem_filter.2 ⟨Finset.mem_univ _, by show (q.val / 128 * 128 + j.val) / 128 = q.val / 128; omega⟩
  · intro i _ j _ h
    have h' := congrArg Fin.val h
    exact Fin.ext (by dsimp only at h'; omega)
  · intro k hk
    have hk' := (Finset.mem_filter.1 hk).2
    exact ⟨⟨k.val % 128, by omega⟩, Finset.mem_univ _, Fin.ext (by show q.val / 128 * 128 + k.val % 128 = k.val; omega)⟩
  · intro j _
    rfl

end Cert.Convolution

end
-- ==== Proof.ConvFinite.lean ====
module

public import proofs.«01_k».proof.Proof.ConvMath
public import proofs.«01_k».proof.Pre_finite
public import Idealize.ShloMosaic.Lib.ReduceAll
public import Idealize.ShloMosaic.Lib.Decide

@[expose] public section

set_option maxRecDepth 512

noncomputable section

/-! What the precondition says, and what follows: every activation is real. -/

namespace Cert.Pre_finite

open Idealize.ShloMosaic

instance facts : Cert.Pre_finite.Facts where
  bcast_S_S512x1536 := by decide
  reducesTo_S512x1536_S_d0_1 := by decide
  h_S_ := by decide
  bcast_S_S1x128x3x1536 := by decide
  reducesTo_S1x128x3x1536_S_d0_1_2_3 := by decide
  bcast_S_S1x4x1536 := by decide
  reducesTo_S1x4x1536_S_d0_1_2 := by decide

instance : Subsingleton S_.Idx := ⟨fun f g => funext fun d => d.elim0⟩

/-- An extended real whose absolute value is below the infinity's word is real. -/
theorem real_of_bit (x : EReal) (h : Ideal.cmp .olt (max x (-x)) (Ideal.ofBits .f32 0x7F800000#32) = 1#1) : ∃ r : ℝ, x = r := by
  have htop : Ideal.ofBits .f32 0x7F800000#32 = ⊤ := by simp [Ideal.ofBits, Ideal.ieee]
  rw [htop] at h
  induction x with
  | bot => simp [Ideal.cmp] at h
  | top => simp [Ideal.cmp] at h
  | coe r => exact ⟨r, rfl⟩

/-- The precondition makes the columns, the carried rows and the weights real. -/
theorem reals (a0 : FVec Ideal S512x1536 .f32) (a1 : FVec Ideal S512x128 .f32) (a2 : FVec Ideal S1x128x3x1536 .f32)
    (a3 : FVec Ideal S1x4x1536 .f32) (a4 a5 : FVec Ideal S1x4 .f32) (h : fn a0 a1 a2 a3 a4 a5 = fun _ => 1#1) :
    (∀ i, ∃ r : ℝ, a0 i = r) ∧ (∀ i, ∃ r : ℝ, a2 i = r) ∧ ∀ i, ∃ r : ℝ, a3 i = r := by
  have h' := congrFun h (fun d => d.elim0)
  obtain ⟨h02, h3⟩ := IntOp.andi_eq_one.1 h'
  obtain ⟨h0, h2⟩ := IntOp.andi_eq_one.1 h02
  exact ⟨fun i => real_of_bit _ (Host.reduce_andi_all _ _ _ _ _ h0 i), fun i => real_of_bit _ (Host.reduce_andi_all _ _ _ _ _ h2 i),
    fun i => real_of_bit _ (Host.reduce_andi_all _ _ _ _ _ h3 i)⟩

end Cert.Pre_finite

namespace Cert.Convolution

open Idealize.ShloMosaic

variable (X : FVec Ideal ⟨2, ![512, 1536]⟩ .f32) (S : FVec Ideal ⟨4, ![1, 128, 3, 1536]⟩ .f32) (W : FVec Ideal ⟨3, ![1, 4, 1536]⟩ .f32)
  (hX : ∀ i, ∃ r : ℝ, X i = r) (hS : ∀ i, ∃ r : ℝ, S i = r) (hW : ∀ i, ∃ r : ℝ, W i = r)

include hX hS in
theorem rowsOf_real (r : ℕ) (hr : r < 896) (q : Fin 1536) : ∃ y : ℝ, rowsOf X S r hr q = y := by
  unfold rowsOf
  by_cases h : r < 384
  · rw [dif_pos h]
    exact hS _
  · rw [dif_neg h]
    exact hX _

include hX hS hW in
theorem mixed_real (n : Fin 512) (q : Fin 1536) : ∃ y : ℝ, mixed X S W n q = y := by
  obtain ⟨r0, h0⟩ := rowsOf_real X S hX hS n.val (by omega) q
  obtain ⟨r1, h1⟩ := rowsOf_real X S hX hS (128 + n.val) (by omega) q
  obtain ⟨r2, h2⟩ := rowsOf_real X S hX hS (256 + n.val) (by omega) q
  obtain ⟨r3, h3⟩ := rowsOf_real X S hX hS (384 + n.val) (by omega) q
  obtain ⟨w0, k0⟩ := hW (ix3 0 0 q)
  obtain ⟨w1, k1⟩ := hW (ix3 0 1 q)
  obtain ⟨w2, k2⟩ := hW (ix3 0 2 q)
  obtain ⟨w3, k3⟩ := hW (ix3 0 3 q)
  refine ⟨r0 * w0 + r1 * w1 + r2 * w2 + r3 * w3, ?_⟩
  unfold mixed
  rw [h0, h1, h2, h3, k0, k1, k2, k3]
  simp only [EReal.coe_add, EReal.coe_mul]

include hX hS hW in
theorem silu_mixed_real (n : Fin 512) (q : Fin 1536) : ∃ y : ℝ, silu (mixed X S W n q) = y := by
  obtain ⟨y, h⟩ := mixed_real X S W hX hS hW n q
  rw [h]
  exact silu_real y

end Cert.Convolution

end
-- ==== Proof.ConvFinal.lean ====
module

public import proofs.«01_k».proof.Proof.ConvFinite

@[expose] public section

set_option maxRecDepth 512

noncomputable section

/-! The arrays that `_gdn_prep` leaves, in plain terms of the arguments. -/

namespace Cert.Convolution

open Cert.ConvIdeal Cert.ConvIdeal.Gen Cert.ConvIdeal.Value Cert.Projection
open Idealize.ShloMosaic
open Idealize.ShloMosaic.TcCoe
open Idealize.SL.Sem

section

variable (x0 : Vec Ideal S512x1536 .f32) (x1 : Vec Ideal S1x384x1536 .f32) (x3 : Vec Ideal S4x1536 .f32)
  (X : FVec Ideal ⟨2, ![512, 1536]⟩ .f32) (S : FVec Ideal ⟨4, ![1, 128, 3, 1536]⟩ .f32) (W : FVec Ideal ⟨3, ![1, 4, 1536]⟩ .f32)
  (h0 : ∀ n q, x0 (ix2 n q) = X (ix2 n q))
  (h1 : ∀ (n : Fin 384) q, x1 (ix3 0 n q) = S (ix4 0 ⟨n.val % 128, by omega⟩ ⟨n.val / 128, by omega⟩ q))
  (h3 : ∀ j q, x3 (ix2 j q) = W (ix3 0 j q))

include h0 h1 in
theorem padded_eq (r r' : ℕ) (e : r = r') (hr : r < 896) (q : Fin 1536) : padded x0 x1 r hr q = rowsOf X S r' (e ▸ hr) q := by
  subst e
  unfold padded rowsOf
  by_cases h : r < 384
  · rw [dif_pos h, dif_pos h, h1]
  · rw [dif_neg h, dif_neg h, h0]

include h0 h1 h3 in
theorem taps_eq (n : Fin 512) (q : Fin 1536) : taps x0 x1 x3 n q = mixed X S W n q := by
  have hlast : x0 (ix2 n q) = rowsOf X S (384 + n.val) (by omega) q := by
    unfold rowsOf
    rw [dif_neg (by omega), h0]
    exact congrArg X (congrArg (fun k => ix2 k q) (Fin.ext (by show n.val = 384 + n.val - 384; omega)))
  unfold taps mixed
  rw [h3, h3, h3, h3, hlast, padded_eq x0 x1 X S h0 h1 _ _ (Nat.add_comm n.val 256), padded_eq x0 x1 X S h0 h1 _ _ (Nat.add_comm n.val 128),
    padded_eq x0 x1 X S h0 h1 _ _ (rfl : n.val = n.val)]
  generalize rowsOf X S (384 + n.val) _ q * W (ix3 0 3 q) = a3
  generalize rowsOf X S (256 + n.val) _ q * W (ix3 0 2 q) = a2
  generalize rowsOf X S (128 + n.val) _ q * W (ix3 0 1 q) = a1
  generalize rowsOf X S n.val _ q * W (ix3 0 0 q) = a0
  rw [add_comm (a3 + a2 + a1) a0, add_comm (a3 + a2) a1, add_comm a3 a2, ← add_assoc, ← add_assoc]

end

variable (m : (ℓ : Loc nD τ sig) → Buf (Elt Ideal) ℓ) (c : Dev nD)

/-- The arguments. -/
abbrev argX : FVec Ideal S512x1536 .f32 := m ((c : Thread nD τ).loc main_arg0)
abbrev argAb : FVec Ideal S512x128 .f32 := m ((c : Thread nD τ).loc main_arg1)
abbrev argS : FVec Ideal S1x128x3x1536 .f32 := m ((c : Thread nD τ).loc main_arg2)
abbrev argW : FVec Ideal S1x4x1536 .f32 := m ((c : Thread nD τ).loc main_arg3)
abbrev argAl : FVec Ideal S1x4 .f32 := m ((c : Thread nD τ).loc main_arg4)
abbrev argDt : FVec Ideal S1x4 .f32 := m ((c : Thread nD τ).loc main_arg5)

/-! The blocks at the grid's one point. -/

theorem block0 (n : Fin 512) (q : Fin 1536) : iblk m c 0 pt (ix2 n q) = argX m c (ix2 n q) := by
  unfold iblk
  exact (congrArg (V m c main_arg0) (emb0 n q)).trans (V_rows m c n q)

theorem block1 (n : Fin 384) (q : Fin 1536) :
    iblk m c 1 pt (ix3 0 n q) = argS m c (ix4 0 ⟨n.val % 128, by omega⟩ ⟨n.val / 128, by omega⟩ q) := by
  unfold iblk
  exact (congrArg (V m c main_v17) (emb1 n q)).trans (V_carried m c n q)

theorem block2 (n : Fin 512) (q : Fin 128) : iblk m c 2 pt (ix2 n q) = argAb m c (ix2 n q) := by
  unfold iblk
  exact (congrArg (V m c main_arg1) (emb2 n q)).trans (V_ab m c n q)

theorem block3 (j : Fin 4) (q : Fin 1536) : iblk m c 3 pt (ix2 j q) = argW m c (ix3 0 j q) := by
  unfold iblk
  exact (congrArg (V m c main_v8) (emb3 j q)).trans (V_weights m c j q)

theorem block4 (q : Fin 128) (h : q.val < 4) : iblk m c 4 pt (ix2 0 q) = argAl m c (ix2 0 ⟨q.val, h⟩) := by
  unfold iblk
  exact (congrArg (V m c main_v11) (emb4 0 q)).trans (V_decay m c q h)

theorem block5 (q : Fin 128) (h : q.val < 4) : iblk m c 5 pt (ix2 0 q) = argDt m c (ix2 0 ⟨q.val, h⟩) := by
  unfold iblk
  exact (congrArg (V m c main_v14) (emb5 0 q)).trans (V_bias m c q h)

theorem block6 (k q : Fin 512) : iblk m c 6 pt (ix2 k q) = (if k.val / 128 = q.val / 128 then 1 else 0 : EReal) := by
  unfold iblk
  exact (congrArg (V m c main_v7) (emb6 k q)).trans (V_ones m c k q)

theorem taps_final (n : Fin 512) (q : Fin 1536) :
    taps (iblk m c 0 pt) (iblk m c 1 pt) (iblk m c 3 pt) n q = mixed (argX m c) (argS m c) (argW m c) n q :=
  taps_eq _ _ _ _ _ _ (block0 m c) (block1 m c) (block3 m c) n q

theorem values_final (n : Fin 512) (q : Fin 512) :
    (dats m 0 c).arrAt 9 cfg0.N (ix2 n q) = silu (mixed (argX m c) (argS m c) (argW m c) n ⟨1024 + q.val, by omega⟩) :=
  (array9 m c n q).trans ((congrFun (flushed9_A m c pt) (ix2 n q)).trans ((out9_at _ _ _ _ _ _ _ _ _ _ _ _ _ _ _ _ _ _ _ _ _ _ _ _ _ _ _ _ _ _ _ _ _ _ _ n q).trans
    ((act_eq _).trans (congrArg silu (taps_final m c n _)))))

theorem gates_final (n : Fin 512) (q : Fin 128) :
    (dats m 0 c).arrAt 10 cfg0.N (ix2 n q) = gate (argAb m c) (argAl m c) (argDt m c) n q := by
  refine (array10 m c n q).trans ((congrFun (flushed10_A m c pt) (ix2 n q)).trans ((out10_at _ _ _ _ _ _ _ _ _ _ _ _ _ _ _ _ _ _ _ _ _ _ _ _ _ _ _ _ _ _ _ _ _ _ _ n q).trans ?_))
  unfold gate
  by_cases h : q.val < 4
  · rw [if_pos h, dif_pos h, block2, block4 m c q h, block5 m c q h, decay_eq]
  · rw [if_neg h, dif_neg h, block2, one_word, neg_eq]

section

variable (hX : ∀ i, ∃ r : ℝ, argX m c i = r) (hS : ∀ i, ∃ r : ℝ, argS m c i = r) (hW : ∀ i, ∃ r : ℝ, argW m c i = r)

include hX hS hW in
/-- A head's element over the head's length: the body's form of it and the plain one. -/
theorem unit_eq (b : Fin 512 → Fin 1536) (n q : Fin 512) :
    act (taps (iblk m c 0 pt) (iblk m c 1 pt) (iblk m c 3 pt) n (b q))
        * Ideal.rsqrt (halves (fun k => act (taps (iblk m c 0 pt) (iblk m c 1 pt) (iblk m c 3 pt) n (b k))) (fun k => iblk m c 6 pt (ix2 k q))
          + Ideal.ofBits .f32 0x358637BD#32)
      = unit (fun k => silu (mixed (argX m c) (argS m c) (argW m c) n (b k))) q := by
  have e : ∀ k, act (taps (iblk m c 0 pt) (iblk m c 1 pt) (iblk m c 3 pt) n (b k)) = silu (mixed (argX m c) (argS m c) (argW m c) n (b k)) :=
    fun k => (act_eq _).trans (congrArg silu (taps_final m c n _))
  rw [funext e, e q, halves_eq _ (fun k => silu_mixed_real _ _ _ hX hS hW n (b k)) _ q (fun k => block6 m c k q)]
  rfl

include hX hS hW in
theorem queries_final (n : Fin 512) (q : Fin 512) :
    (dats m 0 c).arrAt 7 cfg0.N (ix2 n q)
      = unit (fun k => silu (mixed (argX m c) (argS m c) (argW m c) n ⟨k.val, by omega⟩)) q * Ideal.ofBits .f32 0x3DB504F3#32 :=
  (array7 m c n q).trans ((congrFun (flushed7_A m c pt) (ix2 n q)).trans ((out7_at _ _ _ _ _ _ _ _ _ _ _ _ _ _ _ _ _ _ _ _ _ _ _ _ _ _ _ _ _ _ _ _ _ _ _ n q).trans
    (congrArg (· * Ideal.ofBits .f32 0x3DB504F3#32) (unit_eq m c hX hS hW (fun k => ⟨k.val, by omega⟩) n q))))

include hX hS hW in
theorem keys_final (n : Fin 512) (q : Fin 512) :
    (dats m 0 c).arrAt 8 cfg0.N (ix2 n q)
      = unit (fun k => silu (mixed (argX m c) (argS m c) (argW m c) n ⟨512 + k.val, by omega⟩)) q :=
  (array8 m c n q).trans ((congrFun (flushed8_A m c pt) (ix2 n q)).trans ((out8_at _ _ _ _ _ _ _ _ _ _ _ _ _ _ _ _ _ _ _ _ _ _ _ _ _ _ _ _ _ _ _ _ _ _ _ n q).trans
    (unit_eq m c hX hS hW (fun k => ⟨512 + k.val, by omega⟩) n q)))

end

end Cert.Convolution

end
-- ==== Proof.ConvReference.lean ====
module

public import proofs.«01_k».proof.Proof.ConvMath
public import proofs.«01_k».proof.Proof.Gen.ConvReferenceIdeal.Run

@[expose] public section

set_option maxRecDepth 512

noncomputable section

/-! The reference of the convolution, the norms and the gates, element by element. -/

namespace Cert.Convolution.Reference

open Cert.ConvReferenceIdeal Cert.ConvReferenceIdeal.Gen Cert.ConvReferenceIdeal.Value Cert.Projection
open Idealize.ShloMosaic
open Idealize.ShloMosaic.TcCoe Idealize.ShloMosaic.Tactic

variable (X : FVec Ideal S512x1536 .f32) (S : FVec Ideal S1x128x3x1536 .f32) (W : FVec Ideal S1x4x1536 .f32)
  (ab : FVec Ideal S512x128 .f32) (al dt : FVec Ideal S1x4 .f32)

/-- The carried rows, step by step, and the batch's own after them. -/
def rows : FVec Ideal S896x1536 .f32 :=
  concatenate S896x1536 0 [⟨S384x1536, (shapeCast _ (transpose S3x128x1536 [1, 0, 2] (shapeCast _ S shapeCasts_S1x128x3x1536_S128x3x1536) transposes_S128x3x1536_S3x128x1536_1_0_2) shapeCasts_S3x128x1536_S384x1536)⟩, ⟨S512x1536, X⟩] concatenates_S384x1536_S512x1536_S896x1536_d0

theorem rows_at (r : ℕ) (hr : r < 896) (q : Fin 1536) : rows X S (ix2 ⟨r, hr⟩ q) = rowsOf X S r hr q := by
  unfold rows rowsOf
  pointwise []

/-- The convolution. -/
def convolved : FVec Ideal S512x1536 .f32 :=
  addf (addf (addf (addf (broadcastInDim S512x1536 ![] bcast_S_S512x1536 (constant S_ .f32 0x00000000#32)) (mulf (extractStridedSlice S512x1536 ![0, 0] (rows X S) slices_S896x1536_S512x1536_0_0) (broadcastInDim S512x1536 ![0, 1] bcast_S1x1536_S512x1536_0_1 (broadcastInDim S1x1536 ![1] bcast_S1536_S1x1536_1 (shapeCast _ (extractStridedSlice S1x1536 ![0, 0] (shapeCast _ W shapeCasts_S1x4x1536_S4x1536) slices_S4x1536_S1x1536_0_0) shapeCasts_S1x1536_S1536))))) (mulf (extractStridedSlice S512x1536 ![128, 0] (rows X S) slices_S896x1536_S512x1536_128_0) (broadcastInDim S512x1536 ![0, 1] bcast_S1x1536_S512x1536_0_1 (broadcastInDim S1x1536 ![1] bcast_S1536_S1x1536_1 (shapeCast _ (extractStridedSlice S1x1536 ![1, 0] (shapeCast _ W shapeCasts_S1x4x1536_S4x1536) slices_S4x1536_S1x1536_1_0) shapeCasts_S1x1536_S1536))))) (mulf (extractStridedSlice S512x1536 ![256, 0] (rows X S) slices_S896x1536_S512x1536_256_0) (broadcastInDim S512x1536 ![0, 1] bcast_S1x1536_S512x1536_0_1 (broadcastInDim S1x1536 ![1] bcast_S1536_S1x1536_1 (shapeCast _ (extractStridedSlice S1x1536 ![2, 0] (shapeCast _ W shapeCasts_S1x4x1536_S4x1536) slices_S4x1536_S1x1536_2_0) shapeCasts_S1x1536_S1536))))) (mulf (extractStridedSlice S512x1536 ![384, 0] (rows X S) slices_S896x1536_S512x1536_384_0) (broadcastInDim S512x1536 ![0, 1] bcast_S1x1536_S512x1536_0_1 (broadcastInDim S1x1536 ![1] bcast_S1536_S1x1536_1 (shapeCast _ (extractStridedSlice S1x1536 ![3, 0] (shapeCast _ W shapeCasts_S1x4x1536_S4x1536) slices_S4x1536_S1x1536_3_0) shapeCasts_S1x1536_S1536))))

theorem convolved_at (n : Fin 512) (q : Fin 1536) : convolved X S W (ix2 n q) = mixed X S W n q := by
  unfold convolved mixed
  pointwise [rows_at]

/-- The convolution after its activation. -/
def activated : FVec Ideal S512x1536 .f32 :=
  mulf (convolved X S W) (Host.divf (broadcastInDim S512x1536 ![] bcast_S_S512x1536 (constant S_ .f32 0x3F800000#32)) (addf (broadcastInDim S512x1536 ![] bcast_S_S512x1536 (constant S_ .f32 0x3F800000#32)) (Host.exp (Host.negf (convolved X S W)))))

theorem activated_at (n : Fin 512) (q : Fin 1536) : activated X S W (ix2 n q) = silu (mixed X S W n q) := by
  unfold activated silu
  pointwise [convolved_at]

/-- The queries and the keys, head by head. -/
def queryHeads : FVec Ideal S512x4x128 .f32 :=
  shapeCast _ (extractStridedSlice S512x512 ![0, 0] (activated X S W) slices_S512x1536_S512x512_0_0) shapeCasts_S512x512_S512x4x128
def keyHeads : FVec Ideal S512x4x128 .f32 :=
  shapeCast _ (extractStridedSlice S512x512 ![0, 512] (activated X S W) slices_S512x1536_S512x512_0_512) shapeCasts_S512x512_S512x4x128

/-- The results. -/
def queries : FVec Ideal S512x512 .f32 :=
  shapeCast _ (mulf (mulf (queryHeads X S W) (broadcastInDim S512x4x128 ![0, 1, 2] bcast_S512x4x1_S512x4x128_0_1_2 (Host.rsqrt (addf (broadcastInDim S512x4x1 ![0, 1] bcast_S512x4_S512x4x1_0_1 (Host.reduceAdd (mulf (queryHeads X S W) (queryHeads X S W)) (constant S_ .f32 0x00000000#32) reducesTo_S512x4x128_S512x4_d2 h_S_)) (broadcastInDim S512x4x1 ![] bcast_S_S512x4x1 (constant S_ .f32 0x358637BD#32)))))) (broadcastInDim S512x4x128 ![] bcast_S_S512x4x128 (constant S_ .f32 0x3DB504F3#32))) shapeCasts_S512x4x128_S512x512
def keys : FVec Ideal S512x512 .f32 :=
  shapeCast _ (mulf (keyHeads X S W) (broadcastInDim S512x4x128 ![0, 1, 2] bcast_S512x4x1_S512x4x128_0_1_2 (Host.rsqrt (addf (broadcastInDim S512x4x1 ![0, 1] bcast_S512x4_S512x4x1_0_1 (Host.reduceAdd (mulf (keyHeads X S W) (keyHeads X S W)) (constant S_ .f32 0x00000000#32) reducesTo_S512x4x128_S512x4_d2 h_S_)) (broadcastInDim S512x4x1 ![] bcast_S_S512x4x1 (constant S_ .f32 0x358637BD#32)))))) shapeCasts_S512x4x128_S512x512
def values : FVec Ideal S512x512 .f32 :=
  extractStridedSlice S512x512 ![0, 1024] (activated X S W) slices_S512x1536_S512x512_0_1024

theorem queries_at (n : Fin 512) (q : Fin 512) :
    queries X S W (ix2 n q) = unit (fun k => silu (mixed X S W n ⟨k.val, by omega⟩)) q * Ideal.ofBits .f32 0x3DB504F3#32 := by
  unfold queries queryHeads unit
  pointwise [activated_at]

theorem keys_at (n : Fin 512) (q : Fin 512) :
    keys X S W (ix2 n q) = unit (fun k => silu (mixed X S W n ⟨512 + k.val, by omega⟩)) q := by
  unfold keys keyHeads unit
  pointwise [activated_at]

theorem values_at (n : Fin 512) (q : Fin 512) :
    values X S W (ix2 n q) = silu (mixed X S W n ⟨1024 + q.val, by omega⟩) := by
  unfold values
  pointwise [activated_at]

/-- The decay's argument. -/
def biased : FVec Ideal S512x4 .f32 :=
  addf (extractStridedSlice S512x4 ![0, 0] ab slices_S512x128_S512x4_0_0) (broadcastInDim S512x4 ![0, 1] bcast_S1x4_S512x4_0_1 (broadcastInDim S1x4 ![1] bcast_S4_S1x4_1 (shapeCast _ dt shapeCasts_S1x4_S4)))

/-- The gates. -/
def gates : FVec Ideal S512x128 .f32 :=
  concatenate S512x128 1 [⟨S512x4, (mulf (broadcastInDim S512x4 ![0, 1] bcast_S1x4_S512x4_0_1 (broadcastInDim S1x4 ![1] bcast_S4_S1x4_1 (Host.negf (Host.exp (shapeCast _ al shapeCasts_S1x4_S4))))) (select (cmpf .une (subf (biased ab dt) (broadcastInDim S512x4 ![] bcast_S_S512x4 (constant S_ .f32 0x00000000#32))) (subf (biased ab dt) (broadcastInDim S512x4 ![] bcast_S_S512x4 (constant S_ .f32 0x00000000#32)))) (addf (biased ab dt) (broadcastInDim S512x4 ![] bcast_S_S512x4 (constant S_ .f32 0x00000000#32))) (addf (maximumf (biased ab dt) (broadcastInDim S512x4 ![] bcast_S_S512x4 (constant S_ .f32 0x00000000#32))) (Host.log1p (Host.exp (Host.negf (Host.absf (subf (biased ab dt) (broadcastInDim S512x4 ![] bcast_S_S512x4 (constant S_ .f32 0x00000000#32))))))))))⟩, ⟨S512x124, (Host.divf (broadcastInDim S512x124 ![] bcast_S_S512x124 (constant S_ .f32 0x3F800000#32)) (addf (broadcastInDim S512x124 ![] bcast_S_S512x124 (constant S_ .f32 0x3F800000#32)) (Host.exp (Host.negf (extractStridedSlice S512x124 ![0, 4] ab slices_S512x128_S512x124_0_4)))))⟩] concatenates_S512x4_S512x124_S512x128_d1

theorem biased_at (n : Fin 512) (q : Fin 4) : biased ab dt (ix2 n q) = ab (ix2 n ⟨q.val, by omega⟩) + dt (ix2 0 q) := by
  unfold biased
  pointwise []

theorem gates_at (n : Fin 512) (q : Fin 128) :
    gates ab al dt (ix2 n q) = gate ab al dt n q := by
  unfold gates gate logDecay
  pointwise [biased_at]
  by_cases h : q.val < 4
  · rw [dif_pos h, dif_pos h, if_neg (fun e => e rfl)]
    rfl
  · rw [dif_neg h, dif_neg h, show (⟨4 + (q.val - 4), by omega⟩ : Fin 128) = q from Fin.ext (by show 4 + (q.val - 4) = q.val; omega)]

end Cert.Convolution.Reference

end
-- ==== Proof.ConvEqual.lean ====
module

public import proofs.«01_k».proof.Defs
public import proofs.«01_k».proof.Proof.ConvFinal
public import proofs.«01_k».proof.Proof.ConvReference

@[expose] public section

set_option maxRecDepth 512

noncomputable section

/-! The convolution, the norms and the gates: from equal real arguments the kernel and its reference give equal results. -/

namespace Cert.Convolution

open Cert.ConvIdeal Cert.ConvIdeal.Gen Cert.Projection
open Idealize.ShloMosaic
open Idealize.ShloMosaic.TcCoe
open Idealize.SL.Sem

/-- The value claim. -/
theorem algebraic : Cert.algebraic_ConvIdeal_ConvReferenceIdeal_pre_finite := fun m g m' g' hp ha => by
  refine ⟨fun c => (dats m 0 c).arrAt 7 cfg0.N, fun c => (dats m 0 c).arrAt 8 cfg0.N, fun c => (dats m 0 c).arrAt 9 cfg0.N,
    fun c => (dats m 0 c).arrAt 10 cfg0.N, Cert.ConvIdeal.Value.run_blocks (F := Ideal) m g, ?_⟩
  refine (θ_run Cert.ConvReferenceIdeal.defs _ _).mono (fun r h c => ?_) (Cert.ConvReferenceIdeal.Value.run (F := Ideal) m' g')
  obtain ⟨hX, hS, hW⟩ := Cert.Pre_finite.reals _ _ _ _ _ _ (hp c)
  have hc := h c
  unfold Cert.ConvReferenceIdeal.Value.res_main_v77 Cert.ConvReferenceIdeal.Value.res_main_v78 Cert.ConvReferenceIdeal.Value.res_main_v79 at hc
  rw [(ha c).1, (ha c).2.1, (ha c).2.2.1, (ha c).2.2.2.1, (ha c).2.2.2.2.1, (ha c).2.2.2.2.2] at hc
  obtain ⟨h7, h8, h9, h10, k0, k1, k2, k3, k4, k5⟩ := hc
  exact ⟨h7.trans (ext2 _ _ fun n q => (Reference.queries_at (argX m c) (argS m c) (argW m c) n q).trans (queries_final m c hX hS hW n q).symm),
    h8.trans (ext2 _ _ fun n q => (Reference.keys_at (argX m c) (argS m c) (argW m c) n q).trans (keys_final m c hX hS hW n q).symm),
    h9.trans (ext2 _ _ fun n q => (Reference.values_at (argX m c) (argS m c) (argW m c) n q).trans (values_final m c n q).symm),
    h10.trans (ext2 _ _ fun n q => (Reference.gates_at (argAb m c) (argAl m c) (argDt m c) n q).trans (gates_final m c n q).symm),
    k0.trans (ha c).1.symm, k1.trans (ha c).2.1.symm, k2.trans (ha c).2.2.1.symm, k3.trans (ha c).2.2.2.1.symm,
    k4.trans (ha c).2.2.2.2.1.symm, k5.trans (ha c).2.2.2.2.2.symm⟩

end Cert.Convolution

end
-- ==== Proof.ShiftMath.lean ====
module

public import proofs.«01_k».proof.Proof.ConvFinite

@[expose] public section

set_option maxRecDepth 512

noncomputable section

/-! The token shift, its gates and its keys in plain terms of one row, and why the body's split products are the plain
ones on reals. -/

namespace Cert.Shifting

open Cert.Convolution Cert.Projection
open Idealize.ShloMosaic

/-! ## One row, plainly -/

def softplus (u : EReal) : EReal := max u 0 + Ideal.log1p (Ideal.exp (-max u (-u)))

/-- The decay of a row's element whose gate reads `u`. -/
def decayOf (u : EReal) : EReal := Ideal.exp (-Ideal.exp (-softplus (-u) - Ideal.ofBits .f32 0x3F000000#32))

def sigma (u : EReal) : EReal := Ideal.div 1 (1 + Ideal.exp (-u))

/-- Element `q` over the length of its head of 64. -/
def unit64 (a : Fin 512 → EReal) (q : Fin 512) : EReal :=
  a q * Ideal.rsqrt ((∑ j : Fin 64, a ⟨q.val / 64 * 64 + j.val, by omega⟩ * a ⟨q.val / 64 * 64 + j.val, by omega⟩)
    + Ideal.ofBits .f32 0x358637BD#32)

section

variable (z : Fin 1792 → EReal) (w0 a0 kk ka : Fin 512 → EReal) (w2 a2 : Fin 64 → Fin 512 → EReal) (g2 : Fin 128 → Fin 512 → EReal)

def decays (q : Fin 512) : EReal := decayOf (w0 q + ∑ k : Fin 64, Ideal.tanh (z ⟨1536 + k.val, by omega⟩) * w2 k q)

def rates (q : Fin 512) : EReal := sigma (a0 q + ∑ k : Fin 64, z ⟨1600 + k.val, by omega⟩ * a2 k q)

def gates (q : Fin 512) : EReal := ∑ k : Fin 128, sigma (z ⟨1664 + k.val, by omega⟩) * g2 k q

def scaled (q : Fin 512) : EReal := z ⟨512 + q.val, by omega⟩ * kk q

/-- The two halves of a row, side by side. -/
def paired (a b : Fin 512 → EReal) (q : Fin 1024) : EReal :=
  if h : q.val < 512 then a ⟨q.val, h⟩ else b ⟨q.val - 512, by omega⟩

def rowWa (q : Fin 1024) : EReal := paired (decays z w0 w2) (fun q => -unit64 (scaled z kk) q) q

def rowBk (q : Fin 1024) : EReal :=
  paired (fun q => unit64 (scaled z kk) q * rates z a0 a2 q)
    (fun q => z ⟨512 + q.val, by omega⟩ * (1 + (rates z a0 a2 q - 1) * ka q)) q

def rowRr (q : Fin 1024) : EReal := paired (fun q => z ⟨q.val, by omega⟩) (fun q => z ⟨q.val, by omega⟩) q

end

/-- The row before row `n`: a carried one for the first 128, the batch's own for the others. -/
def priorOf (X : FVec Ideal ⟨2, ![512, 1792]⟩ .f32) (S : FVec Ideal ⟨2, ![128, 1792]⟩ .f32) (n : Fin 512) (q : Fin 1792) : EReal :=
  if h : n.val < 128 then S (ix2 ⟨n.val, h⟩ q) else X (ix2 ⟨n.val - 128, by omega⟩ q)

/-- A row moved towards the row before it. -/
def shifted (X : FVec Ideal ⟨2, ![512, 1792]⟩ .f32) (S : FVec Ideal ⟨2, ![128, 1792]⟩ .f32) (M : FVec Ideal ⟨2, ![1, 1792]⟩ .f32)
    (n : Fin 512) (q : Fin 1792) : EReal :=
  X (ix2 n q) + (priorOf X S n q - X (ix2 n q)) * M (ix2 0 q)

/-! ## The body's forms -/

/-- The body's product: the high halves', and the two with one low half. -/
def tripled {K : ℕ} (a w : Fin K → EReal) : EReal := (∑ k, a k * w k) + (∑ k, a k * (w k - w k)) + ∑ k, (a k - a k) * w k

theorem sub_real {x : EReal} (h : ∃ r : ℝ, x = r) : x - x = 0 := by
  obtain ⟨r, rfl⟩ := h
  rw [← EReal.coe_sub, sub_self, EReal.coe_zero]

theorem tripled_eq {K : ℕ} (a w : Fin K → EReal) (ha : ∀ k, ∃ r : ℝ, a k = r) (hw : ∀ k, ∃ r : ℝ, w k = r) :
    tripled a w = ∑ k, a k * w k := by
  unfold tripled
  rw [Finset.sum_congr rfl (fun k _ => by rw [sub_real (hw k), mul_zero] : ∀ k ∈ Finset.univ, a k * (w k - w k) = 0),
    Finset.sum_congr rfl (fun k _ => by rw [sub_real (ha k), zero_mul] : ∀ k ∈ Finset.univ, (a k - a k) * w k = 0),
    Finset.sum_const_zero, add_zero, add_zero]

def bodySoftplus (u : EReal) : EReal := max u 0 + Ideal.log1p (Ideal.exp (0 - FloatOps.absf (F := Ideal) (φ := .f32) u))

def bodyDecay (u : EReal) : EReal := Ideal.exp (0 - Ideal.exp (0 - bodySoftplus (0 - u) - Ideal.ofBits .f32 0x3F000000#32))

theorem bodyDecay_eq (u : EReal) : bodyDecay u = decayOf u := by
  unfold bodyDecay decayOf bodySoftplus softplus
  rw [neg_eq, neg_eq, neg_eq, neg_eq]
  rfl

def bodySigma (u : EReal) : EReal := Ideal.div (Ideal.ofBits .f32 0x3F800000#32) (Ideal.ofBits .f32 0x3F800000#32 + Ideal.exp u)

theorem bodySigma_eq (u : EReal) : bodySigma (0 - u) = sigma u := by
  unfold bodySigma sigma
  rw [one_word, neg_eq]

def bodyUnit (a w : Fin 512 → EReal) (q : Fin 512) : EReal := a q * Ideal.rsqrt (halves a w + Ideal.ofBits .f32 0x358637BD#32)

/-- On reals the low half is nothing, and the ones pick a head of 64 out. -/
theorem bodyUnit_eq (a : Fin 512 → EReal) (ha : ∀ k, ∃ r : ℝ, a k = r) (w : Fin 512 → EReal) (q : Fin 512)
    (hw : ∀ k, w k = if k.val / 64 = q.val / 64 then 1 else 0) : bodyUnit a w q = unit64 a q := by
  have hlow : ∀ k, (a k * a k - a k * a k) * w k = 0 := by
    intro k
    obtain ⟨r, hr⟩ := ha k
    rw [sub_real ⟨r * r, by rw [hr, EReal.coe_mul]⟩, zero_mul]
  have hhigh : ∀ k, a k * a k * w k = if k.val / 64 = q.val / 64 then a k * a k else 0 := by
    intro k
    rw [hw, mul_ite, mul_one, mul_zero]
  unfold bodyUnit unit64 halves
  rw [Finset.sum_congr rfl (fun k _ => hlow k), Finset.sum_const_zero, add_zero, Finset.sum_congr rfl (fun k _ => hhigh k),
    ← Finset.sum_filter]
  refine congrArg (fun s => a q * Ideal.rsqrt (s + Ideal.ofBits .f32 0x358637BD#32)) ?_
  symm
  refine Finset.sum_bij (fun j _ => ⟨q.val / 64 * 64 + j.val, by omega⟩) ?_ ?_ ?_ ?_
  · intro j _
    exact Finset.mem_filter.2 ⟨Finset.mem_univ _, by show (q.val / 64 * 64 + j.val) / 64 = q.val / 64; omega⟩
  · intro i _ j _ h
    have h' := congrArg Fin.val h
    exact Fin.ext (by dsimp only at h'; omega)
  · intro k hk
    have hk' := (Finset.mem_filter.1 hk).2
    exact ⟨⟨k.val % 64, by omega⟩, Finset.mem_univ _, Fin.ext (by show q.val / 64 * 64 + k.val % 64 = k.val; omega)⟩
  · intro j _
    rfl

/-! ## Reals stay real -/

theorem tanh_real {x : EReal} (h : ∃ r : ℝ, x = r) : ∃ r : ℝ, Ideal.tanh x = r := by
  obtain ⟨r, rfl⟩ := h
  exact ⟨Real.tanh r, rfl⟩

theorem sigma_real {x : EReal} (h : ∃ r : ℝ, x = r) : ∃ r : ℝ, sigma x = r := by
  obtain ⟨u, rfl⟩ := h
  have hpos : (1 + Real.exp (-u)) ≠ 0 := (add_pos one_pos (Real.exp_pos _)).ne'
  refine ⟨1 * (1 / (1 + Real.exp (-u))), ?_⟩
  have he : (1 : EReal) + Ideal.exp (-(u : EReal)) = ((1 + Real.exp (-u) : ℝ) : EReal) := by
    rw [← EReal.coe_neg, Ideal.exp_coe, EReal.coe_add, EReal.coe_one]
  unfold sigma
  rw [he, Ideal.div_coe hpos, EReal.coe_mul, EReal.coe_one]

theorem mul_real {x y : EReal} (hx : ∃ r : ℝ, x = r) (hy : ∃ r : ℝ, y = r) : ∃ r : ℝ, x * y = r := by
  obtain ⟨r, rfl⟩ := hx
  obtain ⟨s, rfl⟩ := hy
  exact ⟨r * s, (EReal.coe_mul r s).symm⟩

theorem mix_real {x p u : EReal} (hx : ∃ r : ℝ, x = r) (hp : ∃ r : ℝ, p = r) (hu : ∃ r : ℝ, u = r) : ∃ r : ℝ, x + (p - x) * u = r := by
  obtain ⟨r, rfl⟩ := hx
  obtain ⟨s, rfl⟩ := hp
  obtain ⟨t, rfl⟩ := hu
  exact ⟨r + (s - r) * t, by rw [EReal.coe_add, EReal.coe_mul, EReal.coe_sub]⟩

theorem shifted_real (X : FVec Ideal ⟨2, ![512, 1792]⟩ .f32) (S : FVec Ideal ⟨2, ![128, 1792]⟩ .f32) (M : FVec Ideal ⟨2, ![1, 1792]⟩ .f32)
    (hX : ∀ i, ∃ r : ℝ, X i = r) (hS : ∀ i, ∃ r : ℝ, S i = r) (hM : ∀ i, ∃ r : ℝ, M i = r) (n : Fin 512) (q : Fin 1792) :
    ∃ r : ℝ, shifted X S M n q = r := by
  refine mix_real (hX _) ?_ (hM _)
  unfold priorOf
  by_cases h : n.val < 128
  · rw [dif_pos h]
    exact hS _
  · rw [dif_neg h]
    exact hX _

/-! ## The body's rows -/

section

variable (z : Fin 1792 → EReal) (w0 a0 kk ka : Fin 512 → EReal) (w2 a2 : Fin 64 → Fin 512 → EReal) (g2 : Fin 128 → Fin 512 → EReal)
  (o : Fin 512 → Fin 512 → EReal)

def bodyDecays (q : Fin 512) : EReal := bodyDecay (w0 q + tripled (fun k : Fin 64 => Ideal.tanh (z ⟨1536 + k.val, by omega⟩)) (fun k => w2 k q))

def bodyRates (q : Fin 512) : EReal := bodySigma (0 - (a0 q + tripled (fun k : Fin 64 => z ⟨1600 + k.val, by omega⟩) (fun k => a2 k q)))

def bodyGates (q : Fin 512) : EReal := tripled (fun k : Fin 128 => bodySigma (0 - z ⟨1664 + k.val, by omega⟩)) (fun k => g2 k q)

def bodyWa (q : Fin 1024) : EReal :=
  paired (bodyDecays z w0 w2) (fun q => 0 - bodyUnit (scaled z kk) (fun k => o k q) q) q

def bodyBk (q : Fin 1024) : EReal :=
  paired (fun q => bodyUnit (scaled z kk) (fun k => o k q) q * bodyRates z a0 a2 q)
    (fun q => z ⟨512 + q.val, by omega⟩
      * (Ideal.ofBits .f32 0x3F800000#32 + (bodyRates z a0 a2 q - Ideal.ofBits .f32 0x3F800000#32) * ka q)) q

variable (hz : ∀ q, ∃ r : ℝ, z q = r)

include hz in
theorem bodyDecays_eq (hw : ∀ k q, ∃ r : ℝ, w2 k q = r) (q : Fin 512) : bodyDecays z w0 w2 q = decays z w0 w2 q := by
  unfold bodyDecays decays
  rw [bodyDecay_eq, tripled_eq _ _ (fun k => tanh_real (hz _)) (fun k => hw k q)]

include hz in
theorem bodyRates_eq (ha : ∀ k q, ∃ r : ℝ, a2 k q = r) (q : Fin 512) : bodyRates z a0 a2 q = rates z a0 a2 q := by
  unfold bodyRates rates
  rw [bodySigma_eq, tripled_eq _ _ (fun k => hz _) (fun k => ha k q)]

include hz in
theorem bodyGates_eq (hg : ∀ k q, ∃ r : ℝ, g2 k q = r) (q : Fin 512) : bodyGates z g2 q = gates z g2 q := by
  unfold bodyGates gates
  rw [funext (fun k : Fin 128 => bodySigma_eq (z ⟨1664 + k.val, by omega⟩)), tripled_eq _ _ (fun k => sigma_real (hz _)) (fun k => hg k q)]

variable (hk : ∀ q, ∃ r : ℝ, kk q = r) (ho : ∀ k q, o k q = if k.val / 64 = q.val / 64 then 1 else 0)

include hz hk ho in
theorem bodyUnit_scaled (q : Fin 512) : bodyUnit (scaled z kk) (fun k => o k q) q = unit64 (scaled z kk) q :=
  bodyUnit_eq _ (fun k => mul_real (hz _) (hk k)) _ q (fun k => ho k q)

include hz hk ho in
theorem bodyWa_eq (hw : ∀ k q, ∃ r : ℝ, w2 k q = r) (q : Fin 1024) : bodyWa z w0 kk w2 o q = rowWa z w0 kk w2 q := by
  unfold bodyWa rowWa
  rw [funext (bodyDecays_eq z w0 w2 hz hw), funext (fun q => (neg_eq _).trans (congrArg Neg.neg (bodyUnit_scaled z kk o hz hk ho q)))]

include hz hk ho in
theorem bodyBk_eq (ha : ∀ k q, ∃ r : ℝ, a2 k q = r) (q : Fin 1024) : bodyBk z a0 kk ka a2 o q = rowBk z a0 kk ka a2 q := by
  unfold bodyBk rowBk
  rw [funext (bodyRates_eq z a0 a2 hz ha), one_word, funext (fun q => congrArg (· * rates z a0 a2 q) (bodyUnit_scaled z kk o hz hk ho q))]

end

end Cert.Shifting

end
-- ==== Proof.ShiftPay.lean ====
module

public import proofs.«01_k».proof.Proof.ShiftMath
public import proofs.«01_k».proof.Proof.Gen.ShiftIdeal.Skeleton

@[expose] public section

set_option maxRecDepth 512

noncomputable section

/-! What the body of `_rwkv_prep` stores, element by element, in terms of what it reads. -/

namespace Cert.Shifting

open Cert.ShiftIdeal Cert.ShiftIdeal.Gen Cert.Projection Cert.Convolution
open Idealize.ShloMosaic
open Idealize.ShloMosaic.TcCoe Idealize.ShloMosaic.Tactic

/-- A row moved towards the row before it. -/
def moved (x0 p : Vec Ideal S512x1792 .f32) (x2 : Vec Ideal S1x1792 .f32) (n : Fin 512) (q : Fin 1792) : EReal :=
  x0 (ix2 n q) + (p (ix2 n q) - x0 (ix2 n q)) * x2 (ix2 0 q)

variable (x0 p : Vec Ideal S512x1792 .f32) (x2 : Vec Ideal S1x1792 .f32)

theorem pay8_at (n : Fin 512) (q : Fin 1792) : k0_pay8 (F := Ideal) x0 p x2 (ix2 n q) = moved x0 p x2 n q := by
  unfold k0_pay8 moved
  pointwise []

theorem pay9_at (n q : Fin 512) : k0_pay9 (F := Ideal) x0 p x2 (ix2 n q) = moved x0 p x2 n ⟨q.val, by omega⟩ := by
  unfold k0_pay9
  pointwise [pay8_at]

theorem pay10_at (n q : Fin 512) : k0_pay10 (F := Ideal) x0 p x2 (ix2 n q) = moved x0 p x2 n ⟨512 + q.val, by omega⟩ := by
  unfold k0_pay10
  pointwise [pay8_at]

theorem pay11_at (n q : Fin 512) : k0_pay11 (F := Ideal) x0 p x2 (ix2 n q) = moved x0 p x2 n ⟨1024 + q.val, by omega⟩ := by
  unfold k0_pay11
  pointwise [pay8_at]

theorem pay12_at (n : Fin 512) (q : Fin 64) : k0_pay12 (F := Ideal) x0 p x2 (ix2 n q) = moved x0 p x2 n ⟨1600 + q.val, by omega⟩ := by
  unfold k0_pay12
  pointwise [pay8_at]

theorem pay13_at (n : Fin 512) (q : Fin 128) : k0_pay13 (F := Ideal) x0 p x2 (ix2 n q) = moved x0 p x2 n ⟨1664 + q.val, by omega⟩ := by
  unfold k0_pay13
  pointwise [pay8_at]

theorem pay15_at (n : Fin 512) (q : Fin 64) :
    k0_pay15 (F := Ideal) x0 p x2 (ix2 n q) = Ideal.tanh (moved x0 p x2 n ⟨1536 + q.val, by omega⟩) := by
  unfold k0_pay15
  pointwise [pay8_at]

theorem pay22_at (x3 : Vec Ideal S1x512 .f32) (x4 : Vec Ideal S64x512 .f32) (n q : Fin 512) :
    k0_pay22 (F := Ideal) (k0_pay14 x3) (k0_pay17 x0 p x2) (k0_pay18 x0 p x2) (k0_pay19 x4) (k0_pay20 x4) (k0_pay21 x0 p x2 x4)
        (constant S512x512 .f32 0x00000000#32) (ix2 n q)
      = bodyDecays (moved x0 p x2 n) (fun q => x3 (ix2 0 q)) (fun k q => x4 (ix2 k q)) q := by
  unfold k0_pay22 k0_pay21 k0_pay20 k0_pay19 k0_pay18 k0_pay17 k0_pay16 k0_pay14 bodyDecays bodyDecay bodySoftplus tripled
  pointwise [pay15_at]

theorem rates_at (x5 : Vec Ideal S1x512 .f32) (x6 : Vec Ideal S64x512 .f32) (n q : Fin 512) :
    k0_pay24 (F := Ideal) (k0_pay23 (k0_pay12 x0 p x2) x5 x6) (ix2 n q)
      = bodyRates (moved x0 p x2 n) (fun q => x5 (ix2 0 q)) (fun k q => x6 (ix2 k q)) q := by
  unfold k0_pay24 k0_pay23 bodyRates bodySigma tripled
  pointwise [pay12_at]

theorem gates_at (x7 : Vec Ideal S128x512 .f32) (n q : Fin 512) :
    k0_pay25 (F := Ideal) (k0_pay13 x0 p x2) x7 (ix2 n q) = bodyGates (moved x0 p x2 n) (fun k q => x7 (ix2 k q)) q := by
  unfold k0_pay25 bodyGates bodySigma tripled
  pointwise [pay13_at]

theorem pay26_at (x8 : Vec Ideal S1x512 .f32) (n q : Fin 512) :
    k0_pay26 (F := Ideal) (k0_pay10 x0 p x2) x8 (ix2 n q) = scaled (moved x0 p x2 n) (fun q => x8 (ix2 0 q)) q := by
  unfold k0_pay26 scaled
  pointwise [pay10_at]

theorem pay27_at (x8 : Vec Ideal S1x512 .f32) (x10 : Vec Ideal S512x512 .bf16) (n q : Fin 512) :
    k0_pay27 (F := Ideal) (k0_pay10 x0 p x2) x8 x10 (ix2 n q)
      = halves (scaled (moved x0 p x2 n) (fun q => x8 (ix2 0 q))) (fun k => x10 (ix2 k q)) + Ideal.ofBits .f32 0x358637BD#32 := by
  unfold k0_pay27 halves
  pointwise [pay26_at]

theorem pay1_at (x8 : Vec Ideal S1x512 .f32) (x10 : Vec Ideal S512x512 .bf16) (n q : Fin 512) :
    k0_pay1 (F := Ideal) (k0_pay26 (k0_pay10 x0 p x2) x8) (k0_pay27 (k0_pay10 x0 p x2) x8 x10) (ix2 n q)
      = bodyUnit (scaled (moved x0 p x2 n) (fun q => x8 (ix2 0 q))) (fun k => x10 (ix2 k q)) q := by
  unfold k0_pay1 bodyUnit
  pointwise [pay26_at, pay27_at]

theorem pay2_at (x8 : Vec Ideal S1x512 .f32) (x10 : Vec Ideal S512x512 .bf16) (n q : Fin 512) :
    k0_pay2 (F := Ideal) (k0_pay26 (k0_pay10 x0 p x2) x8) (k0_pay27 (k0_pay10 x0 p x2) x8 x10) (ix2 n q)
      = 0 - bodyUnit (scaled (moved x0 p x2 n) (fun q => x8 (ix2 0 q))) (fun k => x10 (ix2 k q)) q := by
  unfold k0_pay2
  pointwise [pay1_at]

theorem pay3_at (v86 : FVec Ideal S512x512 .f32) (x8 : Vec Ideal S1x512 .f32) (x10 : Vec Ideal S512x512 .bf16) (n q : Fin 512) :
    k0_pay3 (F := Ideal) v86 (k0_pay26 (k0_pay10 x0 p x2) x8) (k0_pay27 (k0_pay10 x0 p x2) x8 x10) (ix2 n q)
      = bodyUnit (scaled (moved x0 p x2 n) (fun q => x8 (ix2 0 q))) (fun k => x10 (ix2 k q)) q * v86 (ix2 n q) := by
  unfold k0_pay3
  pointwise [pay1_at]

theorem pay4_at (v86 : FVec Ideal S512x512 .f32) (x9 : Vec Ideal S1x512 .f32) (n q : Fin 512) :
    k0_pay4 (F := Ideal) (k0_pay10 x0 p x2) v86 x9 (ix2 n q)
      = moved x0 p x2 n ⟨512 + q.val, by omega⟩
        * (Ideal.ofBits .f32 0x3F800000#32 + (v86 (ix2 n q) - Ideal.ofBits .f32 0x3F800000#32) * x9 (ix2 0 q)) := by
  unfold k0_pay4
  pointwise [pay10_at]

end Cert.Shifting

end
-- ==== Proof.ShiftBody.lean ====
module

public import proofs.«01_k».proof.Proof.ShiftPay
public import proofs.«01_k».proof.Proof.Gen.ShiftIdeal.Value

@[expose] public section

set_option maxRecDepth 512

noncomputable section

/-! The body of `_rwkv_prep`: every result, element by element, in terms of the blocks it reads. -/

namespace Cert.Shifting

open Cert.ShiftIdeal Cert.ShiftIdeal.Gen Cert.Projection Cert.Convolution
open Idealize.ShloMosaic
open Idealize.ShloMosaic.TcCoe Idealize.ShloMosaic.Tactic

/-- The row before row `n`: a carried one for the first 128, the batch's own for the others. -/
def before (x0 : Vec Ideal S512x1792 .f32) (x1 : Vec Ideal S1x128x1792 .f32) (n : Fin 512) (q : Fin 1792) : EReal :=
  if h : n.val < 128 then x1 (ix3 0 ⟨n.val, h⟩ q) else x0 (ix2 ⟨n.val - 128, by omega⟩ q)

/-- What the scratch holds when the rows before are read. -/
abbrev carried (x0 : Vec Ideal S512x1792 .f32) (x1 : Vec Ideal S1x128x1792 .f32) : List (View.Piece (Elt Ideal) S640x1792 .f32) :=
  [⟨Rect.unit ![128, 0] S512x1792.size inb_S640x1792_S512x1792_128_0, k0_pay7 (F := Ideal) x0⟩,
    ⟨Rect.unit ![0, 0] S128x1792.size inb_S640x1792_S128x1792_0_0, k0_pay5 (F := Ideal) x1⟩]

section

variable (x0 : Vec Ideal S512x1792 .f32) (x1 : Vec Ideal S1x128x1792 .f32)

theorem canon_carried (n : Fin 512) (q : Fin 1792) :
    View.canon (carried x0 x1) (ix2 (⟨n.val, by omega⟩ : Fin 640) q) = before x0 x1 n q := by
  unfold before
  by_cases h : n.val < 128
  · rw [dif_pos h, View.canon_cons_of_not_mem]
    · have e : (ix2 (⟨n.val, by omega⟩ : Fin 640) q : S640x1792.Idx) = (Rect.unit (s := S640x1792) ![0, 0] S128x1792.size inb_S640x1792_S128x1792_0_0).emb (ix2 (⟨n.val, h⟩ : Fin 128) q) :=
        (idx_eq _ _ _ (by show 0 + 1 * n.val = n.val; omega) (by show 0 + 1 * q.val = q.val; omega)).symm
      rw [e, View.canon_cons_emb]
      unfold k0_pay5
      pointwise []
    · intro hm
      obtain ⟨x, hx⟩ := (Rect.unit (s := S640x1792) ![128, 0] S512x1792.size inb_S640x1792_S512x1792_128_0).exists_idx_of_mem hm
      have h0 := congrArg (fun f : S640x1792.Idx => (f 0).val) hx
      have h1 : 128 + 1 * (x 0).val = n.val := h0
      omega
  · have e : (ix2 (⟨n.val, by omega⟩ : Fin 640) q : S640x1792.Idx) = (Rect.unit (s := S640x1792) ![128, 0] S512x1792.size inb_S640x1792_S512x1792_128_0).emb (ix2 (⟨n.val - 128, by omega⟩ : Fin 512) q) :=
      (idx_eq _ _ _ (by show 128 + 1 * (n.val - 128) = n.val; omega) (by show 0 + 1 * q.val = q.val; omega)).symm
    rw [dif_neg h, e, View.canon_cons_emb]
    unfold k0_pay7
    pointwise []

/-- The rows before, as the body reads them back. -/
def prior : Vec Ideal S512x1792 .f32 := fun i => before x0 x1 (i 0) (i 1)

theorem carried_eq (v : View sig .tc .vmem S640x1792 .f32) (inb) :
    v.readCov (carried x0 x1) (Rect.unit (s := S640x1792) ![0, 0] S512x1792.size inb).toLoadRect = prior x0 x1 := by
  refine ext2 _ _ fun n q => ?_
  rw [View.readCov_eq_canon']
  refine Eq.trans (congrArg _ ?_) (canon_carried x0 x1 n q)
  exact idx_eq _ _ _ (by show 0 + 1 * n.val = n.val; omega) (by show 0 + 1 * q.val = q.val; omega)

end

/-- Two halves stored side by side. -/
theorem canon_pair (a b : FVec Ideal S512x512 .f32) (n : Fin 512) (q : Fin 1024) :
    View.canon ([⟨Rect.unit ![0, 512] S512x512.size inb_S512x1024_S512x512_0_512, b⟩,
      ⟨Rect.unit ![0, 0] S512x512.size inb_S512x1024_S512x512_0_0, a⟩] : List (View.Piece (Elt Ideal) S512x1024 .f32)) (ix2 n q)
      = paired (fun q => a (ix2 n q)) (fun q => b (ix2 n q)) q := by
  unfold paired
  by_cases h : q.val < 512
  · rw [dif_pos h, View.canon_cons_of_not_mem]
    · have e : (ix2 n q : S512x1024.Idx) = (Rect.unit (s := S512x1024) ![0, 0] S512x512.size inb_S512x1024_S512x512_0_0).emb (ix2 n (⟨q.val, h⟩ : Fin 512)) :=
        (idx_eq _ _ _ (by show 0 + 1 * n.val = n.val; omega) (by show 0 + 1 * q.val = q.val; omega)).symm
      rw [e, View.canon_cons_emb]
    · intro hm
      obtain ⟨x, hx⟩ := (Rect.unit (s := S512x1024) ![0, 512] S512x512.size inb_S512x1024_S512x512_0_512).exists_idx_of_mem hm
      have h0 := congrArg (fun f : S512x1024.Idx => (f 1).val) hx
      have h1 : 512 + 1 * (x 1).val = q.val := h0
      omega
  · have e : (ix2 n q : S512x1024.Idx) = (Rect.unit (s := S512x1024) ![0, 512] S512x512.size inb_S512x1024_S512x512_0_512).emb (ix2 n (⟨q.val - 512, by omega⟩ : Fin 512)) :=
      (idx_eq _ _ _ (by show 0 + 1 * n.val = n.val; omega) (by show 512 + 1 * (q.val - 512) = q.val; omega)).symm
    rw [dif_neg h, e, View.canon_cons_emb]

variable (c : Dev nD) (i : grid0.Coords) (arg2 : Memref sig .tc .vmem S512x1792 .f32) (harg2 : arg2.IsWhole)
  (arg3 : Memref sig .tc .vmem S1x128x1792 .f32) (harg3 : arg3.IsWhole)
  (arg4 : Memref sig .tc .vmem S1x1792 .f32) (harg4 : arg4.IsWhole)
  (arg5 : Memref sig .tc .vmem S1x512 .f32) (harg5 : arg5.IsWhole)
  (arg6 : Memref sig .tc .vmem S64x512 .f32) (harg6 : arg6.IsWhole)
  (arg7 : Memref sig .tc .vmem S1x512 .f32) (harg7 : arg7.IsWhole)
  (arg8 : Memref sig .tc .vmem S64x512 .f32) (harg8 : arg8.IsWhole)
  (arg9 : Memref sig .tc .vmem S128x512 .f32) (harg9 : arg9.IsWhole)
  (arg10 : Memref sig .tc .vmem S1x512 .f32) (harg10 : arg10.IsWhole)
  (arg11 : Memref sig .tc .vmem S1x512 .f32) (harg11 : arg11.IsWhole)
  (arg12 : Memref sig .tc .vmem S512x512 .bf16) (harg12 : arg12.IsWhole)
  (arg13 : Memref sig .tc .vmem S512x1024 .f32) (harg13 : arg13.IsWhole)
  (arg14 : Memref sig .tc .vmem S512x1024 .f32) (harg14 : arg14.IsWhole)
  (arg15 : Memref sig .tc .vmem S512x1024 .f32) (harg15 : arg15.IsWhole)
  (arg16 : Memref sig .tc .vmem S512x512 .f32) (harg16 : arg16.IsWhole)
  (arg17 : Memref sig .tc .vmem S512x512 .f32) (harg17 : arg17.IsWhole)
  (arg18 : Memref sig .tc .vmem S640x1792 .f32) (harg18 : arg18.IsWhole)
  (hc0 : cond0_0 i) (hc1 : ¬cond0_1 i)
  (x0 : Vec Ideal S512x1792 .f32) (x1 : Vec Ideal S1x128x1792 .f32) (x2 : Vec Ideal S1x1792 .f32) (x3 : Vec Ideal S1x512 .f32)
  (x4 : Vec Ideal S64x512 .f32) (x5 : Vec Ideal S1x512 .f32) (x6 : Vec Ideal S64x512 .f32) (x7 : Vec Ideal S128x512 .f32)
  (x8 : Vec Ideal S1x512 .f32) (x9 : Vec Ideal S1x512 .f32) (x10 : Vec Ideal S512x512 .bf16)

/-- A row of the block, moved towards the row before it. -/
def row (x0 : Vec Ideal S512x1792 .f32) (x1 : Vec Ideal S1x128x1792 .f32) (x2 : Vec Ideal S1x1792 .f32) (n : Fin 512) : Fin 1792 → EReal :=
  moved x0 (prior x0 x1) x2 n

theorem out11_at (n : Fin 512) (q : Fin 1024) :
    out0_A_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 (ix2 n q)
      = bodyWa (row x0 x1 x2 n) (fun q => x3 (ix2 0 q)) (fun q => x8 (ix2 0 q)) (fun k q => x4 (ix2 k q)) (fun k q => x10 (ix2 k q)) q := by
  unfold out0_A_11
  rw [View.read_writes_eq_canon _ _ _ (cover0_A_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10)]
  unfold kernelRun0_A
  dsimp only
  sl_unfold_words
  rw [canon_pair]
  simp only [View.readAt_eq_ld, harg2.read_unread, harg3.read_unread, harg4.read_unread, harg5.read_unread, harg6.read_unread, harg7.read_unread,
    harg8.read_unread, harg9.read_unread, harg10.read_unread, harg11.read_unread, harg12.read_unread, View.ld_unit_zero (S := S512x1792) zeros,
    View.ld_unit_zero (S := S1x128x1792) zeros3, View.ld_unit_zero (S := S1x1792) zeros, View.ld_unit_zero (S := S1x512) zeros,
    View.ld_unit_zero (S := S64x512) zeros, View.ld_unit_zero (S := S128x512) zeros, View.ld_unit_zero (S := S512x512) zeros]
  rw [carried_eq]
  unfold bodyWa
  exact congrFun (congr (congrArg paired (funext fun q => pay22_at x0 (prior x0 x1) x2 x3 x4 n q))
    (funext fun q => pay2_at x0 (prior x0 x1) x2 x8 x10 n q)) q

theorem out12_at (n : Fin 512) (q : Fin 1024) :
    out0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 (ix2 n q)
      = bodyBk (row x0 x1 x2 n) (fun q => x5 (ix2 0 q)) (fun q => x8 (ix2 0 q)) (fun q => x9 (ix2 0 q)) (fun k q => x6 (ix2 k q)) (fun k q => x10 (ix2 k q)) q := by
  unfold out0_A_12
  rw [View.read_writes_eq_canon _ _ _ (cover0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10)]
  unfold kernelRun0_A
  dsimp only
  sl_unfold_words
  rw [canon_pair]
  simp only [View.readAt_eq_ld, harg2.read_unread, harg3.read_unread, harg4.read_unread, harg5.read_unread, harg6.read_unread, harg7.read_unread,
    harg8.read_unread, harg9.read_unread, harg10.read_unread, harg11.read_unread, harg12.read_unread, View.ld_unit_zero (S := S512x1792) zeros,
    View.ld_unit_zero (S := S1x128x1792) zeros3, View.ld_unit_zero (S := S1x1792) zeros, View.ld_unit_zero (S := S1x512) zeros,
    View.ld_unit_zero (S := S64x512) zeros, View.ld_unit_zero (S := S128x512) zeros, View.ld_unit_zero (S := S512x512) zeros]
  rw [carried_eq]
  unfold bodyBk
  refine congrFun (congr (congrArg paired (funext fun q => (pay3_at x0 (prior x0 x1) x2 _ x8 x10 n q).trans ?_))
    (funext fun q => (pay4_at x0 (prior x0 x1) x2 _ x9 n q).trans ?_)) q
  · rw [rates_at]
    rfl
  · rw [rates_at]
    rfl

theorem out13_at (n : Fin 512) (q : Fin 1024) :
    out0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 (ix2 n q)
      = rowRr (row x0 x1 x2 n) q := by
  unfold out0_A_13
  rw [View.read_writes_eq_canon _ _ _ (cover0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10)]
  unfold kernelRun0_A
  dsimp only
  sl_unfold_words
  rw [canon_pair]
  simp only [View.readAt_eq_ld, harg2.read_unread, harg3.read_unread, harg4.read_unread, harg5.read_unread, harg6.read_unread, harg7.read_unread,
    harg8.read_unread, harg9.read_unread, harg10.read_unread, harg11.read_unread, harg12.read_unread, View.ld_unit_zero (S := S512x1792) zeros,
    View.ld_unit_zero (S := S1x128x1792) zeros3, View.ld_unit_zero (S := S1x1792) zeros, View.ld_unit_zero (S := S1x512) zeros,
    View.ld_unit_zero (S := S64x512) zeros, View.ld_unit_zero (S := S128x512) zeros, View.ld_unit_zero (S := S512x512) zeros]
  rw [carried_eq]
  unfold rowRr
  exact congrFun (congr (congrArg paired (funext fun q => pay9_at x0 (prior x0 x1) x2 n q))
    (funext fun q => pay9_at x0 (prior x0 x1) x2 n q)) q

theorem out14_at (n : Fin 512) (q : Fin 512) :
    out0_A_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 (ix2 n q)
      = row x0 x1 x2 n ⟨1024 + q.val, by omega⟩ := by
  unfold out0_A_14
  rw [View.read_writes_eq_canon _ _ _ (cover0_A_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10)]
  unfold kernelRun0_A
  dsimp only
  sl_unfold_words
  rw [View.canon_unit_zero zeros]
  simp only [View.readAt_eq_ld, harg2.read_unread, harg3.read_unread, harg4.read_unread, harg5.read_unread, harg6.read_unread, harg7.read_unread,
    harg8.read_unread, harg9.read_unread, harg10.read_unread, harg11.read_unread, harg12.read_unread, View.ld_unit_zero (S := S512x1792) zeros,
    View.ld_unit_zero (S := S1x128x1792) zeros3, View.ld_unit_zero (S := S1x1792) zeros, View.ld_unit_zero (S := S1x512) zeros,
    View.ld_unit_zero (S := S64x512) zeros, View.ld_unit_zero (S := S128x512) zeros, View.ld_unit_zero (S := S512x512) zeros]
  rw [carried_eq]
  exact pay11_at x0 (prior x0 x1) x2 n q

theorem out15_at (n : Fin 512) (q : Fin 512) :
    out0_A_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 (ix2 n q)
      = bodyGates (row x0 x1 x2 n) (fun k q => x7 (ix2 k q)) q := by
  unfold out0_A_15
  rw [View.read_writes_eq_canon _ _ _ (cover0_A_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10)]
  unfold kernelRun0_A
  dsimp only
  sl_unfold_words
  rw [View.canon_unit_zero zeros]
  simp only [View.readAt_eq_ld, harg2.read_unread, harg3.read_unread, harg4.read_unread, harg5.read_unread, harg6.read_unread, harg7.read_unread,
    harg8.read_unread, harg9.read_unread, harg10.read_unread, harg11.read_unread, harg12.read_unread, View.ld_unit_zero (S := S512x1792) zeros,
    View.ld_unit_zero (S := S1x128x1792) zeros3, View.ld_unit_zero (S := S1x1792) zeros, View.ld_unit_zero (S := S1x512) zeros,
    View.ld_unit_zero (S := S64x512) zeros, View.ld_unit_zero (S := S128x512) zeros, View.ld_unit_zero (S := S512x512) zeros]
  rw [carried_eq]
  exact gates_at x0 (prior x0 x1) x2 x7 n q

end Cert.Shifting

end
-- ==== Proof.ShiftArrays.lean ====
module

public import proofs.«01_k».proof.Proof.ShiftBody
public import Idealize.ShloMosaic.Lib.StableHlo.ReadAt

@[expose] public section

set_option maxRecDepth 4096

noncomputable section

/-! The results of `_rwkv_prep`, element by element, in terms of the arguments. -/

namespace Cert.Shifting

open Cert.ShiftIdeal Cert.ShiftIdeal.Gen Cert.ShiftIdeal.Value Cert.Projection Cert.Convolution
open Idealize.ShloMosaic
open Idealize.ShloMosaic.TcCoe Idealize.ShloMosaic.Tactic
open Idealize.SL.Sem
open Idealize.ShloMosaic.Pipeline (Dat Cfg Window)

variable (m : (ℓ : Loc nD τ sig) → Buf (Elt Ideal) ℓ) (c : Dev nD)

/-- The arguments. -/
abbrev argX : FVec Ideal S512x1792 .f32 := m ((c : Thread nD τ).loc main_arg0)
abbrev argS : FVec Ideal S128x1792 .f32 := m ((c : Thread nD τ).loc main_arg1)
abbrev argM : FVec Ideal S1x1792 .f32 := m ((c : Thread nD τ).loc main_arg2)
abbrev argW0 : FVec Ideal S1x512 .f32 := m ((c : Thread nD τ).loc main_arg3)
abbrev argW2 : FVec Ideal S1x64x512 .f32 := m ((c : Thread nD τ).loc main_arg4)
abbrev argA0 : FVec Ideal S1x512 .f32 := m ((c : Thread nD τ).loc main_arg5)
abbrev argA2 : FVec Ideal S1x64x512 .f32 := m ((c : Thread nD τ).loc main_arg6)
abbrev argG2 : FVec Ideal S1x128x512 .f32 := m ((c : Thread nD τ).loc main_arg7)
abbrev argKk : FVec Ideal S1x512 .f32 := m ((c : Thread nD τ).loc main_arg8)
abbrev argKa : FVec Ideal S1x512 .f32 := m ((c : Thread nD τ).loc main_arg9)

theorem V_rows (n : Fin 512) (k : Fin 1792) : V m c main_arg0 (ix2 n k) = argX m c (ix2 n k) := by
  unfold V
  after_reads_at

theorem V_carried (n : Fin 128) (k : Fin 1792) : V m c main_v21 (ix3 0 n k) = argS m c (ix2 n k) := by
  unfold V
  after_reads_at

theorem V_mu (q : Fin 1792) : V m c main_v1 (ix2 0 q) = argM m c (ix2 0 q) := by
  unfold V
  after_reads_at

theorem V_w0 (q : Fin 512) : V m c main_v3 (ix2 0 q) = argW0 m c (ix2 0 q) := by
  unfold V
  after_reads_at

theorem V_w2 (k : Fin 64) (q : Fin 512) : V m c main_v4 (ix2 k q) = argW2 m c (ix3 0 k q) := by
  unfold V
  after_reads_at

theorem V_a0 (q : Fin 512) : V m c main_v6 (ix2 0 q) = argA0 m c (ix2 0 q) := by
  unfold V
  after_reads_at

theorem V_a2 (k : Fin 64) (q : Fin 512) : V m c main_v7 (ix2 k q) = argA2 m c (ix3 0 k q) := by
  unfold V
  after_reads_at

theorem V_g2 (k : Fin 128) (q : Fin 512) : V m c main_v8 (ix2 k q) = argG2 m c (ix3 0 k q) := by
  unfold V
  after_reads_at

theorem V_kk (q : Fin 512) : V m c main_v10 (ix2 0 q) = argKk m c (ix2 0 q) := by
  unfold V
  after_reads_at

theorem V_ka (q : Fin 512) : V m c main_v12 (ix2 0 q) = argKa m c (ix2 0 q) := by
  unfold V
  after_reads_at

/-- The host's floor division of a column's number by the head's width. -/
def head64 (k : ℕ) : BitVec 32 :=
  Scalar.select
    (IntOp.andi
      (IntOp.cmpi CmpIPredicate.ne
        (if BitVec.ofNat 32 k = 0 then 0 else if (BitVec.ofNat 32 k).msb = true then -1 else 1 : BitVec 32)
        (if (64#32 : BitVec 32) = 0 then 0 else if BitVec.msb (64#32 : BitVec 32) = true then -1 else 1 : BitVec 32))
      (IntOp.cmpi CmpIPredicate.ne (IntOp.remsi ArithUnit.host (BitVec.ofNat 32 k) 64#32) 0#32))
    (IntOp.subi (IntOp.divsi ArithUnit.host (BitVec.ofNat 32 k) 64#32) 1#32)
    (IntOp.divsi ArithUnit.host (BitVec.ofNat 32 k) 64#32)

theorem head64_eq : ∀ k : Fin 512, head64 k.val = BitVec.ofNat 32 (k.val / 64) := by decide +kernel

theorem V_ones (k q : Fin 512) : V m c main_v20 (ix2 k q) = (if k.val / 64 = q.val / 64 then 1 else 0 : EReal) := by
  unfold V
  after_reads_at
  refine Eq.trans (b := FloatOps.uitofp (F := Ideal) .bf16 (IntOp.cmpi .eq (head64 k.val) (head64 q.val))) rfl ?_
  rw [head64_eq, head64_eq]
  by_cases h : k.val / 64 = q.val / 64
  · rw [if_pos h, (WordCmp.cmpi_eq_ofNat_eq_one_iff (w := 32) (by omega) (by omega)).2 h]
    exact one_bit
  · rw [if_neg h, (WordCmp.cmpi_eq_ofNat_eq_zero_iff (w := 32) (by omega) (by omega)).2 h]
    exact zero_bit

/-! ## The grid's one point -/

theorem index_eq : ∀ t : Fin cfg0.N, win0_0.index t = ![0, 0] ∧ win0_1.index t = ![0, 0, 0] ∧ win0_2.index t = ![0, 0] ∧ win0_3.index t = ![0, 0]
    ∧ win0_4.index t = ![0, 0] ∧ win0_5.index t = ![0, 0] ∧ win0_6.index t = ![0, 0] ∧ win0_7.index t = ![0, 0]
    ∧ win0_8.index t = ![0, 0] ∧ win0_9.index t = ![0, 0] ∧ win0_10.index t = ![0, 0] ∧ win0_11.index t = ![0, 0]
    ∧ win0_12.index t = ![0, 0] ∧ win0_13.index t = ![0, 0] ∧ win0_14.index t = ![0, 0] ∧ win0_15.index t = ![0, 0] :=
  (by decide +kernel : ∀ t : Fin grid0.N, _)

theorem flush_eq : ∀ t : Fin cfg0.N, (cfg0.win 11).flush t = true
    ∧ (cfg0.win 12).flush t = true
    ∧ (cfg0.win 13).flush t = true
    ∧ (cfg0.win 14).flush t = true
    ∧ (cfg0.win 15).flush t = true :=
  (by decide +kernel : ∀ t : Fin grid0.N, _)

/-- The grid's one point. -/
def pt : Fin cfg0.N := ⟨0, by show 0 < 1; omega⟩

theorem emb0 (j : Fin 512) (k : Fin 1792) : ((cfg0.win 0).blk pt).view.emb (ix2 j k) = ix2 j k :=
  idx_of_block (s := 512) (w := 1792) _ (ix2 j k) _ (fun d => (cfg0.win 0).rect_emb_val pt (ix2 j k) d (hk := rfl)) (index_eq pt).1 j k (first 512 j) (first 1792 k)
theorem emb2 (j : Fin 1) (k : Fin 1792) : ((cfg0.win 2).blk pt).view.emb (ix2 j k) = ix2 j k :=
  idx_of_block (s := 1) (w := 1792) _ (ix2 j k) _ (fun d => (cfg0.win 2).rect_emb_val pt (ix2 j k) d (hk := rfl)) (index_eq pt).2.2.1 j k (first 1 j) (first 1792 k)
theorem emb3 (j : Fin 1) (k : Fin 512) : ((cfg0.win 3).blk pt).view.emb (ix2 j k) = ix2 j k :=
  idx_of_block (s := 1) (w := 512) _ (ix2 j k) _ (fun d => (cfg0.win 3).rect_emb_val pt (ix2 j k) d (hk := rfl)) (index_eq pt).2.2.2.1 j k (first 1 j) (first 512 k)
theorem emb4 (j : Fin 64) (k : Fin 512) : ((cfg0.win 4).blk pt).view.emb (ix2 j k) = ix2 j k :=
  idx_of_block (s := 64) (w := 512) _ (ix2 j k) _ (fun d => (cfg0.win 4).rect_emb_val pt (ix2 j k) d (hk := rfl)) (index_eq pt).2.2.2.2.1 j k (first 64 j) (first 512 k)
theorem emb5 (j : Fin 1) (k : Fin 512) : ((cfg0.win 5).blk pt).view.emb (ix2 j k) = ix2 j k :=
  idx_of_block (s := 1) (w := 512) _ (ix2 j k) _ (fun d => (cfg0.win 5).rect_emb_val pt (ix2 j k) d (hk := rfl)) (index_eq pt).2.2.2.2.2.1 j k (first 1 j) (first 512 k)
theorem emb6 (j : Fin 64) (k : Fin 512) : ((cfg0.win 6).blk pt).view.emb (ix2 j k) = ix2 j k :=
  idx_of_block (s := 64) (w := 512) _ (ix2 j k) _ (fun d => (cfg0.win 6).rect_emb_val pt (ix2 j k) d (hk := rfl)) (index_eq pt).2.2.2.2.2.2.1 j k (first 64 j) (first 512 k)
theorem emb7 (j : Fin 128) (k : Fin 512) : ((cfg0.win 7).blk pt).view.emb (ix2 j k) = ix2 j k :=
  idx_of_block (s := 128) (w := 512) _ (ix2 j k) _ (fun d => (cfg0.win 7).rect_emb_val pt (ix2 j k) d (hk := rfl)) (index_eq pt).2.2.2.2.2.2.2.1 j k (first 128 j) (first 512 k)
theorem emb8 (j : Fin 1) (k : Fin 512) : ((cfg0.win 8).blk pt).view.emb (ix2 j k) = ix2 j k :=
  idx_of_block (s := 1) (w := 512) _ (ix2 j k) _ (fun d => (cfg0.win 8).rect_emb_val pt (ix2 j k) d (hk := rfl)) (index_eq pt).2.2.2.2.2.2.2.2.1 j k (first 1 j) (first 512 k)
theorem emb9 (j : Fin 1) (k : Fin 512) : ((cfg0.win 9).blk pt).view.emb (ix2 j k) = ix2 j k :=
  idx_of_block (s := 1) (w := 512) _ (ix2 j k) _ (fun d => (cfg0.win 9).rect_emb_val pt (ix2 j k) d (hk := rfl)) (index_eq pt).2.2.2.2.2.2.2.2.2.1 j k (first 1 j) (first 512 k)
theorem emb10 (j : Fin 512) (k : Fin 512) : ((cfg0.win 10).blk pt).view.emb (ix2 j k) = ix2 j k :=
  idx_of_block (s := 512) (w := 512) _ (ix2 j k) _ (fun d => (cfg0.win 10).rect_emb_val pt (ix2 j k) d (hk := rfl)) (index_eq pt).2.2.2.2.2.2.2.2.2.2.1 j k (first 512 j) (first 512 k)
theorem emb11 (j : Fin 512) (k : Fin 1024) : ((cfg0.win 11).blk pt).view.emb (ix2 j k) = ix2 j k :=
  idx_of_block (s := 512) (w := 1024) _ (ix2 j k) _ (fun d => (cfg0.win 11).rect_emb_val pt (ix2 j k) d (hk := rfl)) (index_eq pt).2.2.2.2.2.2.2.2.2.2.2.1 j k (first 512 j) (first 1024 k)
theorem emb12 (j : Fin 512) (k : Fin 1024) : ((cfg0.win 12).blk pt).view.emb (ix2 j k) = ix2 j k :=
  idx_of_block (s := 512) (w := 1024) _ (ix2 j k) _ (fun d => (cfg0.win 12).rect_emb_val pt (ix2 j k) d (hk := rfl)) (index_eq pt).2.2.2.2.2.2.2.2.2.2.2.2.1 j k (first 512 j) (first 1024 k)
theorem emb13 (j : Fin 512) (k : Fin 1024) : ((cfg0.win 13).blk pt).view.emb (ix2 j k) = ix2 j k :=
  idx_of_block (s := 512) (w := 1024) _ (ix2 j k) _ (fun d => (cfg0.win 13).rect_emb_val pt (ix2 j k) d (hk := rfl)) (index_eq pt).2.2.2.2.2.2.2.2.2.2.2.2.2.1 j k (first 512 j) (first 1024 k)
theorem emb14 (j : Fin 512) (k : Fin 512) : ((cfg0.win 14).blk pt).view.emb (ix2 j k) = ix2 j k :=
  idx_of_block (s := 512) (w := 512) _ (ix2 j k) _ (fun d => (cfg0.win 14).rect_emb_val pt (ix2 j k) d (hk := rfl)) (index_eq pt).2.2.2.2.2.2.2.2.2.2.2.2.2.2.1 j k (first 512 j) (first 512 k)
theorem emb15 (j : Fin 512) (k : Fin 512) : ((cfg0.win 15).blk pt).view.emb (ix2 j k) = ix2 j k :=
  idx_of_block (s := 512) (w := 512) _ (ix2 j k) _ (fun d => (cfg0.win 15).rect_emb_val pt (ix2 j k) d (hk := rfl)) (index_eq pt).2.2.2.2.2.2.2.2.2.2.2.2.2.2.2 j k (first 512 j) (first 512 k)
theorem emb1 (j : Fin 128) (k : Fin 1792) : ((cfg0.win 1).blk pt).view.emb (ix3 0 j k) = ix3 0 j k :=
  idx_of_block3 (s := 128) (w := 1792) _ _ _ (fun d => (cfg0.win 1).rect_emb_val pt (ix3 0 j k) d (hk := rfl)) (index_eq pt).2.1

theorem array11 (n : Fin 512) (k : Fin 1024) :
    (dats m 0 c).arrAt 11 cfg0.N (ix2 n k) = (dats m 0 c).flushed 11 pt (ix2 n k) := by
  have h := blocks11 m c pt (flush_eq pt).1
  generalize (dats m 0 c).arrAt 11 cfg0.N = a at h ⊢
  exact (congrArg a (emb11 n k).symm).trans (congrFun h (ix2 n k))

theorem array12 (n : Fin 512) (k : Fin 1024) :
    (dats m 0 c).arrAt 12 cfg0.N (ix2 n k) = (dats m 0 c).flushed 12 pt (ix2 n k) := by
  have h := blocks12 m c pt (flush_eq pt).2.1
  generalize (dats m 0 c).arrAt 12 cfg0.N = a at h ⊢
  exact (congrArg a (emb12 n k).symm).trans (congrFun h (ix2 n k))

theorem array13 (n : Fin 512) (k : Fin 1024) :
    (dats m 0 c).arrAt 13 cfg0.N (ix2 n k) = (dats m 0 c).flushed 13 pt (ix2 n k) := by
  have h := blocks13 m c pt (flush_eq pt).2.2.1
  generalize (dats m 0 c).arrAt 13 cfg0.N = a at h ⊢
  exact (congrArg a (emb13 n k).symm).trans (congrFun h (ix2 n k))

theorem array14 (n : Fin 512) (k : Fin 512) :
    (dats m 0 c).arrAt 14 cfg0.N (ix2 n k) = (dats m 0 c).flushed 14 pt (ix2 n k) := by
  have h := blocks14 m c pt (flush_eq pt).2.2.2.1
  generalize (dats m 0 c).arrAt 14 cfg0.N = a at h ⊢
  exact (congrArg a (emb14 n k).symm).trans (congrFun h (ix2 n k))

theorem array15 (n : Fin 512) (k : Fin 512) :
    (dats m 0 c).arrAt 15 cfg0.N (ix2 n k) = (dats m 0 c).flushed 15 pt (ix2 n k) := by
  have h := blocks15 m c pt (flush_eq pt).2.2.2.2
  generalize (dats m 0 c).arrAt 15 cfg0.N = a at h ⊢
  exact (congrArg a (emb15 n k).symm).trans (congrFun h (ix2 n k))

/-! The blocks at the grid's one point. -/

theorem block0 (n : Fin 512) (q : Fin 1792) : iblk m c 0 pt (ix2 n q) = argX m c (ix2 n q) := by
  unfold iblk
  exact (congrArg (V m c main_arg0) (emb0 n q)).trans (V_rows m c n q)

theorem block1 (n : Fin 128) (q : Fin 1792) : iblk m c 1 pt (ix3 0 n q) = argS m c (ix2 n q) := by
  unfold iblk
  exact (congrArg (V m c main_v21) (emb1 n q)).trans (V_carried m c n q)

theorem block2 (q : Fin 1792) : iblk m c 2 pt (ix2 0 q) = argM m c (ix2 0 q) := by
  unfold iblk
  exact (congrArg (V m c main_v1) (emb2 0 q)).trans (V_mu m c q)

theorem block3 (q : Fin 512) : iblk m c 3 pt (ix2 0 q) = argW0 m c (ix2 0 q) := by
  unfold iblk
  exact (congrArg (V m c main_v3) (emb3 0 q)).trans (V_w0 m c q)

theorem block4 (k : Fin 64) (q : Fin 512) : iblk m c 4 pt (ix2 k q) = argW2 m c (ix3 0 k q) := by
  unfold iblk
  exact (congrArg (V m c main_v4) (emb4 k q)).trans (V_w2 m c k q)

theorem block5 (q : Fin 512) : iblk m c 5 pt (ix2 0 q) = argA0 m c (ix2 0 q) := by
  unfold iblk
  exact (congrArg (V m c main_v6) (emb5 0 q)).trans (V_a0 m c q)

theorem block6 (k : Fin 64) (q : Fin 512) : iblk m c 6 pt (ix2 k q) = argA2 m c (ix3 0 k q) := by
  unfold iblk
  exact (congrArg (V m c main_v7) (emb6 k q)).trans (V_a2 m c k q)

theorem block7 (k : Fin 128) (q : Fin 512) : iblk m c 7 pt (ix2 k q) = argG2 m c (ix3 0 k q) := by
  unfold iblk
  exact (congrArg (V m c main_v8) (emb7 k q)).trans (V_g2 m c k q)

theorem block8 (q : Fin 512) : iblk m c 8 pt (ix2 0 q) = argKk m c (ix2 0 q) := by
  unfold iblk
  exact (congrArg (V m c main_v10) (emb8 0 q)).trans (V_kk m c q)

theorem block9 (q : Fin 512) : iblk m c 9 pt (ix2 0 q) = argKa m c (ix2 0 q) := by
  unfold iblk
  exact (congrArg (V m c main_v12) (emb9 0 q)).trans (V_ka m c q)

theorem block10 (k : Fin 512) (q : Fin 512) : iblk m c 10 pt (ix2 k q) = (if k.val / 64 = q.val / 64 then 1 else 0 : EReal) := by
  unfold iblk
  exact (congrArg (V m c main_v20) (emb10 k q)).trans (V_ones m c k q)

end Cert.Shifting

end
-- ==== Proof.ShiftFinal.lean ====
module

public import proofs.«01_k».proof.Proof.ShiftArrays
public import proofs.«01_k».proof.Pre_finite_rows

@[expose] public section

set_option maxRecDepth 512

noncomputable section

/-! The arrays that `_rwkv_prep` leaves, in plain terms of the arguments. -/

namespace Cert.Pre_finite_rows

open Idealize.ShloMosaic

instance facts : Cert.Pre_finite_rows.Facts where
  bcast_S_S512x1792 := by decide
  reducesTo_S512x1792_S_d0_1 := by decide
  h_S_ := by decide
  bcast_S_S128x1792 := by decide
  reducesTo_S128x1792_S_d0_1 := by decide
  bcast_S_S1x1792 := by decide
  reducesTo_S1x1792_S_d0_1 := by decide
  bcast_S_S1x64x512 := by decide
  reducesTo_S1x64x512_S_d0_1_2 := by decide
  bcast_S_S1x128x512 := by decide
  reducesTo_S1x128x512_S_d0_1_2 := by decide
  bcast_S_S1x512 := by decide
  reducesTo_S1x512_S_d0_1 := by decide

instance : Subsingleton S_.Idx := ⟨fun f g => funext fun d => d.elim0⟩

/-- The precondition makes the rows and the weights that meet them real. -/
theorem reals (a0 : FVec Ideal S512x1792 .f32) (a1 : FVec Ideal S128x1792 .f32) (a2 : FVec Ideal S1x1792 .f32) (a3 : FVec Ideal S1x512 .f32)
    (a4 : FVec Ideal S1x64x512 .f32) (a5 : FVec Ideal S1x512 .f32) (a6 : FVec Ideal S1x64x512 .f32) (a7 : FVec Ideal S1x128x512 .f32)
    (a8 a9 : FVec Ideal S1x512 .f32) (h : fn a0 a1 a2 a3 a4 a5 a6 a7 a8 a9 = fun _ => 1#1) :
    (∀ i, ∃ r : ℝ, a0 i = r) ∧ (∀ i, ∃ r : ℝ, a1 i = r) ∧ (∀ i, ∃ r : ℝ, a2 i = r) ∧ (∀ i, ∃ r : ℝ, a4 i = r)
      ∧ (∀ i, ∃ r : ℝ, a6 i = r) ∧ (∀ i, ∃ r : ℝ, a7 i = r) ∧ ∀ i, ∃ r : ℝ, a8 i = r := by
  have h' := congrFun h (fun d => d.elim0)
  obtain ⟨h5, k8⟩ := IntOp.andi_eq_one.1 h'
  obtain ⟨h4, k7⟩ := IntOp.andi_eq_one.1 h5
  obtain ⟨h3, k6⟩ := IntOp.andi_eq_one.1 h4
  obtain ⟨h2, k4⟩ := IntOp.andi_eq_one.1 h3
  obtain ⟨h1, k2⟩ := IntOp.andi_eq_one.1 h2
  obtain ⟨k0, k1⟩ := IntOp.andi_eq_one.1 h1
  exact ⟨fun i => Cert.Pre_finite.real_of_bit _ (Host.reduce_andi_all _ _ _ _ _ k0 i),
    fun i => Cert.Pre_finite.real_of_bit _ (Host.reduce_andi_all _ _ _ _ _ k1 i),
    fun i => Cert.Pre_finite.real_of_bit _ (Host.reduce_andi_all _ _ _ _ _ k2 i),
    fun i => Cert.Pre_finite.real_of_bit _ (Host.reduce_andi_all _ _ _ _ _ k4 i),
    fun i => Cert.Pre_finite.real_of_bit _ (Host.reduce_andi_all _ _ _ _ _ k6 i),
    fun i => Cert.Pre_finite.real_of_bit _ (Host.reduce_andi_all _ _ _ _ _ k7 i),
    fun i => Cert.Pre_finite.real_of_bit _ (Host.reduce_andi_all _ _ _ _ _ k8 i)⟩

end Cert.Pre_finite_rows

namespace Cert.Shifting

open Cert.ShiftIdeal Cert.ShiftIdeal.Gen Cert.ShiftIdeal.Value Cert.Projection
open Idealize.ShloMosaic
open Idealize.ShloMosaic.TcCoe
open Idealize.SL.Sem

section

variable (x0 : Vec Ideal S512x1792 .f32) (x1 : Vec Ideal S1x128x1792 .f32) (x2 : Vec Ideal S1x1792 .f32)
  (X : FVec Ideal ⟨2, ![512, 1792]⟩ .f32) (S : FVec Ideal ⟨2, ![128, 1792]⟩ .f32) (M : FVec Ideal ⟨2, ![1, 1792]⟩ .f32)
  (h0 : ∀ n q, x0 (ix2 n q) = X (ix2 n q)) (h1 : ∀ (n : Fin 128) q, x1 (ix3 0 n q) = S (ix2 n q)) (h2 : ∀ q, x2 (ix2 0 q) = M (ix2 0 q))

include h0 h1 in
theorem prior_eq (n : Fin 512) (q : Fin 1792) : prior x0 x1 (ix2 n q) = priorOf X S n q := by
  show before x0 x1 n q = priorOf X S n q
  unfold before priorOf
  by_cases h : n.val < 128
  · rw [dif_pos h, dif_pos h, h1]
  · rw [dif_neg h, dif_neg h, h0]

include h0 h1 h2 in
theorem row_eq (n : Fin 512) : row x0 x1 x2 n = shifted X S M n := by
  funext q
  unfold row moved shifted
  rw [prior_eq x0 x1 X S h0 h1, h0, h2]

end

variable (m : (ℓ : Loc nD τ sig) → Buf (Elt Ideal) ℓ) (c : Dev nD)

theorem row_final (n : Fin 512) :
    row (iblk m c 0 pt) (iblk m c 1 pt) (iblk m c 2 pt) n = shifted (argX m c) (argS m c) (argM m c) n :=
  row_eq _ _ _ _ _ _ (block0 m c) (block1 m c) (block2 m c) n

theorem rr_final (n : Fin 512) (q : Fin 1024) :
    (dats m 0 c).arrAt 13 cfg0.N (ix2 n q) = rowRr (shifted (argX m c) (argS m c) (argM m c) n) q :=
  (array13 m c n q).trans ((congrFun (flushed13_A m c pt) (ix2 n q)).trans ((out13_at _ _ _ _ _ _ _ _ _ _ _ _ _ _ _ _ _ _ _ _ _ _ _ _ _ _ _ _ _ _ _ _ _ _ _ _ _ _ _ _ _ _ _ _ _ _ _ _ _ n q).trans
    (congrArg (fun z => rowRr z q) (row_final m c n))))

theorem v_final (n : Fin 512) (q : Fin 512) :
    (dats m 0 c).arrAt 14 cfg0.N (ix2 n q) = shifted (argX m c) (argS m c) (argM m c) n ⟨1024 + q.val, by omega⟩ :=
  (array14 m c n q).trans ((congrFun (flushed14_A m c pt) (ix2 n q)).trans ((out14_at _ _ _ _ _ _ _ _ _ _ _ _ _ _ _ _ _ _ _ _ _ _ _ _ _ _ _ _ _ _ _ _ _ _ _ _ _ _ _ _ _ _ _ _ _ _ _ _ _ n q).trans
    (congrFun (row_final m c n) _)))

section

variable (hX : ∀ i, ∃ r : ℝ, argX m c i = r) (hS : ∀ i, ∃ r : ℝ, argS m c i = r) (hM : ∀ i, ∃ r : ℝ, argM m c i = r)

include hX hS hM in
theorem g_final (hG : ∀ i, ∃ r : ℝ, argG2 m c i = r) (n : Fin 512) (q : Fin 512) :
    (dats m 0 c).arrAt 15 cfg0.N (ix2 n q)
      = gates (shifted (argX m c) (argS m c) (argM m c) n) (fun k q => argG2 m c (ix3 0 k q)) q := by
  refine (array15 m c n q).trans ((congrFun (flushed15_A m c pt) (ix2 n q)).trans ((out15_at _ _ _ _ _ _ _ _ _ _ _ _ _ _ _ _ _ _ _ _ _ _ _ _ _ _ _ _ _ _ _ _ _ _ _ _ _ _ _ _ _ _ _ _ _ _ _ _ _ n q).trans ?_))
  rw [row_final, funext (fun k => funext (block7 m c k))]
  exact bodyGates_eq _ _ (shifted_real _ _ _ hX hS hM n) (fun k q => hG _) q

variable (hK : ∀ i, ∃ r : ℝ, argKk m c i = r)

include hX hS hM hK in
theorem wa_final (hW : ∀ i, ∃ r : ℝ, argW2 m c i = r) (n : Fin 512) (q : Fin 1024) :
    (dats m 0 c).arrAt 11 cfg0.N (ix2 n q)
      = rowWa (shifted (argX m c) (argS m c) (argM m c) n) (fun q => argW0 m c (ix2 0 q)) (fun q => argKk m c (ix2 0 q))
          (fun k q => argW2 m c (ix3 0 k q)) q := by
  refine (array11 m c n q).trans ((congrFun (flushed11_A m c pt) (ix2 n q)).trans ((out11_at _ _ _ _ _ _ _ _ _ _ _ _ _ _ _ _ _ _ _ _ _ _ _ _ _ _ _ _ _ _ _ _ _ _ _ _ _ _ _ _ _ _ _ _ _ _ _ _ _ n q).trans ?_))
  rw [row_final, funext (block3 m c), funext (block8 m c), funext (fun k => funext (block4 m c k))]
  exact bodyWa_eq _ _ _ _ _ (shifted_real _ _ _ hX hS hM n) (fun q => hK _) (block10 m c) (fun k q => hW _) q

include hX hS hM hK in
theorem bk_final (hA : ∀ i, ∃ r : ℝ, argA2 m c i = r) (n : Fin 512) (q : Fin 1024) :
    (dats m 0 c).arrAt 12 cfg0.N (ix2 n q)
      = rowBk (shifted (argX m c) (argS m c) (argM m c) n) (fun q => argA0 m c (ix2 0 q)) (fun q => argKk m c (ix2 0 q))
          (fun q => argKa m c (ix2 0 q)) (fun k q => argA2 m c (ix3 0 k q)) q := by
  refine (array12 m c n q).trans ((congrFun (flushed12_A m c pt) (ix2 n q)).trans ((out12_at _ _ _ _ _ _ _ _ _ _ _ _ _ _ _ _ _ _ _ _ _ _ _ _ _ _ _ _ _ _ _ _ _ _ _ _ _ _ _ _ _ _ _ _ _ _ _ _ _ n q).trans ?_))
  rw [row_final, funext (block5 m c), funext (block8 m c), funext (block9 m c), funext (fun k => funext (block6 m c k))]
  exact bodyBk_eq _ _ _ _ _ _ (shifted_real _ _ _ hX hS hM n) (fun q => hK _) (block10 m c) (fun k q => hA _) q

end

end Cert.Shifting

end
-- ==== Proof.ShiftReference.lean ====
module

public import proofs.«01_k».proof.Proof.ShiftMath
public import proofs.«01_k».proof.Proof.Gen.ShiftReferenceIdeal.Run

@[expose] public section

set_option maxRecDepth 4096

noncomputable section

/-! The reference of the token shift, the gates and the keys, element by element. -/

namespace Cert.Shifting.Reference

open Cert.ShiftReferenceIdeal Cert.ShiftReferenceIdeal.Gen Cert.ShiftReferenceIdeal.Value Cert.Projection Cert.Shifting
open Idealize.ShloMosaic
open Idealize.ShloMosaic.TcCoe Idealize.ShloMosaic.Tactic

variable (X : FVec Ideal S512x1792 .f32) (S : FVec Ideal S128x1792 .f32) (M : FVec Ideal S1x1792 .f32)
  (w0 a0 kk ka : FVec Ideal S1x512 .f32) (w2 a2 : FVec Ideal S1x64x512 .f32) (g2 : FVec Ideal S1x128x512 .f32)

/-- The rows before. -/
def priors : FVec Ideal S512x1792 .f32 :=
  concatenate S512x1792 0 [⟨S128x1792, S⟩, ⟨S384x1792, (extractStridedSlice S384x1792 ![0, 0] X slices_S512x1792_S384x1792_0_0)⟩] concatenates_S128x1792_S384x1792_S512x1792_d0

theorem priors_at (n : Fin 512) (q : Fin 1792) : priors X S (ix2 n q) = priorOf X S n q := by
  unfold priors priorOf
  pointwise []

/-- The rows, moved towards the rows before. -/
def rows : FVec Ideal S512x1792 .f32 :=
  addf X (mulf (subf (priors X S) X) (broadcastInDim S512x1792 ![0, 1] bcast_S1x1792_S512x1792_0_1 (broadcastInDim S1x1792 ![1] bcast_S1792_S1x1792_1 (shapeCast _ M shapeCasts_S1x1792_S1792))))

theorem rows_at (n : Fin 512) (q : Fin 1792) : rows X S M (ix2 n q) = shifted X S M n q := by
  unfold rows shifted
  pointwise [priors_at]

/-- What the decay's gate reads, negated. -/
def gateRows : FVec Ideal S512x512 .f32 :=
  Host.negf (addf (broadcastInDim S512x512 ![0, 1] bcast_S1x512_S512x512_0_1 (broadcastInDim S1x512 ![1] bcast_S512_S1x512_1 (shapeCast _ w0 shapeCasts_S1x512_S512))) (Host.dotGeneral dot_S512x64_S64x512_S512x512_1_0_0_1_n_n none (Host.tanh (extractStridedSlice S512x64 ![0, 1536] (rows X S M) slices_S512x1792_S512x64_0_1536)) (shapeCast _ w2 shapeCasts_S1x64x512_S64x512)))

theorem gateRows_at (n q : Fin 512) :
    gateRows X S M w0 w2 (ix2 n q)
      = -(w0 (ix2 0 q) + ∑ k : Fin 64, Ideal.tanh (shifted X S M n ⟨1536 + k.val, by omega⟩) * w2 (ix3 0 k q)) := by
  unfold gateRows
  pointwise [rows_at]

/-- The decays. -/
def decayRows : FVec Ideal S512x512 .f32 :=
  Host.exp (Host.negf (Host.exp (subf (Host.negf (select (cmpf .une (subf (gateRows X S M w0 w2) (broadcastInDim S512x512 ![] bcast_S_S512x512 (constant S_ .f32 0x00000000#32))) (subf (gateRows X S M w0 w2) (broadcastInDim S512x512 ![] bcast_S_S512x512 (constant S_ .f32 0x00000000#32)))) (addf (gateRows X S M w0 w2) (broadcastInDim S512x512 ![] bcast_S_S512x512 (constant S_ .f32 0x00000000#32))) (addf (maximumf (gateRows X S M w0 w2) (broadcastInDim S512x512 ![] bcast_S_S512x512 (constant S_ .f32 0x00000000#32))) (Host.log1p (Host.exp (Host.negf (Host.absf (subf (gateRows X S M w0 w2) (broadcastInDim S512x512 ![] bcast_S_S512x512 (constant S_ .f32 0x00000000#32)))))))))) (broadcastInDim S512x512 ![] bcast_S_S512x512 (constant S_ .f32 0x3F000000#32)))))

theorem decayRows_at (n q : Fin 512) :
    decayRows X S M w0 w2 (ix2 n q) = decays (shifted X S M n) (fun q => w0 (ix2 0 q)) (fun k q => w2 (ix3 0 k q)) q := by
  unfold decayRows decays decayOf softplus
  pointwise [gateRows_at]
  rw [if_neg (fun e => e rfl)]
  rfl

/-- The rates. -/
def rateRows : FVec Ideal S512x512 .f32 :=
  Host.divf (broadcastInDim S512x512 ![] bcast_S_S512x512 (constant S_ .f32 0x3F800000#32)) (addf (broadcastInDim S512x512 ![] bcast_S_S512x512 (constant S_ .f32 0x3F800000#32)) (Host.exp (Host.negf (addf (broadcastInDim S512x512 ![0, 1] bcast_S1x512_S512x512_0_1 (broadcastInDim S1x512 ![1] bcast_S512_S1x512_1 (shapeCast _ a0 shapeCasts_S1x512_S512))) (Host.dotGeneral dot_S512x64_S64x512_S512x512_1_0_0_1_n_n none (extractStridedSlice S512x64 ![0, 1600] (rows X S M) slices_S512x1792_S512x64_0_1600) (shapeCast _ a2 shapeCasts_S1x64x512_S64x512))))))

theorem rateRows_at (n q : Fin 512) :
    rateRows X S M a0 a2 (ix2 n q) = rates (shifted X S M n) (fun q => a0 (ix2 0 q)) (fun k q => a2 (ix3 0 k q)) q := by
  unfold rateRows rates sigma
  pointwise [rows_at]

/-- The keys, head by head. -/
def keyHeads : FVec Ideal S512x8x64 .f32 :=
  shapeCast _ (mulf (extractStridedSlice S512x512 ![0, 512] (rows X S M) slices_S512x1792_S512x512_0_512) (broadcastInDim S512x512 ![0, 1] bcast_S1x512_S512x512_0_1 (broadcastInDim S1x512 ![1] bcast_S512_S1x512_1 (shapeCast _ kk shapeCasts_S1x512_S512)))) shapeCasts_S512x512_S512x8x64

/-- The keys over the lengths of their heads. -/
def units : FVec Ideal S512x512 .f32 :=
  shapeCast _ (mulf (keyHeads X S M kk) (broadcastInDim S512x8x64 ![0, 1, 2] bcast_S512x8x1_S512x8x64_0_1_2 (Host.rsqrt (addf (broadcastInDim S512x8x1 ![0, 1] bcast_S512x8_S512x8x1_0_1 (Host.reduceAdd (mulf (keyHeads X S M kk) (keyHeads X S M kk)) (constant S_ .f32 0x00000000#32) reducesTo_S512x8x64_S512x8_d2 h_S_)) (broadcastInDim S512x8x1 ![] bcast_S_S512x8x1 (constant S_ .f32 0x358637BD#32)))))) shapeCasts_S512x8x64_S512x512

theorem units_at (n q : Fin 512) :
    units X S M kk (ix2 n q) = unit64 (scaled (shifted X S M n) (fun q => kk (ix2 0 q))) q := by
  unfold units keyHeads unit64 scaled
  pointwise [rows_at]

/-- The results. -/
def wa : FVec Ideal S512x1024 .f32 :=
  concatenate S512x1024 1 [⟨S512x512, (decayRows X S M w0 w2)⟩, ⟨S512x512, (Host.negf (units X S M kk))⟩] concatenates_S512x512_S512x512_S512x1024_d1
def bk : FVec Ideal S512x1024 .f32 :=
  concatenate S512x1024 1 [⟨S512x512, (mulf (units X S M kk) (rateRows X S M a0 a2))⟩, ⟨S512x512, (mulf (extractStridedSlice S512x512 ![0, 512] (rows X S M) slices_S512x1792_S512x512_0_512) (addf (broadcastInDim S512x512 ![] bcast_S_S512x512 (constant S_ .f32 0x3F800000#32)) (mulf (subf (rateRows X S M a0 a2) (broadcastInDim S512x512 ![] bcast_S_S512x512 (constant S_ .f32 0x3F800000#32))) (broadcastInDim S512x512 ![0, 1] bcast_S1x512_S512x512_0_1 (broadcastInDim S1x512 ![1] bcast_S512_S1x512_1 (shapeCast _ ka shapeCasts_S1x512_S512))))))⟩] concatenates_S512x512_S512x512_S512x1024_d1
def rr : FVec Ideal S512x1024 .f32 :=
  concatenate S512x1024 1 [⟨S512x512, (extractStridedSlice S512x512 ![0, 0] (rows X S M) slices_S512x1792_S512x512_0_0)⟩, ⟨S512x512, (extractStridedSlice S512x512 ![0, 0] (rows X S M) slices_S512x1792_S512x512_0_0)⟩] concatenates_S512x512_S512x512_S512x1024_d1
def v : FVec Ideal S512x512 .f32 :=
  extractStridedSlice S512x512 ![0, 1024] (rows X S M) slices_S512x1792_S512x512_0_1024
def g : FVec Ideal S512x512 .f32 :=
  Host.dotGeneral dot_S512x128_S128x512_S512x512_1_0_0_1_n_n none (Host.divf (broadcastInDim S512x128 ![] bcast_S_S512x128 (constant S_ .f32 0x3F800000#32)) (addf (broadcastInDim S512x128 ![] bcast_S_S512x128 (constant S_ .f32 0x3F800000#32)) (Host.exp (Host.negf (extractStridedSlice S512x128 ![0, 1664] (rows X S M) slices_S512x1792_S512x128_0_1664))))) (shapeCast _ g2 shapeCasts_S1x128x512_S128x512)

theorem wa_at (n : Fin 512) (q : Fin 1024) :
    wa X S M w0 kk w2 (ix2 n q)
      = rowWa (shifted X S M n) (fun q => w0 (ix2 0 q)) (fun q => kk (ix2 0 q)) (fun k q => w2 (ix3 0 k q)) q := by
  unfold wa rowWa paired
  pointwise [decayRows_at, units_at]

theorem bk_at (n : Fin 512) (q : Fin 1024) :
    bk X S M a0 kk ka a2 (ix2 n q)
      = rowBk (shifted X S M n) (fun q => a0 (ix2 0 q)) (fun q => kk (ix2 0 q)) (fun q => ka (ix2 0 q)) (fun k q => a2 (ix3 0 k q)) q := by
  unfold bk rowBk paired
  pointwise [rateRows_at, units_at, rows_at]

theorem rr_at (n : Fin 512) (q : Fin 1024) : rr X S M (ix2 n q) = rowRr (shifted X S M n) q := by
  unfold rr rowRr paired
  pointwise [rows_at]

theorem v_at (n q : Fin 512) : v X S M (ix2 n q) = shifted X S M n ⟨1024 + q.val, by omega⟩ := by
  unfold v
  pointwise [rows_at]

theorem g_at (n q : Fin 512) : g X S M g2 (ix2 n q) = gates (shifted X S M n) (fun k q => g2 (ix3 0 k q)) q := by
  unfold g gates sigma
  pointwise [rows_at]

end Cert.Shifting.Reference

end
-- ==== Proof.ShiftEqual.lean ====
module

public import proofs.«01_k».proof.Proof.ShiftFinal
public import proofs.«01_k».proof.Proof.ShiftReference
public import proofs.«01_k».proof.Defs

@[expose] public section

set_option maxRecDepth 4096
set_option maxHeartbeats 2000000

noncomputable section

/-! The token shift, the gates and the keys: from equal real arguments the kernel and its reference give equal results. -/

namespace Cert.Shifting

open Cert.ShiftIdeal Cert.ShiftIdeal.Gen Cert.Projection
open Idealize.ShloMosaic
open Idealize.ShloMosaic.TcCoe
open Idealize.SL.Sem

/-- The value claim. -/
theorem algebraic : Cert.algebraic_ShiftIdeal_ShiftReferenceIdeal_pre_finite_rows := fun m g m' g' hp ha => by
  refine ⟨fun c => (dats m 0 c).arrAt 11 cfg0.N, fun c => (dats m 0 c).arrAt 12 cfg0.N, fun c => (dats m 0 c).arrAt 13 cfg0.N,
    fun c => (dats m 0 c).arrAt 14 cfg0.N, fun c => (dats m 0 c).arrAt 15 cfg0.N, Cert.ShiftIdeal.Value.run_blocks (F := Ideal) m g, ?_⟩
  refine (θ_run Cert.ShiftReferenceIdeal.defs _ _).mono (fun r h c => ?_) (Cert.ShiftReferenceIdeal.Value.run (F := Ideal) m' g')
  obtain ⟨hX, hS, hM, hW, hA, hG, hK⟩ := Cert.Pre_finite_rows.reals _ _ _ _ _ _ _ _ _ _ (hp c)
  have hc := h c
  obtain ⟨e0, e1, e2, e3, e4, e5, e6, e7, e8, e9⟩ := ha c
  unfold Cert.ShiftReferenceIdeal.Value.res_main_v64 Cert.ShiftReferenceIdeal.Value.res_main_v75 at hc
  rw [e0, e1, e2, e3, e4, e5, e6, e7, e8, e9] at hc
  obtain ⟨r11, r12, r13, r14, r15, k0, k1, k2, k3, k4, k5, k6, k7, k8, k9⟩ := hc
  exact ⟨r11.trans (ext2 _ _ fun n q => (Reference.wa_at (argX m c) (argS m c) (argM m c) (argW0 m c) (argKk m c) (argW2 m c) n q).trans
      (wa_final m c hX hS hM hK hW n q).symm),
    r12.trans (ext2 _ _ fun n q => (Reference.bk_at (argX m c) (argS m c) (argM m c) (argA0 m c) (argKk m c) (argKa m c) (argA2 m c) n q).trans
      (bk_final m c hX hS hM hK hA n q).symm),
    r13.trans (ext2 _ _ fun n q => (Reference.rr_at (argX m c) (argS m c) (argM m c) n q).trans (rr_final m c n q).symm),
    r14.trans (ext2 _ _ fun n q => (Reference.v_at (argX m c) (argS m c) (argM m c) n q).trans (v_final m c n q).symm),
    r15.trans (ext2 _ _ fun n q => (Reference.g_at (argX m c) (argS m c) (argM m c) (argG2 m c) n q).trans
      (g_final m c hX hS hM hG n q).symm),
    k0.trans e0.symm, k1.trans e1.symm, k2.trans e2.symm, k3.trans e3.symm, k4.trans e4.symm, k5.trans e5.symm, k6.trans e6.symm,
    k7.trans e7.symm, k8.trans e8.symm, k9.trans e9.symm⟩

end Cert.Shifting

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Flash
public import proofs.«01_k».proof.Proof.Gen.ReferenceIdeal
public import proofs.«01_k».proof.Proof.Gen.ReferenceIdeal.Run
public import proofs.«01_k».proof.Proof.Gen.Prompt.Frame
public import proofs.«01_k».proof.Proof.Gen.PromptIdeal.Value
public import proofs.«01_k».proof.Proof.Gen.PromptReferenceIdeal.Run
public import proofs.«01_k».proof.Proof.Gen.Sample.Frame
public import proofs.«01_k».proof.Proof.Gen.SampleIdeal.Value
public import proofs.«01_k».proof.Proof.Gen.SampleReferenceIdeal.Run
public import proofs.«01_k».proof.Proof.Gen.Conv.Frame
public import proofs.«01_k».proof.Proof.Gen.ConvIdeal.Value
public import proofs.«01_k».proof.Proof.Gen.ConvReferenceIdeal.Run
public import proofs.«01_k».proof.Proof.Gen.Shift.Frame
public import proofs.«01_k».proof.Proof.Gen.ShiftIdeal.Value
public import proofs.«01_k».proof.Proof.Gen.ShiftReferenceIdeal.Run
public import proofs.«01_k».proof.Proof.ExpertMain
public import proofs.«01_k».proof.Proof.ExpertEqual
public import proofs.«01_k».proof.Proof.ProjectionPromptEqual
public import proofs.«01_k».proof.Proof.ProjectionSampleEqual
public import proofs.«01_k».proof.Proof.ConvEqual
public import proofs.«01_k».proof.Proof.ShiftEqual
public import Idealize.ShloMosaic.Lib.Quiescent
public import Idealize.ShloMosaic.Adequacy
public import Idealize.ShloMosaic.Init

@[expose] public section

noncomputable section

namespace Cert.Proof

open Idealize.ShloMosaic Idealize.SL.Sem Cert.Kernel

theorem frame_kernel : Cert.quiescent_Kernel := fun m ρ _ =>
  Eq.mpr (by chain_rfl) (Cert.KernelIdeal.Experts.frame (F := Bits) m ρ)

theorem frame_kernelIdeal : Cert.quiescent_KernelIdeal := fun m ρ _ => Cert.KernelIdeal.Experts.frame (F := Ideal) m ρ

theorem frame_referenceIdeal : Cert.quiescent_ReferenceIdeal := fun m ρ _ =>
  (θ_run Cert.ReferenceIdeal.defs _ _).mono (fun r h => ⟨fun c => (h c).2, sem_eq_zero_of_no_sems rfl r.2⟩)
    (Cert.ReferenceIdeal.Value.run (F := Ideal) m ρ)

theorem algebraic : Cert.algebraic_KernelIdeal_ReferenceIdeal := fun m g m' g' _ ha => by
  refine ⟨fun c => Cert.KernelIdeal.Experts.final m c, Cert.KernelIdeal.Experts.run_final m g, ?_⟩
  refine (θ_run Cert.ReferenceIdeal.defs _ _).mono (fun r h c => ⟨?_, (h c).2⟩) (Cert.ReferenceIdeal.Value.run (F := Ideal) m' g')
  have hc : c = 0 := Subsingleton.elim _ _
  subst hc
  exact (h 0).1.trans (Cert.KernelIdeal.Experts.equal m m' (ha 0).1 (ha 0).2.1 (ha 0).2.2.1 (ha 0).2.2.2.1 (ha 0).2.2.2.2)

theorem frame_prompt : Cert.quiescent_Prompt := fun m ρ _ => Cert.Prompt.Gen.frame m ρ

theorem frame_promptIdeal : Cert.quiescent_PromptIdeal := fun m ρ _ => Cert.PromptIdeal.Gen.frame m ρ

theorem frame_promptReferenceIdeal : Cert.quiescent_PromptReferenceIdeal := fun m ρ _ =>
  (θ_run Cert.PromptReferenceIdeal.defs _ _).mono (fun r h => ⟨fun c => (h c).2.2.2.2.2.2, sem_eq_zero_of_no_sems rfl r.2⟩)
    (Cert.PromptReferenceIdeal.Value.run (F := Ideal) m ρ)

theorem frame_sample : Cert.quiescent_Sample := fun m ρ _ => Cert.Sample.Gen.frame m ρ

theorem frame_sampleIdeal : Cert.quiescent_SampleIdeal := fun m ρ _ => Cert.SampleIdeal.Gen.frame m ρ

theorem frame_sampleReferenceIdeal : Cert.quiescent_SampleReferenceIdeal := fun m ρ _ =>
  (θ_run Cert.SampleReferenceIdeal.defs _ _).mono (fun r h => ⟨fun c => (h c).2.2.2.2.2.2, sem_eq_zero_of_no_sems rfl r.2⟩)
    (Cert.SampleReferenceIdeal.Value.run (F := Ideal) m ρ)

theorem frame_conv : Cert.quiescent_Conv := fun m ρ _ => Cert.Conv.Gen.frame m ρ

theorem frame_convIdeal : Cert.quiescent_ConvIdeal := fun m ρ _ => Cert.ConvIdeal.Gen.frame m ρ

theorem frame_convReferenceIdeal : Cert.quiescent_ConvReferenceIdeal := fun m ρ _ =>
  (θ_run Cert.ConvReferenceIdeal.defs _ _).mono (fun r h => ⟨fun c => (h c).2.2.2.2, sem_eq_zero_of_no_sems rfl r.2⟩)
    (Cert.ConvReferenceIdeal.Value.run (F := Ideal) m ρ)

theorem frame_shift : Cert.quiescent_Shift := fun m ρ _ => Cert.Shift.Gen.frame m ρ

theorem frame_shiftIdeal : Cert.quiescent_ShiftIdeal := fun m ρ _ => Cert.ShiftIdeal.Gen.frame m ρ

theorem frame_shiftReferenceIdeal : Cert.quiescent_ShiftReferenceIdeal := fun m ρ _ =>
  (θ_run Cert.ShiftReferenceIdeal.defs _ _).mono (fun r h => ⟨fun c => (h c).2.2.2.2.2, sem_eq_zero_of_no_sems rfl r.2⟩)
    (Cert.ShiftReferenceIdeal.Value.run (F := Ideal) m ρ)

theorem claim : Cert.Claim := ⟨Cert.Kernel.Gen.facts, Cert.KernelIdeal.Gen.facts, Cert.ReferenceIdeal.Gen.facts,
  Cert.Prompt.Gen.facts, Cert.PromptIdeal.Gen.facts, Cert.PromptReferenceIdeal.Gen.facts,
  Cert.Sample.Gen.facts, Cert.SampleIdeal.Gen.facts, Cert.SampleReferenceIdeal.Gen.facts,
  Cert.Conv.Gen.facts, Cert.ConvIdeal.Gen.facts, Cert.ConvReferenceIdeal.Gen.facts,
  Cert.Shift.Gen.facts, Cert.ShiftIdeal.Gen.facts, Cert.ShiftReferenceIdeal.Gen.facts, Cert.Pre_finite.facts, Cert.Pre_finite_rows.facts,
  frame_kernel, frame_kernelIdeal, frame_referenceIdeal, frame_prompt, frame_promptIdeal, frame_promptReferenceIdeal,
  frame_sample, frame_sampleIdeal, frame_sampleReferenceIdeal,
  frame_conv, frame_convIdeal, fun m ρ _ => frame_convIdeal m ρ trivial, frame_convReferenceIdeal, fun m ρ _ => frame_convReferenceIdeal m ρ trivial,
  frame_shift, frame_shiftIdeal, fun m ρ _ => frame_shiftIdeal m ρ trivial, frame_shiftReferenceIdeal,
  fun m ρ _ => frame_shiftReferenceIdeal m ρ trivial,
  trivial, algebraic, trivial, Cert.Projection.Prompt.algebraic, trivial, Cert.Projection.Sample.algebraic,
  trivial, Cert.Convolution.algebraic, trivial, Cert.Shifting.algebraic⟩

end Cert.Proof

end
